-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_v50) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_args.lean ====
abbrev S8x2048x8x2x64 : Shape := ⟨5, ![8, 2048, 8, 2, 64]⟩
abbrev S8x2048x8x128 : Shape := ⟨4, ![8, 2048, 8, 128]⟩
abbrev S4x64 : Shape := ⟨2, ![4, 64]⟩
abbrev S128 : Shape := ⟨1, ![128]⟩
abbrev S_ : Shape := ⟨0, ![]⟩

class Facts : Prop where
  bcast_S_S8x2048x8x2x64 : S_.BroadcastsInDim S8x2048x8x2x64 (![] : Fin 0 → Fin S8x2048x8x2x64.rank)
  reducesTo_S8x2048x8x2x64_S_d0_1_2_3_4 : S8x2048x8x2x64.ReducesTo [0, 1, 2, 3, 4] S_
  h_S_ : 0 < S_.numel
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x2048x8x2x64 .f32) (main_arg1 : FVec F S8x2048x8x2x64 .f32) (main_arg2 : FVec F S8x2048x8x128 .f32) (main_arg3 : FVec F S4x64 .f32) (main_arg4 : FVec F S128 .f32) : IVec S_ 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_c : IVec S_ 1 := constantI S_ 1 1#1
  let main_v3 : IVec S_ 1 := (fun x v => Host.reduce IntOp.andi x v reducesTo_S8x2048x8x2x64_S_d0_1_2_3_4 h_S_) main_v2 main_c
  let main_v4 : FVec F S8x2048x8x2x64 .f32 := Host.absf main_arg1
  let main_cst_0 : FVec F S_ .f32 := constant S_ .f32 0x7F800000#32
  let main_v5 : FVec F S8x2048x8x2x64 .f32 := broadcastInDim S8x2048x8x2x64 ![] bcast_S_S8x2048x8x2x64 main_cst_0
  let main_v6 : IVec S8x2048x8x2x64 1 := cmpf .olt main_v4 main_v5
  let main_c_1 : IVec S_ 1 := constantI S_ 1 1#1
  let main_v7 : IVec S_ 1 := (fun x v => Host.reduce IntOp.andi x v reducesTo_S8x2048x8x2x64_S_d0_1_2_3_4 h_S_) main_v6 main_c_1
  let main_v8 : IVec S_ 1 := andi main_v3 main_v7
  let main_v9 : FVec F S8x2048x8x128 .f32 := Host.absf main_arg2
  let main_cst_2 : FVec F S_ .f32 := constant S_ .f32 0x7F800000#32
  let main_v10 : FVec F S8x2048x8x128 .f32 := broadcastInDim S8x2048x8x128 ![] bcast_S_S8x2048x8x128 main_cst_2
  let main_v11 : IVec S8x2048x8x128 1 := cmpf .olt main_v9 main_v10
  let main_c_3 : IVec S_ 1 := constantI S_ 1 1#1
  let main_v12 : IVec S_ 1 := (fun x v => Host.reduce IntOp.andi x v reducesTo_S8x2048x8x128_S_d0_1_2_3 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S8x2048x8x2x64 : Shape := ⟨5, ![8, 2048, 8, 2, 64]⟩
abbrev S8x2048x8x128 : Shape := ⟨4, ![8, 2048, 8, 128]⟩
abbrev S4x64 : Shape := ⟨2, ![4, 64]⟩
abbrev S128 : Shape := ⟨1, ![128]⟩
abbrev S8x8x2048x2x64 : Shape := ⟨5, ![8, 8, 2048, 2, 64]⟩
abbrev S8x16384x128 : Shape := ⟨3, ![8, 16384, 128]⟩
abbrev S8x8x256x8x128 : Shape := ⟨5, ![8, 8, 256, 8, 128]⟩
abbrev S8x8x8x128x256 : Shape := ⟨5, ![8, 8, 8, 128, 256]⟩
abbrev S_ : Shape := ⟨0, ![]⟩
abbrev S8x8x8x16x256 : Shape := ⟨5, ![8, 8, 8, 16, 256]⟩
abbrev S8x8x8x144x256 : Shape := ⟨5, ![8, 8, 8, 144, 256]⟩
abbrev S64x1152x256 : Shape := ⟨3, ![64, 1152, 256]⟩
abbrev S128x1 : Shape := ⟨2, ![128, 1]⟩
abbrev S8x2048x1024 : Shape := ⟨3, ![8, 2048, 1024]⟩
abbrev S8x2048x128 : Shape := ⟨3, ![8, 2048, 128]⟩
abbrev S8x1152x256 : Shape := ⟨3, ![8, 1152, 256]⟩
abbrev S1x2048x1024 : Shape := ⟨3, ![1, 2048, 1024]⟩
abbrev S2x8x128x512 : Shape := ⟨4, ![2, 8, 128, 512]⟩
abbrev S8x2x256x256 : Shape := ⟨4, ![8, 2, 256, 256]⟩
abbrev S8x2x1x256 : Shape := ⟨4, ![8, 2, 1, 256]⟩
abbrev S8x2x144x256 : Shape := ⟨4, ![8, 2, 144, 256]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S256x256 : Shape := ⟨2, ![256, 256]⟩
abbrev S1x256x128 : Shape := ⟨3, ![1, 256, 128]⟩
abbrev S256x128 : Shape := ⟨2, ![256, 128]⟩
abbrev S1x1x128x256 : Shape := ⟨4, ![1, 1, 128, 256]⟩
abbrev S1x1x128x512 : Shape := ⟨4, ![1, 1, 128, 512]⟩
abbrev S128x512 : Shape := ⟨2, ![128, 512]⟩
abbrev S256x512 : Shape := ⟨2, ![256, 512]⟩
abbrev S1x1x256x256 : Shape := ⟨4, ![1, 1, 256, 256]⟩
abbrev S1x144x256 : Shape := ⟨3, ![1, 144, 256]⟩
abbrev S144x256 : Shape := ⟨2, ![144, 256]⟩
abbrev S1x1x1x256 : Shape := ⟨4, ![1, 1, 1, 256]⟩
abbrev S1x256 : Shape := ⟨2, ![1, 256]⟩
abbrev S256 : Shape := ⟨1, ![256]⟩
abbrev S1x1x144x256 : Shape := ⟨4, ![1, 1, 144, 256]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S4x64, .f32⟩
  | .hbm, ⟨4, _⟩ => ⟨S128, .f32⟩
  | .hbm, ⟨5, _⟩ => ⟨S8x2048x8x2x64, .bf16⟩
  | .hbm, ⟨6, _⟩ => ⟨S8x8x2048x2x64, .bf16⟩
  | .hbm, ⟨7, _⟩ => ⟨S8x16384x128, .bf16⟩
  | .hbm, ⟨8, _⟩ => ⟨S8x2048x8x2x64, .bf16⟩
  | .hbm, ⟨9, _⟩ => ⟨S8x8x2048x2x64, .bf16⟩
  | .hbm, ⟨10, _⟩ => ⟨S8x16384x128, .bf16⟩
  | .hbm, ⟨11, _⟩ => ⟨S8x2048x8x128, .bf16⟩
  | .hbm, ⟨12, _⟩ => ⟨S8x8x256x8x128, .bf16⟩
  | .hbm, ⟨13, _⟩ => ⟨S8x8x8x128x256, .bf16⟩
  | .hbm, ⟨14, _⟩ => ⟨S_, .bf16⟩
  | .hbm, ⟨15, _⟩ => ⟨S8x8x8x16x256, .bf16⟩
  | .hbm, ⟨16, _⟩ => ⟨S8x8x8x144x256, .bf16⟩
  | .hbm, ⟨17, _⟩ => ⟨S64x1152x256, .bf16⟩
  | .hbm, ⟨18, _⟩ => ⟨S128x1, .f32⟩
  | .hbm, ⟨19, _⟩ => ⟨S8x2048x1024, .bf16⟩
  | .local _ .vmem, ⟨0, _⟩ => ⟨S8x2048x128, .bf16⟩
  | .local _ .vmem, ⟨1, _⟩ => ⟨S8x2048x128, .bf16⟩
  | .local _ .vmem, ⟨2, _⟩ => ⟨S8x2048x128, .bf16⟩
  | .local _ .vmem, ⟨3, _⟩ => ⟨S8x2048x128, .bf16⟩
  | .local _ .vmem, ⟨4, _⟩ => ⟨S8x1152x256, .bf16⟩
  | .local _ .vmem, ⟨5, _⟩ => ⟨S8x1152x256, .bf16⟩
  | .local _ .vmem, ⟨6, _⟩ => ⟨S4x64, .f32⟩
  | .local _ .vmem, ⟨7, _⟩ => ⟨S128x1, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2x8x128x512, .bf16⟩
  | .local _ .vmem, ⟨11, _⟩ => ⟨S8x2x256x256, .f32⟩
  | .local _ .vmem, ⟨12, _⟩ => ⟨S8x2x1x256, .f32⟩
  | .local _ .vmem, ⟨13, _⟩ => ⟨S8x2x144x256, .f32⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  c0_i32
def k0_mult2 : BitVec 32 :=
  let c0_i32_124 : BitVec 32 := 0#32
  c0_i32_124
def k0_mult3 : BitVec 32 :=
  let c0_i32_140 : BitVec 32 := 0#32
  c0_i32_140
def k0_mult4 : BitVec 32 :=
  let c0_i32_156 : BitVec 32 := 0#32
  c0_i32_156
def k0_mult5 : BitVec 32 :=
  let c0_i32_172 : BitVec 32 := 0#32
  c0_i32_172
def k0_mult6 : BitVec 32 :=
  let c0_i32_188 : BitVec 32 := 0#32
  c0_i32_188
def k0_mult7 : BitVec 32 :=
  let c0_i32_204 : BitVec 32 := 0#32
  c0_i32_204
def k0_mult8 : BitVec 32 :=
  let c0_i32_220 : BitVec 32 := 0#32
  c0_i32_220
def k0_mult9 : BitVec 32 :=
  let c0_i32_236 : BitVec 32 := 0#32
  c0_i32_236
@[reducible] def k0_t1_loop : Scf.Loop 32 :=
  let c0_i32_252 : BitVec 32 := 0#32
  let c8_i32 : BitVec 32 := 8#32
  let v332 : BitVec 32 := Scalar.addi c0_i32_252 c8_i32
  let c1_i32 : BitVec 32 := 1#32
  ⟨c0_i32_252, v332, c1_i32⟩
def k0_mult10 (k0_t1 : Fin k0_t1_loop.trips) : BitVec 32 :=
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  v333
@[reducible] def k0_t2_loop (k0_t1 : Fin k0_t1_loop.trips) : Scf.Loop 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_258 : BitVec 32 := 1#32
  ⟨c0_i32_256, v340, c1_i32_258⟩
def k0_off1 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1480 : Index := Scalar.indexCast arg13
  let c0_1073 : Index := 0#32
  let c0_1074 : Index := 0#32
  ![v1480.toNat, 0, 0]
def k0_mult11 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1075 : BitVec 32 := 256#32
  let v1483 : BitVec 32 := Scalar.muli v1479 c256_i32_1075
  v1483
def k0_off2 (k0_t1 : Fin k0_t1_loop.trips) (k0_t2 : Fin (k0_t2_loop k0_t1).trips) : Fin 3 → Nat :=
  let c0_1076 : Index := 0#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1075 : BitVec 32 := 256#32
  let v1483 : BitVec 32 := Scalar.muli v1479 c256_i32_1075
  let v1484 : BitVec 32 := v1483
  let v1485 : Index := Scalar.indexCast v1484
  let c0_1077 : Index := 0#32
  ![0, v1485.toNat, 0]
def k0_off3 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1488 : Index := Scalar.indexCast v335
  let c0_1078 : Index := 0#32
  let c0_1079 : Index := 0#32
  let c0_1080 : Index := 0#32
  ![v1488.toNat, 0, 0, 0]
def k0_off4 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1550 : Index := Scalar.indexCast arg13
  let c144_1134 : Index := 144#32
  let c0_1135 : Index := 0#32
  ![v1550.toNat, 144, 0]
def k0_mult12 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1136 : BitVec 32 := 256#32
  let v1553 : BitVec 32 := Scalar.muli v1479 c256_i32_1136
  v1553
def k0_off5 (k0_t1 : Fin k0_t1_loop.trips) (k0_t2 : Fin (k0_t2_loop k0_t1).trips) : Fin 3 → Nat :=
  let c1_1137 : Index := 1#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1136 : BitVec 32 := 256#32
  let v1553 : BitVec 32 := Scalar.muli v1479 c256_i32_1136
  let v1554 : BitVec 32 := v1553
  let v1555 : Index := Scalar.indexCast v1554
  let c0_1138 : Index := 0#32
  ![1, v1555.toNat, 0]
def k0_off6 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1558 : Index := Scalar.indexCast v335
  let c1_1139 : Index := 1#32
  let c0_1140 : Index := 0#32
  let c0_1141 : Index := 0#32
  ![v1558.toNat, 1, 0, 0]
def k0_off7 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1620 : Index := Scalar.indexCast arg13
  let c288_1195 : Index := 288#32
  let c0_1196 : Index := 0#32
  ![v1620.toNat, 288, 0]
def k0_mult13 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1197 : BitVec 32 := 256#32
  let v1623 : BitVec 32 := Scalar.muli v1479 c256_i32_1197
  v1623
def k0_off8 (k0_t1 : Fin k0_t1_loop.trips) (k0_t2 : Fin (k0_t2_loop k0_t1).trips) : Fin 3 → Nat :=
  let c2_1198 : Index := 2#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1197 : BitVec 32 := 256#32
  let v1623 : BitVec 32 := Scalar.muli v1479 c256_i32_1197
  let v1624 : BitVec 32 := v1623
  let v1625 : Index := Scalar.indexCast v1624
  let c0_1199 : Index := 0#32
  ![2, v1625.toNat, 0]
def k0_off9 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1628 : Index := Scalar.indexCast v335
  let c2_1200 : Index := 2#32
  let c0_1201 : Index := 0#32
  let c0_1202 : Index := 0#32
  ![v1628.toNat, 2, 0, 0]
def k0_off10 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1690 : Index := Scalar.indexCast arg13
  let c432_1256 : Index := 432#32
  let c0_1257 : Index := 0#32
  ![v1690.toNat, 432, 0]
def k0_mult14 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1258 : BitVec 32 := 256#32
  let v1693 : BitVec 32 := Scalar.muli v1479 c256_i32_1258
  v1693
def k0_off11 (k0_t1 : Fin k0_t1_loop.trips) (k0_t2 : Fin (k0_t2_loop k0_t1).trips) : Fin 3 → Nat :=
  let c3_1259 : Index := 3#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1258 : BitVec 32 := 256#32
  let v1693 : BitVec 32 := Scalar.muli v1479 c256_i32_1258
  let v1694 : BitVec 32 := v1693
  let v1695 : Index := Scalar.indexCast v1694
  let c0_1260 : Index := 0#32
  ![3, v1695.toNat, 0]
def k0_off12 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1698 : Index := Scalar.indexCast v335
  let c3_1261 : Index := 3#32
  let c0_1262 : Index := 0#32
  let c0_1263 : Index := 0#32
  ![v1698.toNat, 3, 0, 0]
def k0_off13 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1760 : Index := Scalar.indexCast arg13
  let c576_1317 : Index := 576#32
  let c0_1318 : Index := 0#32
  ![v1760.toNat, 576, 0]
def k0_mult15 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1319 : BitVec 32 := 256#32
  let v1763 : BitVec 32 := Scalar.muli v1479 c256_i32_1319
  v1763
def k0_off14 (k0_t1 : Fin k0_t1_loop.trips) (k0_t2 : Fin (k0_t2_loop k0_t1).trips) : Fin 3 → Nat :=
  let c4_1320 : Index := 4#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1319 : BitVec 32 := 256#32
  let v1763 : BitVec 32 := Scalar.muli v1479 c256_i32_1319
  let v1764 : BitVec 32 := v1763
  let v1765 : Index := Scalar.indexCast v1764
  let c0_1321 : Index := 0#32
  ![4, v1765.toNat, 0]
def k0_off15 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1768 : Index := Scalar.indexCast v335
  let c4_1322 : Index := 4#32
  let c0_1323 : Index := 0#32
  let c0_1324 : Index := 0#32
  ![v1768.toNat, 4, 0, 0]
def k0_off16 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1830 : Index := Scalar.indexCast arg13
  let c720_1378 : Index := 720#32
  let c0_1379 : Index := 0#32
  ![v1830.toNat, 720, 0]
def k0_mult16 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1380 : BitVec 32 := 256#32
  let v1833 : BitVec 32 := Scalar.muli v1479 c256_i32_1380
  v1833
def k0_off17 (k0_t1 : Fin k0_t1_loop.trips) (k0_t2 : Fin (k0_t2_loop k0_t1).trips) : Fin 3 → Nat :=
  let c5_1381 : Index := 5#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1380 : BitVec 32 := 256#32
  let v1833 : BitVec 32 := Scalar.muli v1479 c256_i32_1380
  let v1834 : BitVec 32 := v1833
  let v1835 : Index := Scalar.indexCast v1834
  let c0_1382 : Index := 0#32
  ![5, v1835.toNat, 0]
def k0_off18 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1838 : Index := Scalar.indexCast v335
  let c5_1383 : Index := 5#32
  let c0_1384 : Index := 0#32
  let c0_1385 : Index := 0#32
  ![v1838.toNat, 5, 0, 0]
def k0_off19 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1900 : Index := Scalar.indexCast arg13
  let c864_1439 : Index := 864#32
  let c0_1440 : Index := 0#32
  ![v1900.toNat, 864, 0]
def k0_mult17 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1441 : BitVec 32 := 256#32
  let v1903 : BitVec 32 := Scalar.muli v1479 c256_i32_1441
  v1903
def k0_off20 (k0_t1 : Fin k0_t1_loop.trips) (k0_t2 : Fin (k0_t2_loop k0_t1).trips) : Fin 3 → Nat :=
  let c6_1442 : Index := 6#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1441 : BitVec 32 := 256#32
  let v1903 : BitVec 32 := Scalar.muli v1479 c256_i32_1441
  let v1904 : BitVec 32 := v1903
  let v1905 : Index := Scalar.indexCast v1904
  let c0_1443 : Index := 0#32
  ![6, v1905.toNat, 0]
def k0_off21 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1908 : Index := Scalar.indexCast v335
  let c6_1444 : Index := 6#32
  let c0_1445 : Index := 0#32
  let c0_1446 : Index := 0#32
  ![v1908.toNat, 6, 0, 0]
def k0_off22 (k0_t1 : Fin k0_t1_loop.trips) (k0_t2 : Fin (k0_t2_loop k0_t1).trips) : Fin 3 → Nat :=
  let c0_i32_256 : BitVec 32 := 0#32
  let c1_i32_258 : BitVec 32 := 1#32
  let arg13 : BitVec 32 := Scf.iv c0_i32_256 c1_i32_258 k0_t2
  let v1970 : Index := Scalar.indexCast arg13
  let c1008_1500 : Index := 1008#32
  let c0_1501 : Index := 0#32
  ![v1970.toNat, 1008, 0]
def k0_mult18 (k0_t1 : Fin k0_t1_loop.trips) (k0_t2 : Fin (k0_t2_loop k0_t1).trips) : BitVec 32 :=
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1502 : BitVec 32 := 256#32
  let v1973 : BitVec 32 := Scalar.muli v1479 c256_i32_1502
  v1973
def k0_off23 (k0_t1 : Fin k0_t1_loop.trips) (k0_t2 : Fin (k0_t2_loop k0_t1).trips) : Fin 3 → Nat :=
  let c7_1503 : Index := 7#32
  let c0_i32_256 : BitVec 32 := 0#32
  let c1_i32_258 : BitVec 32 := 1#32
  let arg13 : BitVec 32 := Scf.iv c0_i32_256 c1_i32_258 k0_t2
  let c1_i32_1072 : BitVec 32 := 1#32
  let v1479 : BitVec 32 := Scalar.addi arg13 c1_i32_1072
  let c256_i32_1502 : BitVec 32 := 256#32
  let v1973 : BitVec 32 := Scalar.muli v1479 c256_i32_1502
  let v1974 : BitVec 32 := v1973
  let v1975 : Index := Scalar.indexCast v1974
  let c0_1504 : Index := 0#32
  ![7, v1975.toNat, 0]
def k0_off24 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1978 : Index := Scalar.indexCast v335
  let c7_1505 : Index := 7#32
  let c0_1506 : Index := 0#32
  let c0_1507 : Index := 0#32
  ![v1978.toNat, 7, 0, 0]
@[reducible] def k0_t3_loop (k0_t1 : Fin k0_t1_loop.trips) : Scf.Loop 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let v337 : BitVec 32 := Scalar.addi c0_i32_256 v336
  let c1_i32_259 : BitVec 32 := 1#32
  ⟨v340, v337, c1_i32_259⟩
def k0_off25 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1480 : Index := Scalar.indexCast arg13
  let c0_1073 : Index := 0#32
  let c0_1074 : Index := 0#32
  ![v1480.toNat, 0, 0]
def k0_mult19 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1075 : BitVec 32 := 256#32
  let v1483 : BitVec 32 := Scalar.muli v1479 c256_i32_1075
  v1483
def k0_off26 (k0_t1 : Fin k0_t1_loop.trips) (k0_t3 : Fin (k0_t3_loop k0_t1).trips) : Fin 3 → Nat :=
  let c0_1076 : Index := 0#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1075 : BitVec 32 := 256#32
  let v1483 : BitVec 32 := Scalar.muli v1479 c256_i32_1075
  let v1484 : BitVec 32 := v1483
  let v1485 : Index := Scalar.indexCast v1484
  let c0_1077 : Index := 0#32
  ![0, v1485.toNat, 0]
def k0_off27 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1488 : Index := Scalar.indexCast v335
  let c0_1078 : Index := 0#32
  let c0_1079 : Index := 0#32
  let c0_1080 : Index := 0#32
  ![v1488.toNat, 0, 0, 0]
def k0_off28 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1550 : Index := Scalar.indexCast arg13
  let c144_1134 : Index := 144#32
  let c0_1135 : Index := 0#32
  ![v1550.toNat, 144, 0]
def k0_mult20 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1136 : BitVec 32 := 256#32
  let v1553 : BitVec 32 := Scalar.muli v1479 c256_i32_1136
  v1553
def k0_off29 (k0_t1 : Fin k0_t1_loop.trips) (k0_t3 : Fin (k0_t3_loop k0_t1).trips) : Fin 3 → Nat :=
  let c1_1137 : Index := 1#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1136 : BitVec 32 := 256#32
  let v1553 : BitVec 32 := Scalar.muli v1479 c256_i32_1136
  let v1554 : BitVec 32 := v1553
  let v1555 : Index := Scalar.indexCast v1554
  let c0_1138 : Index := 0#32
  ![1, v1555.toNat, 0]
def k0_off30 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1558 : Index := Scalar.indexCast v335
  let c1_1139 : Index := 1#32
  let c0_1140 : Index := 0#32
  let c0_1141 : Index := 0#32
  ![v1558.toNat, 1, 0, 0]
def k0_off31 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1620 : Index := Scalar.indexCast arg13
  let c288_1195 : Index := 288#32
  let c0_1196 : Index := 0#32
  ![v1620.toNat, 288, 0]
def k0_mult21 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1197 : BitVec 32 := 256#32
  let v1623 : BitVec 32 := Scalar.muli v1479 c256_i32_1197
  v1623
def k0_off32 (k0_t1 : Fin k0_t1_loop.trips) (k0_t3 : Fin (k0_t3_loop k0_t1).trips) : Fin 3 → Nat :=
  let c2_1198 : Index := 2#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1197 : BitVec 32 := 256#32
  let v1623 : BitVec 32 := Scalar.muli v1479 c256_i32_1197
  let v1624 : BitVec 32 := v1623
  let v1625 : Index := Scalar.indexCast v1624
  let c0_1199 : Index := 0#32
  ![2, v1625.toNat, 0]
def k0_off33 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1628 : Index := Scalar.indexCast v335
  let c2_1200 : Index := 2#32
  let c0_1201 : Index := 0#32
  let c0_1202 : Index := 0#32
  ![v1628.toNat, 2, 0, 0]
def k0_off34 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1690 : Index := Scalar.indexCast arg13
  let c432_1256 : Index := 432#32
  let c0_1257 : Index := 0#32
  ![v1690.toNat, 432, 0]
def k0_mult22 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1258 : BitVec 32 := 256#32
  let v1693 : BitVec 32 := Scalar.muli v1479 c256_i32_1258
  v1693
def k0_off35 (k0_t1 : Fin k0_t1_loop.trips) (k0_t3 : Fin (k0_t3_loop k0_t1).trips) : Fin 3 → Nat :=
  let c3_1259 : Index := 3#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1258 : BitVec 32 := 256#32
  let v1693 : BitVec 32 := Scalar.muli v1479 c256_i32_1258
  let v1694 : BitVec 32 := v1693
  let v1695 : Index := Scalar.indexCast v1694
  let c0_1260 : Index := 0#32
  ![3, v1695.toNat, 0]
def k0_off36 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1698 : Index := Scalar.indexCast v335
  let c3_1261 : Index := 3#32
  let c0_1262 : Index := 0#32
  let c0_1263 : Index := 0#32
  ![v1698.toNat, 3, 0, 0]
def k0_off37 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1760 : Index := Scalar.indexCast arg13
  let c576_1317 : Index := 576#32
  let c0_1318 : Index := 0#32
  ![v1760.toNat, 576, 0]
def k0_mult23 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1319 : BitVec 32 := 256#32
  let v1763 : BitVec 32 := Scalar.muli v1479 c256_i32_1319
  v1763
def k0_off38 (k0_t1 : Fin k0_t1_loop.trips) (k0_t3 : Fin (k0_t3_loop k0_t1).trips) : Fin 3 → Nat :=
  let c4_1320 : Index := 4#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1319 : BitVec 32 := 256#32
  let v1763 : BitVec 32 := Scalar.muli v1479 c256_i32_1319
  let v1764 : BitVec 32 := v1763
  let v1765 : Index := Scalar.indexCast v1764
  let c0_1321 : Index := 0#32
  ![4, v1765.toNat, 0]
def k0_off39 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1768 : Index := Scalar.indexCast v335
  let c4_1322 : Index := 4#32
  let c0_1323 : Index := 0#32
  let c0_1324 : Index := 0#32
  ![v1768.toNat, 4, 0, 0]
def k0_off40 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1830 : Index := Scalar.indexCast arg13
  let c720_1378 : Index := 720#32
  let c0_1379 : Index := 0#32
  ![v1830.toNat, 720, 0]
def k0_mult24 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1380 : BitVec 32 := 256#32
  let v1833 : BitVec 32 := Scalar.muli v1479 c256_i32_1380
  v1833
def k0_off41 (k0_t1 : Fin k0_t1_loop.trips) (k0_t3 : Fin (k0_t3_loop k0_t1).trips) : Fin 3 → Nat :=
  let c5_1381 : Index := 5#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1380 : BitVec 32 := 256#32
  let v1833 : BitVec 32 := Scalar.muli v1479 c256_i32_1380
  let v1834 : BitVec 32 := v1833
  let v1835 : Index := Scalar.indexCast v1834
  let c0_1382 : Index := 0#32
  ![5, v1835.toNat, 0]
def k0_off42 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1838 : Index := Scalar.indexCast v335
  let c5_1383 : Index := 5#32
  let c0_1384 : Index := 0#32
  let c0_1385 : Index := 0#32
  ![v1838.toNat, 5, 0, 0]
def k0_off43 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1900 : Index := Scalar.indexCast arg13
  let c864_1439 : Index := 864#32
  let c0_1440 : Index := 0#32
  ![v1900.toNat, 864, 0]
def k0_mult25 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1441 : BitVec 32 := 256#32
  let v1903 : BitVec 32 := Scalar.muli v1479 c256_i32_1441
  v1903
def k0_off44 (k0_t1 : Fin k0_t1_loop.trips) (k0_t3 : Fin (k0_t3_loop k0_t1).trips) : Fin 3 → Nat :=
  let c6_1442 : Index := 6#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1441 : BitVec 32 := 256#32
  let v1903 : BitVec 32 := Scalar.muli v1479 c256_i32_1441
  let v1904 : BitVec 32 := v1903
  let v1905 : Index := Scalar.indexCast v1904
  let c0_1443 : Index := 0#32
  ![6, v1905.toNat, 0]
def k0_off45 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1908 : Index := Scalar.indexCast v335
  let c6_1444 : Index := 6#32
  let c0_1445 : Index := 0#32
  let c0_1446 : Index := 0#32
  ![v1908.toNat, 6, 0, 0]
def k0_off46 (k0_t1 : Fin k0_t1_loop.trips) (k0_t3 : Fin (k0_t3_loop k0_t1).trips) : Fin 3 → Nat :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let v1970 : Index := Scalar.indexCast arg13
  let c1008_1500 : Index := 1008#32
  let c0_1501 : Index := 0#32
  ![v1970.toNat, 1008, 0]
def k0_mult26 (k0_t1 : Fin k0_t1_loop.trips) (k0_t3 : Fin (k0_t3_loop k0_t1).trips) : BitVec 32 :=
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1502 : BitVec 32 := 256#32
  let v1973 : BitVec 32 := Scalar.muli v1479 c256_i32_1502
  v1973
def k0_off47 (k0_t1 : Fin k0_t1_loop.trips) (k0_t3 : Fin (k0_t3_loop k0_t1).trips) : Fin 3 → Nat :=
  let c7_1503 : Index := 7#32
  let c0_i32_256 : BitVec 32 := 0#32
  let c0_i32_252 : BitVec 32 := 0#32
  let c1_i32 : BitVec 32 := 1#32
  let arg12 : BitVec 32 := Scf.iv c0_i32_252 c1_i32 k0_t1
  let v336 : BitVec 32 := Scalar.subi arg12 c0_i32_256
  let c1_i32_257 : BitVec 32 := 1#32
  let v338 : BitVec 32 := Scalar.divsi v336 c1_i32_257
  let v339 : BitVec 32 := Scalar.muli v338 c1_i32_257
  let v340 : BitVec 32 := Scalar.addi c0_i32_256 v339
  let c1_i32_259 : BitVec 32 := 1#32
  let arg13 : BitVec 32 := Scf.iv v340 c1_i32_259 k0_t3
  let c1_i32_1072 : BitVec 32 := 1#32
  let v1479 : BitVec 32 := Scalar.addi arg13 c1_i32_1072
  let c256_i32_1502 : BitVec 32 := 256#32
  let v1973 : BitVec 32 := Scalar.muli v1479 c256_i32_1502
  let v1974 : BitVec 32 := v1973
  let v1975 : Index := Scalar.indexCast v1974
  let c0_1504 : Index := 0#32
  ![7, v1975.toNat, 0]
def k0_off48 (k0_t1 : Fin k0_t1_loop.trips) : Fin 4 → Nat :=
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v1978 : Index := Scalar.indexCast v335
  let c7_1505 : Index := 7#32
  let c0_1506 : Index := 0#32
  let c0_1507 : Index := 0#32
  ![v1978.toNat, 7, 0, 0]
def k0_mult27 (k0_t1 : Fin k0_t1_loop.trips) : BitVec 32 :=
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  v344
def k0_off49 (k0_t1 : Fin k0_t1_loop.trips) : Fin 3 → Nat :=
  let c0_263 : Index := 0#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v346 : Index := Scalar.indexCast v345
  let c0_264 : Index := 0#32
  ![0, v346.toNat, 0]
def k0_off50 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v358 : Index := Scalar.indexCast v343
  let c0_268 : Index := 0#32
  let c0_269 : Index := 0#32
  let c0_270 : Index := 0#32
  ![v358.toNat, 0, 0, 0]
def k0_off51 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v367 : Index := Scalar.indexCast v343
  let c0_273 : Index := 0#32
  let c0_274 : Index := 0#32
  let c256_275 : Index := 256#32
  ![v367.toNat, 0, 0, 256]
def k0_off52 (k0_t1 : Fin k0_t1_loop.trips) : Fin 3 → Nat :=
  let c1_276 : Index := 1#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v371 : Index := Scalar.indexCast v345
  let c0_277 : Index := 0#32
  ![1, v371.toNat, 0]
def k0_off53 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v383 : Index := Scalar.indexCast v343
  let c1_281 : Index := 1#32
  let c0_282 : Index := 0#32
  let c0_283 : Index := 0#32
  ![v383.toNat, 1, 0, 0]
def k0_off54 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v392 : Index := Scalar.indexCast v343
  let c1_286 : Index := 1#32
  let c0_287 : Index := 0#32
  let c256_288 : Index := 256#32
  ![v392.toNat, 1, 0, 256]
def k0_off55 (k0_t1 : Fin k0_t1_loop.trips) : Fin 3 → Nat :=
  let c2_289 : Index := 2#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v396 : Index := Scalar.indexCast v345
  let c0_290 : Index := 0#32
  ![2, v396.toNat, 0]
def k0_off56 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v408 : Index := Scalar.indexCast v343
  let c2_294 : Index := 2#32
  let c0_295 : Index := 0#32
  let c0_296 : Index := 0#32
  ![v408.toNat, 2, 0, 0]
def k0_off57 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v417 : Index := Scalar.indexCast v343
  let c2_299 : Index := 2#32
  let c0_300 : Index := 0#32
  let c256_301 : Index := 256#32
  ![v417.toNat, 2, 0, 256]
def k0_off58 (k0_t1 : Fin k0_t1_loop.trips) : Fin 3 → Nat :=
  let c3_302 : Index := 3#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v421 : Index := Scalar.indexCast v345
  let c0_303 : Index := 0#32
  ![3, v421.toNat, 0]
def k0_off59 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v433 : Index := Scalar.indexCast v343
  let c3_307 : Index := 3#32
  let c0_308 : Index := 0#32
  let c0_309 : Index := 0#32
  ![v433.toNat, 3, 0, 0]
def k0_off60 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v442 : Index := Scalar.indexCast v343
  let c3_312 : Index := 3#32
  let c0_313 : Index := 0#32
  let c256_314 : Index := 256#32
  ![v442.toNat, 3, 0, 256]
def k0_off61 (k0_t1 : Fin k0_t1_loop.trips) : Fin 3 → Nat :=
  let c4_315 : Index := 4#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v446 : Index := Scalar.indexCast v345
  let c0_316 : Index := 0#32
  ![4, v446.toNat, 0]
def k0_off62 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v458 : Index := Scalar.indexCast v343
  let c4_320 : Index := 4#32
  let c0_321 : Index := 0#32
  let c0_322 : Index := 0#32
  ![v458.toNat, 4, 0, 0]
def k0_off63 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v467 : Index := Scalar.indexCast v343
  let c4_325 : Index := 4#32
  let c0_326 : Index := 0#32
  let c256_327 : Index := 256#32
  ![v467.toNat, 4, 0, 256]
def k0_off64 (k0_t1 : Fin k0_t1_loop.trips) : Fin 3 → Nat :=
  let c5_328 : Index := 5#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v471 : Index := Scalar.indexCast v345
  let c0_329 : Index := 0#32
  ![5, v471.toNat, 0]
def k0_off65 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v483 : Index := Scalar.indexCast v343
  let c5_333 : Index := 5#32
  let c0_334 : Index := 0#32
  let c0_335 : Index := 0#32
  ![v483.toNat, 5, 0, 0]
def k0_off66 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v492 : Index := Scalar.indexCast v343
  let c5_338 : Index := 5#32
  let c0_339 : Index := 0#32
  let c256_340 : Index := 256#32
  ![v492.toNat, 5, 0, 256]
def k0_off67 (k0_t1 : Fin k0_t1_loop.trips) : Fin 3 → Nat :=
  let c6_341 : Index := 6#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v496 : Index := Scalar.indexCast v345
  let c0_342 : Index := 0#32
  ![6, v496.toNat, 0]
def k0_off68 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v508 : Index := Scalar.indexCast v343
  let c6_346 : Index := 6#32
  let c0_347 : Index := 0#32
  let c0_348 : Index := 0#32
  ![v508.toNat, 6, 0, 0]
def k0_off69 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v517 : Index := Scalar.indexCast v343
  let c6_351 : Index := 6#32
  let c0_352 : Index := 0#32
  let c256_353 : Index := 256#32
  ![v517.toNat, 6, 0, 256]
def k0_off70 (k0_t1 : Fin k0_t1_loop.trips) : Fin 3 → Nat :=
  let c7_354 : Index := 7#32
  let c0_i32_252 : BitVec 32 := 0#32
  let c1_i32 : BitVec 32 := 1#32
  let arg12 : BitVec 32 := Scf.iv c0_i32_252 c1_i32 k0_t1
  let c1_i32_260 : BitVec 32 := 1#32
  let v341 : BitVec 32 := Scalar.addi arg12 c1_i32_260
  let c7_i32 : BitVec 32 := 7#32
  let v342 : BitVec 32 := Scalar.minsi v341 c7_i32
  let c256_i32_262 : BitVec 32 := 256#32
  let v344 : BitVec 32 := Scalar.muli v342 c256_i32_262
  let v345 : BitVec 32 := v344
  let v521 : Index := Scalar.indexCast v345
  let c0_355 : Index := 0#32
  ![7, v521.toNat, 0]
def k0_off71 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v533 : Index := Scalar.indexCast v343
  let c7_359 : Index := 7#32
  let c0_360 : Index := 0#32
  let c0_361 : Index := 0#32
  ![v533.toNat, 7, 0, 0]
def k0_off72 (k0_t1 : Fin k0_t1_loop.trips) : Fin 4 → Nat :=
  let c1_i32_261 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v343 : BitVec 32 := Scalar.subi c1_i32_261 v335
  let v542 : Index := Scalar.indexCast v343
  let c7_364 : Index := 7#32
  let c0_365 : Index := 0#32
  let c256_366 : Index := 256#32
  ![v542.toNat, 7, 0, 256]
def k0_off73 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v547 : Index := Scalar.indexCast arg12
  let c0_368 : Index := 0#32
  let c0_369 : Index := 0#32
  ![v547.toNat, 0, 0]
def k0_mult28 : BitVec 32 :=
  let c0_i32_370 : BitVec 32 := 0#32
  c0_i32_370
def k0_off74 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v554 : Index := Scalar.indexCast v546
  let c0_373 : Index := 0#32
  let c0_374 : Index := 0#32
  let c0_375 : Index := 0#32
  ![v554.toNat, 0, 0, 0]
def k0_off75 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v622 : Index := Scalar.indexCast arg12
  let c144 : Index := 144#32
  let c0_431 : Index := 0#32
  ![v622.toNat, 144, 0]
def k0_mult29 : BitVec 32 :=
  let c0_i32_432 : BitVec 32 := 0#32
  c0_i32_432
def k0_off76 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v629 : Index := Scalar.indexCast v546
  let c1_435 : Index := 1#32
  let c0_436 : Index := 0#32
  let c0_437 : Index := 0#32
  ![v629.toNat, 1, 0, 0]
def k0_off77 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v697 : Index := Scalar.indexCast arg12
  let c288 : Index := 288#32
  let c0_493 : Index := 0#32
  ![v697.toNat, 288, 0]
def k0_mult30 : BitVec 32 :=
  let c0_i32_494 : BitVec 32 := 0#32
  c0_i32_494
def k0_off78 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v704 : Index := Scalar.indexCast v546
  let c2_497 : Index := 2#32
  let c0_498 : Index := 0#32
  let c0_499 : Index := 0#32
  ![v704.toNat, 2, 0, 0]
def k0_off79 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v772 : Index := Scalar.indexCast arg12
  let c432 : Index := 432#32
  let c0_555 : Index := 0#32
  ![v772.toNat, 432, 0]
def k0_mult31 : BitVec 32 :=
  let c0_i32_556 : BitVec 32 := 0#32
  c0_i32_556
def k0_off80 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v779 : Index := Scalar.indexCast v546
  let c3_559 : Index := 3#32
  let c0_560 : Index := 0#32
  let c0_561 : Index := 0#32
  ![v779.toNat, 3, 0, 0]
def k0_off81 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v847 : Index := Scalar.indexCast arg12
  let c576 : Index := 576#32
  let c0_617 : Index := 0#32
  ![v847.toNat, 576, 0]
def k0_mult32 : BitVec 32 :=
  let c0_i32_618 : BitVec 32 := 0#32
  c0_i32_618
def k0_off82 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v854 : Index := Scalar.indexCast v546
  let c4_621 : Index := 4#32
  let c0_622 : Index := 0#32
  let c0_623 : Index := 0#32
  ![v854.toNat, 4, 0, 0]
def k0_off83 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v922 : Index := Scalar.indexCast arg12
  let c720 : Index := 720#32
  let c0_679 : Index := 0#32
  ![v922.toNat, 720, 0]
def k0_mult33 : BitVec 32 :=
  let c0_i32_680 : BitVec 32 := 0#32
  c0_i32_680
def k0_off84 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v929 : Index := Scalar.indexCast v546
  let c5_683 : Index := 5#32
  let c0_684 : Index := 0#32
  let c0_685 : Index := 0#32
  ![v929.toNat, 5, 0, 0]
def k0_off85 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v997 : Index := Scalar.indexCast arg12
  let c864 : Index := 864#32
  let c0_741 : Index := 0#32
  ![v997.toNat, 864, 0]
def k0_mult34 : BitVec 32 :=
  let c0_i32_742 : BitVec 32 := 0#32
  c0_i32_742
def k0_off86 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v1004 : Index := Scalar.indexCast v546
  let c6_745 : Index := 6#32
  let c0_746 : Index := 0#32
  let c0_747 : Index := 0#32
  ![v1004.toNat, 6, 0, 0]
def k0_off87 (k0_t1 : Fin k0_t1_loop.trips) : Fin 3 → Nat :=
  let c0_i32_252 : BitVec 32 := 0#32
  let c1_i32 : BitVec 32 := 1#32
  let arg12 : BitVec 32 := Scf.iv c0_i32_252 c1_i32 k0_t1
  let v1072 : Index := Scalar.indexCast arg12
  let c1008 : Index := 1008#32
  let c0_803 : Index := 0#32
  ![v1072.toNat, 1008, 0]
def k0_mult35 : BitVec 32 :=
  let c0_i32_804 : BitVec 32 := 0#32
  c0_i32_804
def k0_off88 (k0_t1 : Fin k0_t1_loop.trips) : Fin 4 → Nat :=
  let c1_i32_367 : BitVec 32 := 1#32
  let c0_i32_252 : BitVec 32 := 0#32
  let c1_i32 : BitVec 32 := 1#32
  let arg12 : BitVec 32 := Scf.iv c0_i32_252 c1_i32 k0_t1
  let c1_i32_254 : BitVec 32 := 1#32
  let v335 : BitVec 32 := Scalar.andi arg12 c1_i32_254
  let v546 : BitVec 32 := Scalar.subi c1_i32_367 v335
  let v1079 : Index := Scalar.indexCast v546
  let c7_807 : Index := 7#32
  let c0_808 : Index := 0#32
  let c0_809 : Index := 0#32
  ![v1079.toNat, 7, 0, 0]
def k0_off89 (k0_t1 : Fin k0_t1_loop.trips) : Fin 3 → Nat :=
  let c0_888 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1184 : Index := Scalar.indexCast v334
  let c0_889 : Index := 0#32
  ![0, v1184.toNat, 0]
def k0_off90 (k0_t1 : Fin k0_t1_loop.trips) : Fin 3 → Nat :=
  let c0_914 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1225 : Index := Scalar.indexCast v334
  let c128_915 : Index := 128#32
  ![0, v1225.toNat, 128]
def k0_off91 (k0_t1 : Fin k0_t1_loop.trips) : Fin 3 → Nat :=
  let c0_940 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1266 : Index := Scalar.indexCast v334
  let c256_941 : Index := 256#32
  ![0, v1266.toNat, 256]
def k0_off92 (k0_t1 : Fin k0_t1_loop.trips) : Fin 3 → Nat :=
  let c0_966 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1307 : Index := Scalar.indexCast v334
  let c384 : Index := 384#32
  ![0, v1307.toNat, 384]
def k0_off93 (k0_t1 : Fin k0_t1_loop.trips) : Fin 3 → Nat :=
  let c0_991 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1348 : Index := Scalar.indexCast v334
  let c512 : Index := 512#32
  ![0, v1348.toNat, 512]
def k0_off94 (k0_t1 : Fin k0_t1_loop.trips) : Fin 3 → Nat :=
  let c0_1016 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1389 : Index := Scalar.indexCast v334
  let c640 : Index := 640#32
  ![0, v1389.toNat, 640]
def k0_off95 (k0_t1 : Fin k0_t1_loop.trips) : Fin 3 → Nat :=
  let c0_1041 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1430 : Index := Scalar.indexCast v334
  let c768 : Index := 768#32
  ![0, v1430.toNat, 768]
def k0_off96 (k0_t1 : Fin k0_t1_loop.trips) : Fin 3 → Nat :=
  let c0_1066 : Index := 0#32
  let c0_i32_252 : BitVec 32 := 0#32
  let c1_i32 : BitVec 32 := 1#32
  let arg12 : BitVec 32 := Scf.iv c0_i32_252 c1_i32 k0_t1
  let c256_i32 : BitVec 32 := 256#32
  let v333 : BitVec 32 := Scalar.muli arg12 c256_i32
  let v334 : BitVec 32 := v333
  let v1471 : Index := Scalar.indexCast v334
  let c896 : Index := 896#32
  ![0, v1471.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1152x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "mask" => some ⊥
  | "q_scale" => some (((8 * (Real.log 2))⁻¹ : ℝ) : EReal)
  | _ => none
-- ==== ReferenceIdeal.lean ====
abbrev S8x2048x8x2x64 : Shape := ⟨5, ![8, 2048, 8, 2, 64]⟩
abbrev S8x2048x8x128 : Shape := ⟨4, ![8, 2048, 8, 128]⟩
abbrev S4x64 : Shape := ⟨2, ![4, 64]⟩
abbrev S128 : Shape := ⟨1, ![128]⟩
abbrev S_ : Shape := ⟨0, ![]⟩
abbrev S8x8x2x2048x64 : Shape := ⟨5, ![8, 8, 2, 2048, 64]⟩
abbrev S8x8x2048x128 : Shape := ⟨4, ![8, 8, 2048, 128]⟩
abbrev S1x64 : Shape := ⟨2, ![1, 64]⟩
abbrev S64 : Shape := ⟨1, ![64]⟩
abbrev S8x8x2x2048x2048 : Shape := ⟨5, ![8, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S1x1x1x128 : Shape := ⟨4, ![1, 1, 1, 128]⟩
abbrev S8x2048x1024 : Shape := ⟨3, ![8, 2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S8x2048x8x2x64, .f32⟩
  | .hbm, ⟨7, _⟩ => ⟨S8x2048x8x2x64, .f32⟩
  | .hbm, ⟨8, _⟩ => ⟨S8x8x2x2048x64, .f32⟩
  | .hbm, ⟨9, _⟩ => ⟨S8x8x2x2048x64, .f32⟩
  | .hbm, ⟨10, _⟩ => ⟨S8x8x2048x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x8x2x2048x2048, .f32⟩
  | .hbm, ⟨31, _⟩ => ⟨S2048, .i32⟩
  | .hbm, ⟨32, _⟩ => ⟨S1x2048, .i32⟩
  | .hbm, ⟨33, _⟩ => ⟨S2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x8x2x2048x2048, .i1⟩
  | .hbm, ⟨41, _⟩ => ⟨S8x8x2x2048x2048, .f32⟩
  | .hbm, ⟨42, _⟩ => ⟨S8x8x2x2048x2048, .f32⟩
  | .hbm, ⟨43, _⟩ => ⟨S_, .f32⟩
  | .hbm, ⟨44, _⟩ => ⟨S8x8x2x2048, .f32⟩
  | .hbm, ⟨45, _⟩ => ⟨S_, .f32⟩
  | .hbm, ⟨46, _⟩ => ⟨S8x8x2x2048, .f32⟩
  | .hbm, ⟨47, _⟩ => ⟨S8x8x2x2048, .f32⟩
  | .hbm, ⟨48, _⟩ => ⟨S8x8x2x2048x1, .f32⟩
  | .hbm, ⟨49, _⟩ => ⟨S8x8x2x2048x2048, .f32⟩
  | .hbm, ⟨50, _⟩ => ⟨S8x8x2x2048x2048, .f32⟩
  | .hbm, ⟨51, _⟩ => ⟨S8x8x2x2048x2048, .f32⟩
  | .hbm, ⟨52, _⟩ => ⟨S_, .f32⟩
  | .hbm, ⟨53, _⟩ => ⟨S8x8x2x2048, .f32⟩
  | .hbm, ⟨54, _⟩ => ⟨S8x8x2x2048x1, .f32⟩
  | .hbm, ⟨55, _⟩ => ⟨S8x8x2x2048x2048, .f32⟩
  | .hbm, ⟨56, _⟩ => ⟨S8x8x2x2048x2048, .f32⟩
  | .hbm, ⟨57, _⟩ => ⟨S8x8x1x2048x2048, .f32⟩
  | .hbm, ⟨58, _⟩ => ⟨S8x8x2048x2048, .f32⟩
  | .hbm, ⟨59, _⟩ => ⟨S8x8x1x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x128, .f32⟩
  | .hbm, ⟨65, _⟩ => ⟨S8x8x2048x128, .f32⟩
  | .hbm, ⟨66, _⟩ => ⟨S_, .f32⟩
  | .hbm, ⟨67, _⟩ => ⟨S8x8x2048, .f32⟩
  | .hbm, ⟨68, _⟩ => ⟨S8x8x2048x1, .f32⟩
  | .hbm, ⟨69, _⟩ => ⟨S_, .f32⟩
  | .hbm, ⟨70, _⟩ => ⟨S8x8x2048x1, .f32⟩
  | .hbm, ⟨71, _⟩ => ⟨S8x8x2048x1, .f32⟩
  | .hbm, ⟨72, _⟩ => ⟨S_, .f32⟩
  | .hbm, ⟨73, _⟩ => ⟨S8x8x2048x1, .f32⟩
  | .hbm, ⟨74, _⟩ => ⟨S8x8x2048x1, .f32⟩
  | .hbm, ⟨75, _⟩ => ⟨S8x8x2048x1, .f32⟩
  | .hbm, ⟨76, _⟩ => ⟨S8x8x2048x128, .f32⟩
  | .hbm, ⟨77, _⟩ => ⟨S8x8x2048x128, .f32⟩
  | .hbm, ⟨78, _⟩ => ⟨S1x1x1x128, .f32⟩
  | .hbm, ⟨79, _⟩ => ⟨S8x8x2048x128, .f32⟩
  | .hbm, ⟨80, _⟩ => ⟨S8x8x2048x128, .f32⟩
  | .hbm, ⟨81, _⟩ => ⟨S_, .f32⟩
  | .hbm, ⟨82, _⟩ => ⟨S8x8x2048x128, .f32⟩
  | .hbm, ⟨83, _⟩ => ⟨S8x8x2048x128, .f32⟩
  | .hbm, ⟨84, _⟩ => ⟨S8x2048x8x128, .f32⟩
  | .hbm, ⟨85, _⟩ => ⟨S8x2048x1024, .f32⟩
  | .hbm, ⟨86, _⟩ => ⟨S8x2048x1024, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S48x1x1024 : Shape := ⟨3, ![48, 1, 1024]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 18
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x1024, .f32⟩
  | .hbm, ⟨9, _⟩ => ⟨S8x2048x1024, .bf16⟩
  | .hbm, ⟨10, _⟩ => ⟨S16384x1024, .bf16⟩
  | .hbm, ⟨11, _⟩ => ⟨S48x1x1024, .f32⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v1 : BitVec 32 := Scalar.muli arg13 c512_i32
  v1
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v1 : BitVec 32 := Scalar.muli arg13 c512_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32_4 : BitVec 32 := 2#32
  let v18 : BitVec 32 := Scalar.addi v17 c2_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x4096, .f32⟩
  | .hbm, ⟨46, _⟩ => ⟨S_, .f32⟩
  | .hbm, ⟨47, _⟩ => ⟨S8x2048x4096, .f32⟩
  | .hbm, ⟨48, _⟩ => ⟨S8x2048x4096, .f32⟩
  | .hbm, ⟨49, _⟩ => ⟨S8x2048x4096, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1024x4096 : Shape := ⟨3, ![2, 1024, 4096]⟩
abbrev S2x4096x1024 : Shape := ⟨3, ![2, 4096, 1024]⟩
abbrev S1x1024x3072 : Shape := ⟨3, ![1, 1024, 3072]⟩
abbrev S1x1024x1024 : Shape := ⟨3, ![1, 1024, 1024]⟩
abbrev S16384x1024 : Shape := ⟨2, ![16384, 1024]⟩
abbrev S48x1x1024 : Shape := ⟨3, ![48, 1, 1024]⟩
abbrev S1x1024 : Shape := ⟨2, ![1, 1024]⟩
abbrev S2048x4096 : Shape := ⟨2, ![2048, 4096]⟩
abbrev S8192x1024 : Shape := ⟨2, ![8192, 1024]⟩
abbrev S1024x3072 : Shape := ⟨2, ![1024, 3072]⟩
abbrev S512x1024 : Shape := ⟨2, ![512, 1024]⟩
abbrev S1x1x1024 : Shape := ⟨3, ![1, 1, 1024]⟩
abbrev S32x4096 : Shape := ⟨2, ![32, 4096]⟩
abbrev S128x1024 : Shape := ⟨2, ![128, 1024]⟩
abbrev S32x3072 : Shape := ⟨2, ![32, 3072]⟩
abbrev S32x1024 : Shape := ⟨2, ![32, 1024]⟩
abbrev S512 : Shape := ⟨1, ![512]⟩
abbrev S512x1 : Shape := ⟨2, ![512, 1]⟩
abbrev S512x4096 : Shape := ⟨2, ![512, 4096]⟩

abbrev nBuf : Space → Nat
  | .hbm => 30
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S2x1024x4096, .f32⟩
  | .hbm, ⟨9, _⟩ => ⟨S2x4096x1024, .f32⟩
  | .hbm, ⟨10, _⟩ => ⟨S1x1024x3072, .f32⟩
  | .hbm, ⟨11, _⟩ => ⟨S1x1024x1024, .f32⟩
  | .hbm, ⟨12, _⟩ => ⟨S16384x1024, .f32⟩
  | .hbm, ⟨13, _⟩ => ⟨S8x2048x1024, .bf16⟩
  | .hbm, ⟨14, _⟩ => ⟨S16384x1024, .bf16⟩
  | .hbm, ⟨15, _⟩ => ⟨S48x1x1024, .f32⟩
  | .hbm, ⟨16, _⟩ => ⟨S1024x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S2048x4096, .f32⟩
  | .hbm, ⟨22, _⟩ => ⟨S8192x1024, .f32⟩
  | .hbm, ⟨23, _⟩ => ⟨S1024x3072, .f32⟩
  | .hbm, ⟨24, _⟩ => ⟨S1024x1024, .f32⟩
  | .hbm, ⟨25, _⟩ => ⟨S16384x1024, .f32⟩
  | .hbm, ⟨26, _⟩ => ⟨S1024x4096, .bf16⟩
  | .hbm, ⟨27, _⟩ => ⟨S4096x1024, .bf16⟩
  | .hbm, ⟨28, _⟩ => ⟨S1024x3072, .bf16⟩
  | .hbm, ⟨29, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S32x4096, .f32⟩
  | .local _ .vmem, ⟨18, _⟩ => ⟨S32x4096, .f32⟩
  | .local _ .vmem, ⟨19, _⟩ => ⟨S128x1024, .f32⟩
  | .local _ .vmem, ⟨20, _⟩ => ⟨S128x1024, .f32⟩
  | .local _ .vmem, ⟨21, _⟩ => ⟨S32x3072, .f32⟩
  | .local _ .vmem, ⟨22, _⟩ => ⟨S32x3072, .f32⟩
  | .local _ .vmem, ⟨23, _⟩ => ⟨S32x1024, .f32⟩
  | .local _ .vmem, ⟨24, _⟩ => ⟨S32x1024, .f32⟩
  | .local _ .vmem, ⟨25, _⟩ => ⟨S512x1024, .f32⟩
  | .local _ .vmem, ⟨26, _⟩ => ⟨S512x1024, .f32⟩
  | .local _ .vmem, ⟨27, _⟩ => ⟨S32x4096, .bf16⟩
  | .local _ .vmem, ⟨28, _⟩ => ⟨S32x4096, .bf16⟩
  | .local _ .vmem, ⟨29, _⟩ => ⟨S128x1024, .bf16⟩
  | .local _ .vmem, ⟨30, _⟩ => ⟨S128x1024, .bf16⟩
  | .local _ .vmem, ⟨31, _⟩ => ⟨S32x3072, .bf16⟩
  | .local _ .vmem, ⟨32, _⟩ => ⟨S32x3072, .bf16⟩
  | .local _ .vmem, ⟨33, _⟩ => ⟨S32x1024, .bf16⟩
  | .local _ .vmem, ⟨34, _⟩ => ⟨S32x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32_4 : BitVec 32 := 4#32
  let v18 : BitVec 32 := Scalar.addi v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1024x4096 : Shape := ⟨3, ![2, 1024, 4096]⟩
abbrev S2x4096x1024 : Shape := ⟨3, ![2, 4096, 1024]⟩
abbrev S1x1024x3072 : Shape := ⟨3, ![1, 1024, 3072]⟩
abbrev S1x1024x1024 : Shape := ⟨3, ![1, 1024, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩
abbrev S1x1024x4096 : Shape := ⟨3, ![1, 1024, 4096]⟩
abbrev S1x4096x1024 : Shape := ⟨3, ![1, 4096, 1024]⟩
abbrev S1024x3072 : Shape := ⟨2, ![1024, 3072]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S2x1024x4096, .f32⟩
  | .hbm, ⟨9, _⟩ => ⟨S2x4096x1024, .f32⟩
  | .hbm, ⟨10, _⟩ => ⟨S1x1024x3072, .f32⟩
  | .hbm, ⟨11, _⟩ => ⟨S1x1024x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x4096, .f32⟩
  | .hbm, ⟨50, _⟩ => ⟨S_, .f32⟩
  | .hbm, ⟨51, _⟩ => ⟨S8x2048x4096, .f32⟩
  | .hbm, ⟨52, _⟩ => ⟨S8x2048x4096, .f32⟩
  | .hbm, ⟨53, _⟩ => ⟨S8x2048x4096, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | .hbm, ⟨59, _⟩ => ⟨S1x1024x4096, .f32⟩
  | .hbm, ⟨60, _⟩ => ⟨S1024x4096, .f32⟩
  | .hbm, ⟨61, _⟩ => ⟨S1024x4096, .bf16⟩
  | .hbm, ⟨62, _⟩ => ⟨S1x4096x1024, .f32⟩
  | .hbm, ⟨63, _⟩ => ⟨S4096x1024, .f32⟩
  | .hbm, ⟨64, _⟩ => ⟨S4096x1024, .bf16⟩
  | .hbm, ⟨65, _⟩ => ⟨S1024x3072, .f32⟩
  | .hbm, ⟨66, _⟩ => ⟨S1024x3072, .bf16⟩
  | .hbm, ⟨67, _⟩ => ⟨S1024x1024, .f32⟩
  | .hbm, ⟨68, _⟩ => ⟨S1024x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S1024 : Shape := ⟨1, ![1024]⟩
abbrev S1024x3072 : Shape := ⟨2, ![1024, 3072]⟩
abbrev S16x16384 : Shape := ⟨2, ![16, 16384]⟩
abbrev S48x256 : Shape := ⟨2, ![48, 256]⟩
abbrev S16384x1024 : Shape := ⟨2, ![16384, 1024]⟩
abbrev S48x1x1024 : Shape := ⟨3, ![48, 1, 1024]⟩
abbrev S1x1024 : Shape := ⟨2, ![1, 1024]⟩
abbrev S8x16384x128 : Shape := ⟨3, ![8, 16384, 128]⟩
abbrev S64x1152x256 : Shape := ⟨3, ![64, 1152, 256]⟩
abbrev S1024x1024 : Shape := ⟨2, ![1024, 1024]⟩
abbrev S1x1x1024 : Shape := ⟨3, ![1, 1, 1024]⟩
abbrev S16x1024 : Shape := ⟨2, ![16, 1024]⟩
abbrev S8x1024x128 : Shape := ⟨3, ![8, 1024, 128]⟩
abbrev S4x1152x256 : Shape := ⟨3, ![4, 1152, 256]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S48x512 : Shape := ⟨2, ![48, 512]⟩
abbrev S512x48 : Shape := ⟨2, ![512, 48]⟩
abbrev S512x256 : Shape := ⟨2, ![512, 256]⟩
abbrev S512x128 : Shape := ⟨2, ![512, 128]⟩
abbrev S1x512x128 : Shape := ⟨3, ![1, 512, 128]⟩
abbrev S1024x512 : Shape := ⟨2, ![1024, 512]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩

abbrev nBuf : Space → Nat
  | .hbm => 13
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S16x16384, .f32⟩
  | .hbm, ⟨5, _⟩ => ⟨S48x256, .bf16⟩
  | .hbm, ⟨6, _⟩ => ⟨S16384x1024, .f32⟩
  | .hbm, ⟨7, _⟩ => ⟨S48x1x1024, .f32⟩
  | .hbm, ⟨8, _⟩ => ⟨S1x1024, .f32⟩
  | .hbm, ⟨9, _⟩ => ⟨S1024x3072, .bf16⟩
  | .hbm, ⟨10, _⟩ => ⟨S8x16384x128, .bf16⟩
  | .hbm, ⟨11, _⟩ => ⟨S8x16384x128, .bf16⟩
  | .hbm, ⟨12, _⟩ => ⟨S64x1152x256, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S16x1024, .f32⟩
  | .local _ .vmem, ⟨11, _⟩ => ⟨S16x1024, .f32⟩
  | .local _ .vmem, ⟨12, _⟩ => ⟨S48x256, .bf16⟩
  | .local _ .vmem, ⟨13, _⟩ => ⟨S8x1024x128, .bf16⟩
  | .local _ .vmem, ⟨14, _⟩ => ⟨S8x1024x128, .bf16⟩
  | .local _ .vmem, ⟨15, _⟩ => ⟨S8x1024x128, .bf16⟩
  | .local _ .vmem, ⟨16, _⟩ => ⟨S8x1024x128, .bf16⟩
  | .local _ .vmem, ⟨17, _⟩ => ⟨S4x1152x256, .bf16⟩
  | .local _ .vmem, ⟨18, _⟩ => ⟨S4x1152x256, .bf16⟩
  | .local _ .vmem, ⟨19, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S48x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1152x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x2048x1024 : Shape := ⟨3, ![8, 2048, 1024]⟩
abbrev S8x6144 : Shape := ⟨2, ![8, 6144]⟩
abbrev S1024 : Shape := ⟨1, ![1024]⟩
abbrev S1024x3072 : Shape := ⟨2, ![1024, 3072]⟩
abbrev S16x16384 : Shape := ⟨2, ![16, 16384]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1024 : Shape := ⟨2, ![1024, 1024]⟩
abbrev S64x256x8x128 : Shape := ⟨4, ![64, 256, 8, 128]⟩
abbrev S64x8x128x256 : Shape := ⟨4, ![64, 8, 128, 256]⟩
abbrev S64x8x16x256 : Shape := ⟨4, ![64, 8, 16, 256]⟩
abbrev S64x8x144x256 : Shape := ⟨4, ![64, 8, 144, 256]⟩
abbrev S64x1152x256 : Shape := ⟨3, ![64, 1152, 256]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S16x16384, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x1024, .f32⟩
  | .hbm, ⟨37, _⟩ => ⟨S8x2048x1024, .f32⟩
  | .hbm, ⟨38, _⟩ => ⟨S64x256x8x128, .f32⟩
  | .hbm, ⟨39, _⟩ => ⟨S64x8x128x256, .f32⟩
  | .hbm, ⟨40, _⟩ => ⟨S_, .f32⟩
  | .hbm, ⟨41, _⟩ => ⟨S64x8x16x256, .f32⟩
  | .hbm, ⟨42, _⟩ => ⟨S64x8x144x256, .f32⟩
  | .hbm, ⟨43, _⟩ => ⟨S64x1152x256, .f32⟩
  | .hbm, ⟨44, _⟩ => ⟨S64x1152x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.AttnTrip.lean ====
module

public import proofs.«01_k».proof.Proof.Gen.KernelIdeal.Loops
public import proofs.«01_k».proof.Proof.Gen.KernelIdeal.Frame

/-! # One query block of the attention: the outer loop's trip

The trip over one block of 256 queries reads the queries, keys, values and the norm's scale, and rewrites the output
block, the staged queries, the scores, the running maxima and the accumulators. -/

@[expose] public section

set_option maxRecDepth 16384

noncomputable section

namespace Cert.KernelIdeal.Outer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! The slot of the staged queries that a block fills is the other one of the two, and the diagonal step reads it. -/

instance (k : Fin k0_t1_loop.trips) : ClosedOff (k0_off50 k) :=
  ⟨![(k.val + 1) % 2, 0, 0, 0], (by decide +kernel : ∀ k, k0_off50 k = ![(k.val + 1) % 2, 0, 0, 0]) k⟩
instance (k : Fin k0_t1_loop.trips) : ClosedOff (k0_off51 k) :=
  ⟨![(k.val + 1) % 2, 0, 0, 256], (by decide +kernel : ∀ k, k0_off51 k = ![(k.val + 1) % 2, 0, 0, 256]) k⟩
instance (k : Fin k0_t1_loop.trips) : ClosedOff (k0_off74 k) :=
  ⟨![(k.val + 1) % 2, 0, 0, 0], (by decide +kernel : ∀ k, k0_off74 k = ![(k.val + 1) % 2, 0, 0, 0]) k⟩
instance (k : Fin k0_t1_loop.trips) : ClosedOff (k0_off53 k) :=
  ⟨![(k.val + 1) % 2, 1, 0, 0], (by decide +kernel : ∀ k, k0_off53 k = ![(k.val + 1) % 2, 1, 0, 0]) k⟩
instance (k : Fin k0_t1_loop.trips) : ClosedOff (k0_off54 k) :=
  ⟨![(k.val + 1) % 2, 1, 0, 256], (by decide +kernel : ∀ k, k0_off54 k = ![(k.val + 1) % 2, 1, 0, 256]) k⟩
instance (k : Fin k0_t1_loop.trips) : ClosedOff (k0_off76 k) :=
  ⟨![(k.val + 1) % 2, 1, 0, 0], (by decide +kernel : ∀ k, k0_off76 k = ![(k.val + 1) % 2, 1, 0, 0]) k⟩
instance (k : Fin k0_t1_loop.trips) : ClosedOff (k0_off56 k) :=
  ⟨![(k.val + 1) % 2, 2, 0, 0], (by decide +kernel : ∀ k, k0_off56 k = ![(k.val + 1) % 2, 2, 0, 0]) k⟩
instance (k : Fin k0_t1_loop.trips) : ClosedOff (k0_off57 k) :=
  ⟨![(k.val + 1) % 2, 2, 0, 256], (by decide +kernel : ∀ k, k0_off57 k = ![(k.val + 1) % 2, 2, 0, 256]) k⟩
instance (k : Fin k0_t1_loop.trips) : ClosedOff (k0_off78 k) :=
  ⟨![(k.val + 1) % 2, 2, 0, 0], (by decide +kernel : ∀ k, k0_off78 k = ![(k.val + 1) % 2, 2, 0, 0]) k⟩
instance (k : Fin k0_t1_loop.trips) : ClosedOff (k0_off59 k) :=
  ⟨![(k.val + 1) % 2, 3, 0, 0], (by decide +kernel : ∀ k, k0_off59 k = ![(k.val + 1) % 2, 3, 0, 0]) k⟩
instance (k : Fin k0_t1_loop.trips) : ClosedOff (k0_off60 k) :=
  ⟨![(k.val + 1) % 2, 3, 0, 256], (by decide +kernel : ∀ k, k0_off60 k = ![(k.val + 1) % 2, 3, 0, 256]) k⟩
instance (k : Fin k0_t1_loop.trips) : ClosedOff (k0_off80 k) :=
  ⟨![(k.val + 1) % 2, 3, 0, 0], (by decide +kernel : ∀ k, k0_off80 k = ![(k.val + 1) % 2, 3, 0, 0]) k⟩
instance (k : Fin k0_t1_loop.trips) : ClosedOff (k0_off62 k) :=
  ⟨![(k.val + 1) % 2, 4, 0, 0], (by decide +kernel : ∀ k, k0_off62 k = ![(k.val + 1) % 2, 4, 0, 0]) k⟩
instance (k : Fin k0_t1_loop.trips) : ClosedOff (k0_off63 k) :=
  ⟨![(k.val + 1) % 2, 4, 0, 256], (by decide +kernel : ∀ k, k0_off63 k = ![(k.val + 1) % 2, 4, 0, 256]) k⟩
instance (k : Fin k0_t1_loop.trips) : ClosedOff (k0_off82 k) :=
  ⟨![(k.val + 1) % 2, 4, 0, 0], (by decide +kernel : ∀ k, k0_off82 k = ![(k.val + 1) % 2, 4, 0, 0]) k⟩
instance (k : Fin k0_t1_loop.trips) : ClosedOff (k0_off65 k) :=
  ⟨![(k.val + 1) % 2, 5, 0, 0], (by decide +kernel : ∀ k, k0_off65 k = ![(k.val + 1) % 2, 5, 0, 0]) k⟩
instance (k : Fin k0_t1_loop.trips) : ClosedOff (k0_off66 k) :=
  ⟨![(k.val + 1) % 2, 5, 0, 256], (by decide +kernel : ∀ k, k0_off66 k = ![(k.val + 1) % 2, 5, 0, 256]) k⟩
instance (k : Fin k0_t1_loop.trips) : ClosedOff (k0_off84 k) :=
  ⟨![(k.val + 1) % 2, 5, 0, 0], (by decide +kernel : ∀ k, k0_off84 k = ![(k.val + 1) % 2, 5, 0, 0]) k⟩
instance (k : Fin k0_t1_loop.trips) : ClosedOff (k0_off68 k) :=
  ⟨![(k.val + 1) % 2, 6, 0, 0], (by decide +kernel : ∀ k, k0_off68 k = ![(k.val + 1) % 2, 6, 0, 0]) k⟩
instance (k : Fin k0_t1_loop.trips) : ClosedOff (k0_off69 k) :=
  ⟨![(k.val + 1) % 2, 6, 0, 256], (by decide +kernel : ∀ k, k0_off69 k = ![(k.val + 1) % 2, 6, 0, 256]) k⟩
instance (k : Fin k0_t1_loop.trips) : ClosedOff (k0_off86 k) :=
  ⟨![(k.val + 1) % 2, 6, 0, 0], (by decide +kernel : ∀ k, k0_off86 k = ![(k.val + 1) % 2, 6, 0, 0]) k⟩
instance (k : Fin k0_t1_loop.trips) : ClosedOff (k0_off71 k) :=
  ⟨![(k.val + 1) % 2, 7, 0, 0], (by decide +kernel : ∀ k, k0_off71 k = ![(k.val + 1) % 2, 7, 0, 0]) k⟩
instance (k : Fin k0_t1_loop.trips) : ClosedOff (k0_off72 k) :=
  ⟨![(k.val + 1) % 2, 7, 0, 256], (by decide +kernel : ∀ k, k0_off72 k = ![(k.val + 1) % 2, 7, 0, 256]) k⟩
instance (k : Fin k0_t1_loop.trips) : ClosedOff (k0_off88 k) :=
  ⟨![(k.val + 1) % 2, 7, 0, 0], (by decide +kernel : ∀ k, k0_off88 k = ![(k.val + 1) % 2, 7, 0, 0]) k⟩

/-- What a trip holds: what it reads at its contents, what it writes at any. -/
abbrev Held (c : Dev nD) (arg2 : Memref sig .tc .vmem S8x2048x128 .bf16) (arg3 : Memref sig .tc .vmem S8x2048x128 .bf16) (arg4 : Memref sig .tc .vmem S8x1152x256 .bf16) (arg6 : Memref sig .tc .vmem S128x1 .f32) (arg7 : Memref sig .tc .vmem S1x2048x1024 .bf16) (arg8 : Memref sig .tc .vmem S2x8x128x512 .bf16) (arg9 : Memref sig .tc .vmem S8x2x256x256 .f32) (arg10 : Memref sig .tc .vmem S8x2x1x256 .f32) (arg11 : Memref sig .tc .vmem S8x2x144x256 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

variable (c : Dev nD) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S8x1152x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S1x2048x1024 .bf16) (harg7 : arg7.IsWhole) (arg8 : Memref sig .tc .vmem S2x8x128x512 .bf16) (harg8 : arg8.IsWhole) (arg9 : Memref sig .tc .vmem S8x2x256x256 .f32) (harg9 : arg9.IsWhole) (arg10 : Memref sig .tc .vmem S8x2x1x256 .f32) (harg10 : arg10.IsWhole) (arg11 : Memref sig .tc .vmem S8x2x144x256 .f32) (harg11 : arg11.IsWhole) (v15 : FVec F S1x1 .f32) (v16 : IVec S128x256 32) (v17 : IVec S256x256 32) (v18 : IVec S256x256 32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)

set_option maxHeartbeats 4000000 in
/-- One trip, run from any contents: what it leaves is a function of what it finds. -/
@[irreducible] def trip (k : Fin k0_t1_loop.trips) :
    Σ' (N_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (N_arg8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (N_arg9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (N_arg10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty), { N_arg11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // ∀ (E : Set ℕ) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
      Held c arg2 arg3 arg4 arg6 arg7 arg8 arg9 arg10 arg11 X_arg2 X_arg3 X_arg4 X_arg6 f_arg7 f_arg8 f_arg9 f_arg10 f_arg11
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v15 v16 v17 v18 k PUnit.unit)
          (fun _ => Held c arg2 arg3 arg4 arg6 arg7 arg8 arg9 arg10 arg11 X_arg2 X_arg3 X_arg4 X_arg6 (N_arg7 f_arg7 f_arg8 f_arg9 f_arg10 f_arg11) (N_arg8 f_arg7 f_arg8 f_arg9 f_arg10 f_arg11) (N_arg9 f_arg7 f_arg8 f_arg9 f_arg10 f_arg11) (N_arg10 f_arg7 f_arg8 f_arg9 f_arg10 f_arg11) (N_arg11 f_arg7 f_arg8 f_arg9 f_arg10 f_arg11)) } := by
  refine ⟨?_, ?_, ?_, ?_, ?_, fun E f_arg7 f_arg8 f_arg9 f_arg10 f_arg11 => ?run⟩
  case run =>
    unfold k0_t1_body
    iintro ⟨HR_arg2, HR_arg3, HR_arg4, HR_arg6, HW_arg7, HW_arg8, HW_arg9, HW_arg10, HW_arg11⟩
    sl_exec
    sl_step
    sl_close

/-- What the written memrefs hold: the output block, the staged queries, the scores, the maxima, the accumulators. -/
abbrev St (arg7 : Memref sig .tc .vmem S1x2048x1024 .bf16) (arg8 : Memref sig .tc .vmem S2x8x128x512 .bf16) (arg9 : Memref sig .tc .vmem S8x2x256x256 .f32) (arg10 : Memref sig .tc .vmem S8x2x1x256 .f32) (arg11 : Memref sig .tc .vmem S8x2x144x256 .f32) : Type := BufTy.Contents (Elt F) arg7.view.ty × BufTy.Contents (Elt F) arg8.view.ty × BufTy.Contents (Elt F) arg9.view.ty × BufTy.Contents (Elt F) arg10.view.ty × BufTy.Contents (Elt F) arg11.view.ty

/-- One trip as a map of what the memrefs hold; past the last trip, nothing changes. -/
@[irreducible] def stepAt (k : ℕ) (p : St (F := F) arg7 arg8 arg9 arg10 arg11) : St (F := F) arg7 arg8 arg9 arg10 arg11 :=
  if h : k < k0_t1_loop.trips then
    ((trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 ⟨k, h⟩).1 p.1 p.2.1 p.2.2.1 p.2.2.2.1 p.2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 ⟨k, h⟩).2.1 p.1 p.2.1 p.2.2.1 p.2.2.2.1 p.2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 ⟨k, h⟩).2.2.1 p.1 p.2.1 p.2.2.1 p.2.2.2.1 p.2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 ⟨k, h⟩).2.2.2.1 p.1 p.2.1 p.2.2.1 p.2.2.2.1 p.2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 ⟨k, h⟩).2.2.2.2.val p.1 p.2.1 p.2.2.1 p.2.2.2.1 p.2.2.2.2)
  else p

/-- What the memrefs hold before trip `k`, from what they hold at the loop's entry. -/
def st (G : St (F := F) arg7 arg8 arg9 arg10 arg11) : ℕ → St (F := F) arg7 arg8 arg9 arg10 arg11
  | 0 => G
  | k + 1 => stepAt (F := F) c i arg2 harg2 arg3 harg3 arg4 harg4 arg5 harg5 arg6 harg6 arg7 harg7 arg8 harg8 arg9 harg9 arg10 harg10 arg11 harg11 v15 v16 v17 v18 X_arg2 X_arg3 X_arg4 X_arg6 k (st G k)

theorem st_succ (G : St (F := F) arg7 arg8 arg9 arg10 arg11) (k : Fin k0_t1_loop.trips) :
    st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G (k.val + 1)
      = ((trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.2, (trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).2.2.2.2.val (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.1 (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 G k).2.2.2.2) := by
  rw [st.eq_2]; unfold stepAt; exact dif_pos k.isLt

/-- The invariant before trip `k`: what is read at its contents, what is written at the state before the trip. -/
abbrev inv (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (k : ℕ) (_ : PUnit.{1}) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (∃ f, (arg7.view.loc (c : Thread nD τ) ↦[arg7.view.set]{fullShare} f) ∗ ⌜f = (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 (G_arg7, G_arg8, G_arg9, G_arg10, G_arg11) k).1⌝) ∗ (∃ f, (arg8.view.loc (c : Thread nD τ) ↦[arg8.view.set]{fullShare} f) ∗ ⌜f = (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 (G_arg7, G_arg8, G_arg9, G_arg10, G_arg11) k).2.1⌝) ∗ (∃ f, (arg9.view.loc (c : Thread nD τ) ↦[arg9.view.set]{fullShare} f) ∗ ⌜f = (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 (G_arg7, G_arg8, G_arg9, G_arg10, G_arg11) k).2.2.1⌝) ∗ (∃ f, (arg10.view.loc (c : Thread nD τ) ↦[arg10.view.set]{fullShare} f) ∗ ⌜f = (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 (G_arg7, G_arg8, G_arg9, G_arg10, G_arg11) k).2.2.2.1⌝) ∗ (∃ f, (arg11.view.loc (c : Thread nD τ) ↦[arg11.view.set]{fullShare} f) ∗ ⌜f = (st (F := F) c i arg2 harg2 arg3 harg3 arg4 harg4 arg5 harg5 arg6 harg6 arg7 harg7 arg8 harg8 arg9 harg9 arg10 harg10 arg11 harg11 v15 v16 v17 v18 X_arg2 X_arg3 X_arg4 X_arg6 (G_arg7, G_arg8, G_arg9, G_arg10, G_arg11) k).2.2.2.2⌝))

set_option maxHeartbeats 2000000 in
set_option warn.classDefReducibility false in
/-- The outer loop by its invariant. -/
@[sl_loop] def loopInv (E : Set ℕ) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 v15 v16 v17 v18 where
  inv := inv (F := F) c i arg2 harg2 arg3 harg3 arg4 harg4 arg5 harg5 arg6 harg6 arg7 harg7 arg8 harg8 arg9 harg9 arg10 harg10 arg11 harg11 v15 v16 v17 v18 X_arg2 X_arg3 X_arg4 X_arg6 G_arg7 G_arg8 G_arg9 G_arg10 G_arg11
  step k acc := by
    iintro ⟨HR_arg2, HR_arg3, HR_arg4, HR_arg6, ⟨%f_arg7, HW_arg7, %h_arg7⟩, ⟨%f_arg8, HW_arg8, %h_arg8⟩, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) Variants.none (c : Thread nD τ) none) E)
    isplitl [HR_arg2 HR_arg3 HR_arg4 HR_arg6 HW_arg7 HW_arg8 HW_arg9 HW_arg10 HW_arg11]
    · iapply ((trip (F := F) c i arg2 harg2 arg3 harg3 arg4 harg4 arg5 harg5 arg6 harg6 arg7 harg7 arg8 harg8 arg9 harg9 arg10 harg10 arg11 harg11 v15 v16 v17 v18 X_arg2 X_arg3 X_arg4 X_arg6 k).2.2.2.2.property E f_arg7 f_arg8 f_arg9 f_arg10 f_arg11)
      isplitl [HR_arg2]; · iexact HR_arg2
      isplitl [HR_arg3]; · iexact HR_arg3
      isplitl [HR_arg4]; · iexact HR_arg4
      isplitl [HR_arg6]; · iexact HR_arg6
      isplitl [HW_arg7]; · iexact HW_arg7
      isplitl [HW_arg8]; · iexact HW_arg8
      isplitl [HW_arg9]; · iexact HW_arg9
      isplitl [HW_arg10]; · iexact HW_arg10
      iexact HW_arg11
    · iintro %_ ⟨HR_arg2, HR_arg3, HR_arg4, HR_arg6, HW_arg7, HW_arg8, HW_arg9, HW_arg10, HW_arg11⟩
      isplitl [HR_arg2]; · iexact HR_arg2
      isplitl [HR_arg3]; · iexact HR_arg3
      isplitl [HR_arg4]; · iexact HR_arg4
      isplitl [HR_arg6]; · iexact HR_arg6
      rw [st_succ]
      isplitl [HW_arg7]
      · iexists _; isplitl [HW_arg7]; · iexact HW_arg7
        ipureintro; rw [h_arg7, h_arg8, h_arg9, h_arg10, h_arg11]
      isplitl [HW_arg8]
      · iexists _; isplitl [HW_arg8]; · iexact HW_arg8
        ipureintro; rw [h_arg7, h_arg8, h_arg9, h_arg10, h_arg11]
      isplitl [HW_arg9]
      · iexists _; isplitl [HW_arg9]; · iexact HW_arg9
        ipureintro; rw [h_arg7, h_arg8, h_arg9, h_arg10, h_arg11]
      isplitl [HW_arg10]
      · iexists _; isplitl [HW_arg10]; · iexact HW_arg10
        ipureintro; rw [h_arg7, h_arg8, h_arg9, h_arg10, h_arg11]
      iexists _; isplitl [HW_arg11]; · iexact HW_arg11
      ipureintro; rw [h_arg7, h_arg8, h_arg9, h_arg10, h_arg11]

/-- What the memrefs hold at the loop's entry is the invariant before the first trip. -/
theorem entry (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) : (Held c arg2 arg3 arg4 arg6 arg7 arg8 arg9 arg10 arg11 X_arg2 X_arg3 X_arg4 X_arg6 G_arg7 G_arg8 G_arg9 G_arg10 G_arg11 : sProp 𝕄) ⊢ inv (F := F) c i arg2 harg2 arg3 harg3 arg4 harg4 arg5 harg5 arg6 harg6 arg7 harg7 arg8 harg8 arg9 harg9 arg10 harg10 arg11 harg11 v15 v16 v17 v18 X_arg2 X_arg3 X_arg4 X_arg6 G_arg7 G_arg8 G_arg9 G_arg10 G_arg11 0 PUnit.unit := by
  iintro ⟨HR_arg2, HR_arg3, HR_arg4, HR_arg6, HW_arg7, HW_arg8, HW_arg9, HW_arg10, HW_arg11⟩
  isplitl [HR_arg2]; · iexact HR_arg2
  isplitl [HR_arg3]; · iexact HR_arg3
  isplitl [HR_arg4]; · iexact HR_arg4
  isplitl [HR_arg6]; · iexact HR_arg6
  isplitl [HW_arg7]
  · iexists _; isplitl [HW_arg7]; · iexact HW_arg7
    ipureintro; rfl
  isplitl [HW_arg8]
  · iexists _; isplitl [HW_arg8]; · iexact HW_arg8
    ipureintro; rfl
  isplitl [HW_arg9]
  · iexists _; isplitl [HW_arg9]; · iexact HW_arg9
    ipureintro; rfl
  isplitl [HW_arg10]
  · iexists _; isplitl [HW_arg10]; · iexact HW_arg10
    ipureintro; rfl
  iexists _; isplitl [HW_arg11]; · iexact HW_arg11
  ipureintro; rfl

/-- The outer loop, from what the memrefs hold at its entry. -/
theorem wp_loop (E : Set ℕ) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) {Q : PUnit → sProp 𝕄} {kk : PUnit → Prog (TpuEff nD τ sig (Elt F) Λ₀ .tc) PUnit} :
    (iprop(Held c arg2 arg3 arg4 arg6 arg7 arg8 arg9 arg10 arg11 X_arg2 X_arg3 X_arg4 X_arg6 G_arg7 G_arg8 G_arg9 G_arg10 G_arg11 ∗ (∀ acc, inv (F := F) c i arg2 harg2 arg3 harg3 arg4 harg4 arg5 harg5 arg6 harg6 arg7 harg7 arg8 harg8 arg9 harg9 arg10 harg10 arg11 harg11 v15 v16 v17 v18 X_arg2 X_arg3 X_arg4 X_arg6 G_arg7 G_arg8 G_arg9 G_arg10 G_arg11 (Scf.trips k0_t1_loop.lb k0_t1_loop.ub k0_t1_loop.st) acc
            -∗ wp frame (wpE (defs₀ (F := F)) Variants.none (c : Thread nD τ) none) E (kk acc) Q)) : sProp 𝕄)
      ⊢ wp frame (wpE (defs₀ (F := F)) Variants.none (c : Thread nD τ) none) E
          (Scf.for k0_t1_loop.lb k0_t1_loop.ub k0_t1_loop.st k0_t1_ok PUnit.unit (k0_t1_body (F := F) i arg2 harg2 arg3 harg3 arg4 harg4 arg5 harg5 arg6 harg6 arg7 harg7 arg8 harg8 arg9 harg9 arg10 harg10 arg11 harg11 v15 v16 v17 v18) >>= kk) Q :=
  BIClass.wand_elim (BIBase.Entails.trans (entry (F := F) c i arg2 harg2 arg3 harg3 arg4 harg4 arg5 harg5 arg6 harg6 arg7 harg7 arg8 harg8 arg9 harg9 arg10 harg10 arg11 harg11 v15 v16 v17 v18 X_arg2 X_arg3 X_arg4 X_arg6 G_arg7 G_arg8 G_arg9 G_arg10 G_arg11)
    (exec_loop Idealize.ShloMosaic.frame (wpE (defs₀ (F := F)) Variants.none (c : Thread nD τ) none) E
      k0_t1_loop.lb k0_t1_loop.ub k0_t1_loop.st k0_t1_ok PUnit.unit (k0_t1_body (F := F) i arg2 harg2 arg3 harg3 arg4 harg4 arg5 harg5 arg6 harg6 arg7 harg7 arg8 harg8 arg9 harg9 arg10 harg10 arg11 harg11 v15 v16 v17 v18)
      (loopInv (F := F) c i arg2 harg2 arg3 harg3 arg4 harg4 arg5 harg5 arg6 harg6 arg7 harg7 arg8 harg8 arg9 harg9 arg10 harg10 arg11 harg11 v15 v16 v17 v18 X_arg2 X_arg3 X_arg4 X_arg6 E G_arg7 G_arg8 G_arg9 G_arg10 G_arg11)))

set_option maxHeartbeats 4000000 in
/-- The whole body, run from any contents: what it leaves in the output block is a function of what it finds. -/
@[irreducible] def bodyRun (X_arg5 : BufTy.Contents (Elt F) arg5.view.ty) :
    { N_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty // ∀ (E : Set ℕ) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11)) : sProp 𝕄)
      ⊢ wp frame (wpE (defs₀ (F := F)) Variants.none (c : Thread nD τ) none) E (cc0_diff_attention (F := F) i arg2 harg2 arg3 harg3 arg4 harg4 arg5 harg5 arg6 harg6 arg7 harg7 arg8 harg8 arg9 harg9 arg10 harg10 arg11 harg11)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} (N_arg7 f_arg7 f_arg8 f_arg9 f_arg10 f_arg11)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)))) } := by
  refine ⟨?_, fun E f_arg7 f_arg8 f_arg9 f_arg10 f_arg11 => ?run⟩
  case run =>
    rw [cc0_diff_attention_eq_skeleton]
    unfold cc0_diff_attention_skel
    iintro ⟨HR_arg2, HR_arg3, HR_arg4, HR_arg5, HR_arg6, HW_arg7, HW_arg8, HW_arg9, HW_arg10, HW_arg11⟩
    sl_exec
    iapply (wp_loop (F := F) c i arg2 harg2 arg3 harg3 arg4 harg4 arg5 harg5 arg6 harg6 arg7 harg7 arg8 harg8 arg9 harg9 arg10 harg10 arg11 harg11 _ _ _ _ X_arg2 X_arg3 X_arg4 X_arg6 E _ _ _ _ _)
    isplitl [HR_arg2 HR_arg3 HR_arg4 HR_arg6 HW_arg7 HW_arg8 HW_arg9 HW_arg10 HW_arg11]
    · isplitl [HR_arg2]; · iexact HR_arg2
      isplitl [HR_arg3]; · iexact HR_arg3
      isplitl [HR_arg4]; · iexact HR_arg4
      isplitl [HR_arg6]; · iexact HR_arg6
      isplitl [HW_arg7]; · iexact HW_arg7
      isplitl [HW_arg8]; · iexact HW_arg8
      isplitl [HW_arg9]; · iexact HW_arg9
      isplitl [HW_arg10]; · iexact HW_arg10
      iexact HW_arg11
    iintro %acc ⟨HR_arg2, HR_arg3, HR_arg4, HR_arg6, ⟨%e_arg7, HW_arg7, %h_arg7⟩, ⟨%e_arg8, HW_arg8, %h_arg8⟩, ⟨%e_arg9, HW_arg9, %h_arg9⟩, ⟨%e_arg10, HW_arg10, %h_arg10⟩, ⟨%e_arg11, HW_arg11, %h_arg11⟩⟩
    sl_step
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    rw [h_arg7]; isplitl [HW_arg7]; · iexact HW_arg7
    isplitl [HW_arg8]; · iexists _; iexact HW_arg8
    isplitl [HW_arg9]; · iexists _; iexact HW_arg9
    isplitl [HW_arg10]; · iexists _; iexact HW_arg10
    iexists _; iexact HW_arg11

end Cert.KernelIdeal.Outer

end
-- ==== Proof.AttnFrame.lean ====
module

public import proofs.«01_k».proof.Proof.AttnTrip
public import Idealize.ShloMosaic.Lib.Claim

/-! # The frame of the attention

The body at a grid point is the run of its whole text from the staged blocks and from scratch memory at whatever it
holds; for the frame nothing is said of the output block. Every run of the program then ends with the arguments as
they were. -/

@[expose] public section

set_option maxRecDepth 16384

noncomputable section

namespace Cert.KernelIdeal.Outer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body's run between memrefs held at their contents: when `Y` holds of the result whatever the written memrefs
    held, the output block ends at some contents of which `Y` holds. -/
theorem body_owns (c : Dev nD) (i : grid0.Coords) (arg2 : Memref sig .tc .vmem S8x2048x128 .bf16) (harg2 : arg2.IsWhole) (arg3 : Memref sig .tc .vmem S8x2048x128 .bf16) (harg3 : arg3.IsWhole) (arg4 : Memref sig .tc .vmem S8x1152x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S1x2048x1024 .bf16) (harg7 : arg7.IsWhole) (arg8 : Memref sig .tc .vmem S2x8x128x512 .bf16) (harg8 : arg8.IsWhole) (arg9 : Memref sig .tc .vmem S8x2x256x256 .f32) (harg9 : arg9.IsWhole) (arg10 : Memref sig .tc .vmem S8x2x1x256 .f32) (harg10 : arg10.IsWhole) (arg11 : Memref sig .tc .vmem S8x2x144x256 .f32) (harg11 : arg11.IsWhole)
    (x2 : Vec F S8x2048x128 .bf16) (x3 : Vec F S8x2048x128 .bf16) (x4 : Vec F S8x1152x256 .bf16) (x5 : Vec F S4x64 .f32) (x6 : Vec F S128x1 .f32) (Y : Vec F S1x2048x1024 .bf16 → Prop)
    (hY : ∀ f7 f8 f9 f10 f11, Y (arg7.view.read (Elt F) ((bodyRun (F := F) c i arg2 harg2 arg3 harg3 arg4 harg4 arg5 harg5 arg6 harg6 arg7 harg7 arg8 harg8 arg9 harg9 arg10 harg10 arg11 harg11 (harg2.unread x2) (harg3.unread x3) (harg4.unread x4) (harg6.unread x6) (harg5.unread x5)).val f7 f8 f9 f10 f11)))
    (E : Set ℕ) (K : sProp 𝕄) :
    (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ X, owns (c : Thread nD τ) arg7 fullShare X)
          ∗ (∃ f, (arg8.view.loc (c : Thread nD τ) ↦[arg8.view.set]{fullShare} f))
          ∗ (∃ f, (arg9.view.loc (c : Thread nD τ) ↦[arg9.view.set]{fullShare} f))
          ∗ (∃ f, (arg10.view.loc (c : Thread nD τ) ↦[arg10.view.set]{fullShare} f))
          ∗ (∃ f, (arg11.view.loc (c : Thread nD τ) ↦[arg11.view.set]{fullShare} f))
          ∗ (owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ X, ⌜Y X⌝ ∗ owns (c : Thread nD τ) arg7 fullShare X)
          ∗ (∃ f, (arg8.view.loc (c : Thread nD τ) ↦[arg8.view.set]{fullShare} f))
          ∗ (∃ f, (arg9.view.loc (c : Thread nD τ) ↦[arg9.view.set]{fullShare} f))
          ∗ (∃ f, (arg10.view.loc (c : Thread nD τ) ↦[arg10.view.set]{fullShare} f))
          ∗ (∃ f, (arg11.view.loc (c : Thread nD τ) ↦[arg11.view.set]{fullShare} f)) -∗ K)) : sProp 𝕄)
      ⊢ wp frame (wpE (defs₀ (F := F)) Variants.none (c : Thread nD τ) none) E (cc0_diff_attention (F := F) i arg2 harg2 arg3 harg3 arg4 harg4 arg5 harg5 arg6 harg6 arg7 harg7 arg8 harg8 arg9 harg9 arg10 harg10 arg11 harg11) (fun _ => K) := by
  iintro ⟨H2, H3, H4, H5, H6, ⟨%X7, H7⟩, ⟨%f8, H8⟩, ⟨%f9, H9⟩, ⟨%f10, H10⟩, ⟨%f11, H11⟩, HK⟩
  unfold owns
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  obtain rfl := harg2.eq_unread e2
  obtain rfl := harg3.eq_unread e3
  obtain rfl := harg4.eq_unread e4
  obtain rfl := harg5.eq_unread e5
  obtain rfl := harg6.eq_unread e6
  iapply (wp_wand_r Idealize.ShloMosaic.frame (wpE (defs₀ (F := F)) Variants.none (c : Thread nD τ) none) E)
  isplitl [H2 H3 H4 H5 H6 H7 H8 H9 H10 H11]
  · iapply ((bodyRun (F := F) c i arg2 harg2 arg3 harg3 arg4 harg4 arg5 harg5 arg6 harg6 arg7 harg7 arg8 harg8 arg9 harg9 arg10 harg10 arg11 harg11 (harg2.unread x2) (harg3.unread x3) (harg4.unread x4) (harg6.unread x6) (harg5.unread x5)).property E f7 f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, ⟨%g8, H8⟩, ⟨%g9, H9⟩, ⟨%g10, H10⟩, ⟨%g11, H11⟩⟩
    iapply HK
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact hY f7 f8 f9 f10 f11
      iexists _; isplitr; · ipureintro; rfl
      iexact H7
    isplitl [H8]; · iexists _; iexact H8
    isplitl [H9]; · iexists _; iexact H9
    isplitl [H10]; · iexists _; iexact H10
    iexists _; iexact H11

/-- A scratch buffer held whole, as the memref the body is called with. -/
theorem whole_pts (c : Dev nD) (b : Ref sig .tc) (f : Buf (Elt F) ((c : Thread nD τ).loc b)) :
    ((Memref.whole b).view.loc (c : Thread nD τ) ↦[(Memref.whole b).view.set]{fullShare} f : sProp 𝕄)
      = (((c : Thread nD τ).loc b) ↦{fullShare} f) := by
  rw [show (Memref.whole b).view.set = Finset.univ from View.set_whole b]

theorem whole_to (c : Dev nD) (b : Ref sig .tc) (f : Buf (Elt F) ((c : Thread nD τ).loc b)) :
    ((Memref.whole b).view.loc (c : Thread nD τ) ↦[(Memref.whole b).view.set]{fullShare} f : sProp 𝕄)
      ⊢ (((c : Thread nD τ).loc b) ↦{fullShare} f) := by
  rw [whole_pts]

variable (m : (ℓ : Loc nD τ sig) → Buf (Elt F) ℓ) (ρ : Dev nD → PrngReg) (Z : Dev nD → Fin cfg0.N → Vec F S1x2048x1024 .bf16)

/-- The pipeline's proof data: each input's buffer at its block, the output's at `Z`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Z c t
  Φ _ := Pipeline.ΦA spec0 c
  q _ := fullShare
  owed _ := 0

theorem A_eq (c : Dev nD) (w : Fin cfg0.W) : (dats m Z 0 c).A w = V m c (Pipeline.arrRef spec0 w) := by
  dsimp only [dats]

theorem after_0 (c : Dev nD) (t : Fin cfg0.N) : (dats m Z 0 c).after 0 t = iblk m c 0 t := by dsimp only [dats]
theorem after_1 (c : Dev nD) (t : Fin cfg0.N) : (dats m Z 0 c).after 1 t = iblk m c 1 t := by dsimp only [dats]
theorem after_2 (c : Dev nD) (t : Fin cfg0.N) : (dats m Z 0 c).after 2 t = iblk m c 2 t := by dsimp only [dats]
theorem after_3 (c : Dev nD) (t : Fin cfg0.N) : (dats m Z 0 c).after 3 t = iblk m c 3 t := by dsimp only [dats]
theorem after_4 (c : Dev nD) (t : Fin cfg0.N) : (dats m Z 0 c).after 4 t = iblk m c 4 t := by dsimp only [dats]
theorem after_5 (c : Dev nD) (t : Fin cfg0.N) : (dats m Z 0 c).after 5 t = Z c t := by dsimp only [dats]

theorem before_0 (c : Dev nD) (t : Fin cfg0.N) (d) : (dats m Z 0 c).before 0 t d = iblk m c 0 t :=
  before0_0_of m (dats m Z 0 c) (A_eq m Z c 0) (after_0 m Z c) t d
theorem before_1 (c : Dev nD) (t : Fin cfg0.N) (d) : (dats m Z 0 c).before 1 t d = iblk m c 1 t :=
  before0_1_of m (dats m Z 0 c) (A_eq m Z c 1) (after_1 m Z c) t d
theorem before_2 (c : Dev nD) (t : Fin cfg0.N) (d) : (dats m Z 0 c).before 2 t d = iblk m c 2 t :=
  before0_2_of m (dats m Z 0 c) (A_eq m Z c 2) (after_2 m Z c) t d
theorem before_3 (c : Dev nD) (t : Fin cfg0.N) (d) : (dats m Z 0 c).before 3 t d = iblk m c 3 t :=
  before0_3_of m (dats m Z 0 c) (A_eq m Z c 3) (after_3 m Z c) t d
theorem before_4 (c : Dev nD) (t : Fin cfg0.N) (d) : (dats m Z 0 c).before 4 t d = iblk m c 4 t :=
  before0_4_of m (dats m Z 0 c) (A_eq m Z c 4) (after_4 m Z c) t d

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The output window, of whose contents the frame says nothing. -/
abbrev fgt : Fin cfg0.W → Bool := fun w => w == 5

set_option maxHeartbeats 1200000 in
/-- The body at point `t`, nothing said of the output block. -/
theorem body_forget (c : Dev nD) (t : Fin cfg0.N) :
    (iprop(Pipeline.ΦA spec0 c ∗ (dats m Z 0 c).owesAt () t.castSucc
    ∗ (∃ d, owns (c : Thread nD τ) (st0_0 t) fullShare ((dats m Z 0 c).before 0 t d))
    ∗ (∃ d, owns (c : Thread nD τ) (st0_1 t) fullShare ((dats m Z 0 c).before 1 t d))
    ∗ (∃ d, owns (c : Thread nD τ) (st0_2 t) fullShare ((dats m Z 0 c).before 2 t d))
    ∗ (∃ d, owns (c : Thread nD τ) (st0_3 t) fullShare ((dats m Z 0 c).before 3 t d))
    ∗ (∃ d, owns (c : Thread nD τ) (st0_4 t) fullShare ((dats m Z 0 c).before 4 t d))
    ∗ (∃ X, owns (c : Thread nD τ) (st0_5 t) fullShare X)) : sProp 𝕄)
      ⊢ wp frame (wpE (defs₀ (F := F)) Variants.none c none) Set.univ (bodyAt0 t) (fun _ => iprop(Pipeline.ΦA spec0 c ∗ (dats m Z 0 c).owesAt () t.succ
    ∗ owns (c : Thread nD τ) (st0_0 t) fullShare ((dats m Z 0 c).after 0 t)
    ∗ owns (c : Thread nD τ) (st0_1 t) fullShare ((dats m Z 0 c).after 1 t)
    ∗ owns (c : Thread nD τ) (st0_2 t) fullShare ((dats m Z 0 c).after 2 t)
    ∗ owns (c : Thread nD τ) (st0_3 t) fullShare ((dats m Z 0 c).after 3 t)
    ∗ owns (c : Thread nD τ) (st0_4 t) fullShare ((dats m Z 0 c).after 4 t)
    ∗ (∃ X, owns (c : Thread nD τ) (st0_5 t) fullShare X))) := by
  unfold bodyAt0 Pipeline.ΦA
  simp only [before_0, before_1, before_2, before_3, before_4, after_0, after_1, after_2, after_3, after_4]
  rw [show (dats m Z 0 c).owesAt () t.succ = (dats m Z 0 c).owesAt () t.castSucc from rfl]
  rw [Gen.scopedRest0_eq]
  iintro ⟨⟨⟨⟨%f0, HS0⟩, ⟨%f1, HS1⟩, ⟨%f2, HS2⟩, ⟨%f3, HS3⟩⟩, HR⟩, Ho, ⟨%d0, H0⟩, ⟨%d1, H1⟩, ⟨%d2, H2⟩, ⟨%d3, H3⟩, ⟨%d4, H4⟩, ⟨%d5, H5⟩⟩
  iapply (body_owns (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (fun _ => True) (fun _ _ _ _ _ => trivial) Set.univ _)
  isplitl [H0]; · iexact H0
  isplitl [H1]; · iexact H1
  isplitl [H2]; · iexact H2
  isplitl [H3]; · iexact H3
  isplitl [H4]; · iexact H4
  isplitl [H5]; · iexists d5; iexact H5
  isplitl [HS0]; · iexists f0; rw [whole_pts]; iexact HS0
  isplitl [HS1]; · iexists f1; rw [whole_pts]; iexact HS1
  isplitl [HS2]; · iexists f2; rw [whole_pts]; iexact HS2
  isplitl [HS3]; · iexists f3; rw [whole_pts]; iexact HS3
  iintro ⟨H0, H1, H2, H3, H4, ⟨%X, %hX, H5⟩, ⟨%g0, HS0⟩, ⟨%g1, HS1⟩, ⟨%g2, HS2⟩, ⟨%g3, HS3⟩⟩
  isplitl [HS0 HS1 HS2 HS3 HR]
  · isplitl [HS0 HS1 HS2 HS3]
    · isplitl [HS0]; · iexists g0; iapply (whole_to c _ g0); iexact HS0
      isplitl [HS1]; · iexists g1; iapply (whole_to c _ g1); iexact HS1
      isplitl [HS2]; · iexists g2; iapply (whole_to c _ g2); iexact HS2
      iexists g3; iapply (whole_to c _ g3); iexact HS3
    · iexact HR
  isplitl [Ho]; · iexact Ho
  isplitl [H0]; · iexact H0
  isplitl [H1]; · iexact H1
  isplitl [H2]; · iexact H2
  isplitl [H3]; · iexact H3
  isplitl [H4]; · iexact H4
  iexists X; iexact H5

/-- The library's body obligation, the output forgotten. -/
theorem obligation_forget (c : Dev nD) :
    BodyObligation (dats (F := F) m Z 0 c) (defs₀ (F := F)) Variants.none () Set.univ fgt := fun t => by
  rw [bigSep_W0, bigSep_W0, defs₀_row]
  exact triple_restated (body_forget m Z c t) rfl .rfl fun _ => .rfl

set_option backward.isDefEq.respectTransparency.types false in
/-- Every run of the program ends, the arrays it reads as they were and every counter at zero. -/
theorem run_forget : θ_run defs (onTc (τ := τ) (main (F := F))) (s₀ m ρ)
    (fun r => Pipeline.RDat.FramePost cfg0 (fun c => (dats m Z 0 c).toRForget fgt) (V m) r ∧ r.2.sem = fun _ => 0) :=
  Pipeline.θ_run_frame_forget (Q' := _) cfgs (dats m Z) (0 : Fin 1) Gen.launch0 defs₀ Variants.none fgt m ρ main
    (hbody := fun c => (obligation_forget m Z c).loose) (hshare := fun c => (dats m Z 0 c).share_full fun _ => rfl)
    (howed := fun _ _ => rfl) (V := V m) (hmain := hmain m Variants.none) (hA := A_eq m Z) (hΦ := fun _ _ => rfl)

/-- The frame: every argument ends as it was, every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
    have h := hr.1
    exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (h.arr_in c 3 rfl).trans ((A_eq m (fun c t => iblk m c 5 t) c 3).trans (V_main_arg3 m c)),
    ((h c).2 main_arg4 (Pipeline.mem_restRefs_of main_arg4 (by decide) (by decide))).trans (V_main_arg4 m c)⟩, hr.2⟩)
    (run_forget m ρ (fun c t => iblk m c 5 t))

set_option maxHeartbeats 1200000 in
/-- The body at point `t` when the whole body's result is known to be `Z c t` whatever the scratch held. -/
theorem body_value (c : Dev nD) (t : Fin cfg0.N)
    (hZ : ∀ f7 f8 f9 f10 f11, (st0_5 t).view.read (Elt F) ((bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
      ((hstage0_0 ((cfg0.slots t 0).cast nbuf0_0)).unread (iblk m c 0 t)) ((hstage0_1 ((cfg0.slots t 1).cast nbuf0_1)).unread (iblk m c 1 t))
      ((hstage0_2 ((cfg0.slots t 2).cast nbuf0_2)).unread (iblk m c 2 t)) ((hstage0_4 ((cfg0.slots t 4).cast nbuf0_4)).unread (iblk m c 4 t))
      ((hstage0_3 ((cfg0.slots t 3).cast nbuf0_3)).unread (iblk m c 3 t))).val f7 f8 f9 f10 f11) = Z c t) :
    (iprop(Pipeline.ΦA spec0 c ∗ (dats m Z 0 c).owesAt () t.castSucc
    ∗ (∃ d, owns (c : Thread nD τ) (st0_0 t) fullShare ((dats m Z 0 c).before 0 t d))
    ∗ (∃ d, owns (c : Thread nD τ) (st0_1 t) fullShare ((dats m Z 0 c).before 1 t d))
    ∗ (∃ d, owns (c : Thread nD τ) (st0_2 t) fullShare ((dats m Z 0 c).before 2 t d))
    ∗ (∃ d, owns (c : Thread nD τ) (st0_3 t) fullShare ((dats m Z 0 c).before 3 t d))
    ∗ (∃ d, owns (c : Thread nD τ) (st0_4 t) fullShare ((dats m Z 0 c).before 4 t d))
    ∗ (∃ d, owns (c : Thread nD τ) (st0_5 t) fullShare ((dats m Z 0 c).before 5 t d))) : sProp 𝕄)
      ⊢ wp frame (wpE (defs₀ (F := F)) Variants.none c none) Set.univ (bodyAt0 t) (fun _ => iprop(Pipeline.ΦA spec0 c ∗ (dats m Z 0 c).owesAt () t.succ
    ∗ owns (c : Thread nD τ) (st0_0 t) fullShare ((dats m Z 0 c).after 0 t)
    ∗ owns (c : Thread nD τ) (st0_1 t) fullShare ((dats m Z 0 c).after 1 t)
    ∗ owns (c : Thread nD τ) (st0_2 t) fullShare ((dats m Z 0 c).after 2 t)
    ∗ owns (c : Thread nD τ) (st0_3 t) fullShare ((dats m Z 0 c).after 3 t)
    ∗ owns (c : Thread nD τ) (st0_4 t) fullShare ((dats m Z 0 c).after 4 t)
    ∗ owns (c : Thread nD τ) (st0_5 t) fullShare ((dats m Z 0 c).after 5 t))) := by
  unfold bodyAt0 Pipeline.ΦA
  simp only [before_0, before_1, before_2, before_3, before_4, after_0, after_1, after_2, after_3, after_4, after_5]
  rw [show (dats m Z 0 c).owesAt () t.succ = (dats m Z 0 c).owesAt () t.castSucc from rfl]
  rw [Gen.scopedRest0_eq]
  iintro ⟨⟨⟨⟨%f0, HS0⟩, ⟨%f1, HS1⟩, ⟨%f2, HS2⟩, ⟨%f3, HS3⟩⟩, HR⟩, Ho, ⟨%d0, H0⟩, ⟨%d1, H1⟩, ⟨%d2, H2⟩, ⟨%d3, H3⟩, ⟨%d4, H4⟩, ⟨%d5, H5⟩⟩
  iapply (body_owns (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (fun X => X = Z c t) hZ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexists f0; rw [whole_pts]; iexact HS0
  isplitl [HS1]; · iexists f1; rw [whole_pts]; iexact HS1
  isplitl [HS2]; · iexists f2; rw [whole_pts]; iexact HS2
  isplitl [HS3]; · iexists f3; rw [whole_pts]; iexact HS3
  iintro ⟨H0, H1, H2, H3, H4, ⟨%X, %hX, H5⟩, ⟨%g0, HS0⟩, ⟨%g1, HS1⟩, ⟨%g2, HS2⟩, ⟨%g3, HS3⟩⟩
  isplitl [HS0 HS1 HS2 HS3 HR]
  · isplitl [HS0 HS1 HS2 HS3]
    · isplitl [HS0]; · iexists g0; iapply (whole_to c _ g0); iexact HS0
      isplitl [HS1]; · iexists g1; iapply (whole_to c _ g1); iexact HS1
      isplitl [HS2]; · iexists g2; iapply (whole_to c _ g2); iexact HS2
      iexists g3; iapply (whole_to c _ g3); iexact HS3
    · iexact HR
  isplitl [Ho]; · iexact Ho
  isplitl [H0]; · iexact H0
  isplitl [H1]; · iexact H1
  isplitl [H2]; · iexact H2
  isplitl [H3]; · iexact H3
  isplitl [H4]; · iexact H4
  subst hX; iexact H5

/-- The library's body obligation, the output block at the value. -/
theorem obligation_value (hZ : ∀ c t f7 f8 f9 f10 f11, (st0_5 t).view.read (Elt F) ((bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
      ((hstage0_0 ((cfg0.slots t 0).cast nbuf0_0)).unread (iblk m c 0 t)) ((hstage0_1 ((cfg0.slots t 1).cast nbuf0_1)).unread (iblk m c 1 t))
      ((hstage0_2 ((cfg0.slots t 2).cast nbuf0_2)).unread (iblk m c 2 t)) ((hstage0_4 ((cfg0.slots t 4).cast nbuf0_4)).unread (iblk m c 4 t))
      ((hstage0_3 ((cfg0.slots t 3).cast nbuf0_3)).unread (iblk m c 3 t))).val f7 f8 f9 f10 f11) = Z c t) (c : Dev nD) :
    BodyObligation (dats (F := F) m Z 0 c) (defs₀ (F := F)) Variants.none () Set.univ := fun t => by
  rw [bigSep_W0, bigSep_W0, defs₀_row]
  exact triple_restated (body_value m Z c t (hZ c t)) rfl .rfl fun _ => .rfl

set_option backward.isDefEq.respectTransparency.types false in
/-- Every run of the program ends with the output array written block by block with `Z`. -/
theorem run_value (hZ : ∀ c t f7 f8 f9 f10 f11, (st0_5 t).view.read (Elt F) ((bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
      ((hstage0_0 ((cfg0.slots t 0).cast nbuf0_0)).unread (iblk m c 0 t)) ((hstage0_1 ((cfg0.slots t 1).cast nbuf0_1)).unread (iblk m c 1 t))
      ((hstage0_2 ((cfg0.slots t 2).cast nbuf0_2)).unread (iblk m c 2 t)) ((hstage0_4 ((cfg0.slots t 4).cast nbuf0_4)).unread (iblk m c 4 t))
      ((hstage0_3 ((cfg0.slots t 3).cast nbuf0_3)).unread (iblk m c 3 t))).val f7 f8 f9 f10 f11) = Z c t) :
    θ_run defs (onTc (τ := τ) (main (F := F))) (s₀ m ρ) (Pipeline.FramePost cfgs (dats m Z) 0 (V m)) :=
  Pipeline.θ_run_frame cfgs (dats m Z) (0 : Fin 1) Gen.launch0 defs₀ Variants.none m ρ main
    (hbody := fun c => (obligation_value m Z hZ c).loose) (hshare := fun c => (dats m Z 0 c).share_full fun _ => rfl)
    (howed := fun _ _ => rfl) (V := V m) (hmain := hmain m Variants.none) (hA := A_eq m Z) (hΦ := fun _ _ => rfl)

end Cert.KernelIdeal.Outer

end
-- ==== Proof.Reads.lean ====
/- Reading a rows-times-columns product, a row sum and the shape changes of this certificate's kernels at an index, at the
   ideal values. Nothing here mentions a program. -/
module

public import Idealize.ShloMosaic.PureOps.Ideal.Laws
public import Idealize.ShloMosaic.Lib.ValueIdxCore
public import Idealize.ShloMosaic.Lib.Pipeline.Value

@[expose] public section

noncomputable section

namespace Cert.Proof.Reads

open Idealize.ShloMosaic Idealize.ShloMosaic.ValueIdx

variable {m k n : Nat} {φ₁ φ₂ : FTy}

/-- A product of an [m,k] by a [k,n] matrix into zeros is, at (p,q), the sum over the shared axis. -/
theorem plain_matmul (lhs : FVec Ideal ⟨2, ![m, k]⟩ φ₁) (rhs : FVec Ideal ⟨2, ![k, n]⟩ φ₂) (p : Fin m) (q : Fin n) :
    FloatOps.matmul (DotDims.plain m k n) none lhs rhs (constant ⟨2, ![m, n]⟩ .f32 0x00000000#32) (ix2 p q)
      = ∑ j : Fin k, lhs (ix2 p j) * rhs (ix2 j q) := by
  rw [Ideal.matmul_constant_zero_apply, ← Equiv.sum_comp (contrEquiv1 (DotDims.plain m k n) k rfl rfl).symm]
  refine Finset.sum_congr rfl fun j _ => ?_
  have hj := contrEquiv1_symm_val (DotDims.plain m k n) k rfl rfl j
  have el : (DotDims.plain m k n).lhsIdx (ix2 p q) ((contrEquiv1 (DotDims.plain m k n) k rfl rfl).symm j) = ix2 p j :=
    funext fun a => Fin.ext (by
      match a with
      | ⟨0, _⟩ => rfl
      | ⟨1, _⟩ => exact ((DotDims.plain m k n).lhsIdx_val_of_single rfl _ _).trans hj)
  have er : (DotDims.plain m k n).rhsIdx (ix2 p q) ((contrEquiv1 (DotDims.plain m k n) k rfl rfl).symm j) = ix2 j q :=
    funext fun a => Fin.ext (by
      match a with
      | ⟨0, _⟩ => exact ((DotDims.plain m k n).rhsIdx_val_of_single rfl _ _).trans hj
      | ⟨1, _⟩ => rfl)
  rw [el, er]

/-- A sum along the second axis of an [m,k] matrix is, at row p, the row's sum. -/
theorem row_sum (x : FVec Ideal ⟨2, ![m, k]⟩ .f32) (h : Shape.Reduces ⟨2, ![m, k]⟩ [1] ⟨1, ![m]⟩) (hφ : FKind.Formats .f32)
    (hacc : (0x00000000#32 : BitVec 32) = FKind.add.neutral .f32 hφ) (p : Fin m) :
    multiReduction .add [1] ⟨1, ![m]⟩ x 0x00000000#32 h hφ hacc (ix1 p) = ∑ j : Fin k, x (ix2 p j) := by
  rw [Ideal.multiReduction_add_single]
  refine Finset.sum_congr rfl fun j _ => congrArg x (funext fun a => Fin.ext ?_)
  match a with
  | ⟨0, _⟩ => rfl
  | ⟨1, _⟩ => rfl

/-- A sum along the first axis of an [m,k] matrix is, at column q, the column's sum. -/
theorem col_sum (x : FVec Ideal ⟨2, ![m, k]⟩ .f32) (h : Shape.Reduces ⟨2, ![m, k]⟩ [0] ⟨1, ![k]⟩) (hφ : FKind.Formats .f32)
    (hacc : (0x00000000#32 : BitVec 32) = FKind.add.neutral .f32 hφ) (q : Fin k) :
    multiReduction .add [0] ⟨1, ![k]⟩ x 0x00000000#32 h hφ hacc (ix1 q) = ∑ j : Fin m, x (ix2 j q) := by
  rw [Ideal.multiReduction_add_single]
  refine Finset.sum_congr rfl fun j _ => congrArg x (funext fun a => Fin.ext ?_)
  match a with
  | ⟨0, _⟩ => rfl
  | ⟨1, _⟩ => rfl

variable {α : Type}

/-- A reshape to the same shape reads the same element. -/
theorem cast_self {s : Shape} (x : s.Idx → α) (h : s.ShapeCasts s) (j : s.Idx) : shapeCast s x h j = x j :=
  shapeCast_apply x h j j rfl

/-- A row written as a column reads the row's element. -/
theorem cast_col (x : (⟨1, ![m]⟩ : Shape).Idx → α) (h : Shape.ShapeCasts ⟨1, ![m]⟩ ⟨2, ![m, 1]⟩) (p : Fin m) (z : Fin 1) :
    shapeCast ⟨2, ![m, 1]⟩ x h (ix2 p z) = x (ix1 p) :=
  shapeCast_apply x h _ _ (by
    rw [Shape.rowMajor_val_one, Shape.rowMajor_val_two]
    show p.val = p.val * 1 + z.val
    omega)

/-- A [1,n] row repeated over the rows reads the row's element. -/
theorem bcast_row (hn : n ≠ 1) (x : (⟨2, ![1, n]⟩ : Shape).Idx → α) (h : Shape.Broadcasts ⟨2, ![1, n]⟩ ⟨2, ![m, n]⟩) (p : Fin m) (q : Fin n) :
    broadcastTo ⟨2, ![m, n]⟩ x h (ix2 p q) = x (ix2 0 q) :=
  broadcastTo_apply x h _ _ fun a => by
    match a with
    | ⟨0, _⟩ => rfl
    | ⟨1, _⟩ => show q.val = if n = 1 then 0 else q.val; rw [if_neg hn]

/-- An [m,1] column repeated over the columns reads the column's element. -/
theorem bcast_col (hm : m ≠ 1) (x : (⟨2, ![m, 1]⟩ : Shape).Idx → α) (h : Shape.Broadcasts ⟨2, ![m, 1]⟩ ⟨2, ![m, n]⟩) (p : Fin m) (q : Fin n) :
    broadcastTo ⟨2, ![m, n]⟩ x h (ix2 p q) = x (ix2 p 0) :=
  broadcastTo_apply x h _ _ fun a => by
    match a with
    | ⟨0, _⟩ => show p.val = if m = 1 then 0 else p.val; rw [if_neg hm]
    | ⟨1, _⟩ => rfl

/-- A [1,1,n] array read as a [1,n] row. -/
theorem cast_11n (x : (⟨3, ![1, 1, n]⟩ : Shape).Idx → α) (h : Shape.ShapeCasts ⟨3, ![1, 1, n]⟩ ⟨2, ![1, n]⟩) (z : Fin 1) (q : Fin n) :
    shapeCast ⟨2, ![1, n]⟩ x h (ix2 z q) = x (ix3 0 0 q) :=
  shapeCast_apply x h _ _ (by
    rw [Shape.rowMajor_val_three, Shape.rowMajor_val_two]
    show (0 * 1 + 0) * n + q.val = z.val * n + q.val
    have : z.val = 0 := by omega
    rw [this])

end Cert.Proof.Reads

end
-- ==== Proof.AttnOnline.lean ====
/- The streamed softmax of one query, as plain mathematics: a running maximum, and sums of values weighted by powers of two
   of the scores, rescaled whenever the maximum grows. What a block of keys adds, and what is left after the last block. -/
module

public import Idealize.ShloMosaic.PureOps.Ideal.Laws

@[expose] public section

noncomputable section

namespace Cert.Proof.AttnOnline

open Idealize.ShloMosaic

/-- A power of two. -/
def pow2 (x : ℝ) : ℝ := Real.rpow 2 x

theorem pow2_pos (x : ℝ) : 0 < pow2 x := Real.rpow_pos_of_pos (by norm_num) x

theorem pow2_add (x y : ℝ) : pow2 (x + y) = pow2 x * pow2 y := Real.rpow_add (by norm_num) x y

theorem pow2_eq_exp (x : ℝ) : pow2 x = Real.exp (x * Real.log 2) := by
  unfold pow2
  show (2 : ℝ) ^ x = _
  rw [Real.rpow_def_of_pos (by norm_num), mul_comm]

/-- A sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- Before the first block the maximum is `⊥` and the sums are any reals; after `n` keys the maximum is some real `M` and the
    sums are those of the `n` keys' values, weighted by `2 ^ (score - M)`. -/
def Inv (σ : ℕ → ℝ) (w : Fin 144 → ℕ → ℝ) (n : ℕ) (m : EReal) (a : Fin 144 → EReal) : Prop :=
  (n = 0 ∧ m = ⊥ ∧ ∀ r, ∃ x : ℝ, a r = x) ∨
  ∃ M : ℝ, m = M ∧ ∀ r, a r = ((∑ key ∈ Finset.range n, pow2 (σ key - M) * w r key : ℝ) : EReal)

/-- The new maximum. -/
def newMax (m : EReal) (s : Fin 256 → EReal) : EReal := max m (Finset.univ.fold max ⊥ s)

/-- The new sum. -/
def newSum (m : EReal) (s v : Fin 256 → EReal) (a : EReal) : EReal :=
  Ideal.exp2 (m - newMax m s) * a + ∑ k : Fin 256, v k * Ideal.exp2 (s k - newMax m s)

theorem newMax_real {m : EReal} (hm : m ≠ ⊤) (s : Fin 256 → EReal) (hs : ∀ k, s k ≠ ⊤) (k : Fin 256) (hk : s k ≠ ⊥) :
    ∃ M : ℝ, newMax m s = M := by
  have ht : newMax m s ≠ ⊤ := by
    apply ne_of_lt
    unfold newMax
    exact max_lt (lt_top_iff_ne_top.2 hm)
      ((Finset.fold_max_lt _).2 ⟨bot_lt_top, fun k _ => lt_top_iff_ne_top.2 (hs k)⟩)
  have hb : newMax m s ≠ ⊥ := by
    intro h
    apply hk
    have : s k ≤ newMax m s := by
      unfold newMax
      exact le_max_of_le_right ((Finset.le_fold_max _).2 (Or.inr ⟨k, Finset.mem_univ k, le_rfl⟩))
    exact le_bot_iff.1 (h ▸ this)
  exact ⟨(newMax m s).toReal, (EReal.coe_toReal ht hb).symm⟩

/-- What one block of keys, of which only those of `P` are seen, makes of the sums. -/
theorem step {σ : ℕ → ℝ} {w : Fin 144 → ℕ → ℝ} {n : ℕ} {m : EReal} {a : Fin 144 → EReal} (h : Inv σ w n m a)
    (P : Fin 256 → Prop) [DecidablePred P] (k₀ : Fin 256) (hk₀ : P k₀) (s : Fin 256 → EReal)
    (hs : ∀ k, s k = if P k then ((σ (n + k.val) : ℝ) : EReal) else ⊥)
    (v : Fin 144 → Fin 256 → EReal) (hv : ∀ r k, v r k = ((w r (n + k.val) : ℝ) : EReal)) :
    ∃ M : ℝ, newMax m s = M ∧ ∀ r, newSum m s (v r) (a r)
      = ((∑ key ∈ Finset.range n, pow2 (σ key - M) * w r key
          + ∑ k : Fin 256, (if P k then pow2 (σ (n + k.val) - M) * w r (n + k.val) else 0) : ℝ) : EReal) := by
  have hm : m ≠ ⊤ := by
    rcases h with ⟨_, h, _⟩ | ⟨M, h, _⟩ <;> rw [h]
    · exact bot_ne_top
    · exact EReal.coe_ne_top M
  have hst : ∀ k, s k ≠ ⊤ := fun k => by
    rw [hs k]; split
    · exact EReal.coe_ne_top _
    · exact bot_ne_top
  obtain ⟨M, hM⟩ := newMax_real hm s hst k₀ (by rw [hs k₀, if_pos hk₀]; exact EReal.coe_ne_bot _)
  refine ⟨M, hM, fun r => ?_⟩
  unfold newSum
  rw [hM]
  have hterm : ∀ k : Fin 256, v r k * Ideal.exp2 (s k - (M : EReal))
      = (((if P k then pow2 (σ (n + k.val) - M) * w r (n + k.val) else 0 : ℝ)) : EReal) := fun k => by
    rw [hs k, hv r k]
    split
    · rw [← EReal.coe_sub, Ideal.exp2_coe, ← EReal.coe_mul, mul_comm]; rfl
    · rw [EReal.bot_sub, Ideal.exp2_bot, mul_zero]; rfl
  rw [Finset.sum_congr rfl fun k _ => hterm k, ← coe_sum]
  have hold : Ideal.exp2 (m - (M : EReal)) * a r
      = ((∑ key ∈ Finset.range n, pow2 (σ key - M) * w r key : ℝ) : EReal) := by
    rcases h with ⟨hn, hmb, ha⟩ | ⟨M', hm', ha⟩
    · rw [hmb, EReal.bot_sub, Ideal.exp2_bot, zero_mul, hn]; rfl
    · rw [hm', ha r, ← EReal.coe_sub, Ideal.exp2_coe, ← EReal.coe_mul, Finset.mul_sum]
      congr 1
      refine Finset.sum_congr rfl fun key _ => ?_
      show pow2 (M' - M) * (pow2 (σ key - M') * w r key) = _
      rw [← mul_assoc, ← pow2_add]
      congr 2; ring
  rw [hold, ← EReal.coe_add]

/-- A block of keys that are all seen. -/
theorem step_whole {σ : ℕ → ℝ} {w : Fin 144 → ℕ → ℝ} {n : ℕ} {m : EReal} {a : Fin 144 → EReal} (h : Inv σ w n m a)
    (s : Fin 256 → EReal) (hs : ∀ k, s k = ((σ (n + k.val) : ℝ) : EReal))
    (v : Fin 144 → Fin 256 → EReal) (hv : ∀ r k, v r k = ((w r (n + k.val) : ℝ) : EReal)) :
    Inv σ w (n + 256) (newMax m s) (fun r => newSum m s (v r) (a r)) := by
  obtain ⟨M, hM, hr⟩ := step h (fun _ => True) 0 trivial s (fun k => by rw [hs k, if_pos trivial]) v hv
  refine Or.inr ⟨M, hM, fun r => ?_⟩
  show newSum m s (v r) (a r) = _
  rw [hr r, Finset.sum_range_add]
  congr 2

/-- The last block, of which the query sees its first `q + 1` keys. -/
theorem step_last {σ : ℕ → ℝ} {w : Fin 144 → ℕ → ℝ} {n : ℕ} {m : EReal} {a : Fin 144 → EReal} (h : Inv σ w n m a) (q : Fin 256)
    (s : Fin 256 → EReal) (hs : ∀ k, s k = if k ≤ q then ((σ (n + k.val) : ℝ) : EReal) else ⊥)
    (v : Fin 144 → Fin 256 → EReal) (hv : ∀ r k, v r k = ((w r (n + k.val) : ℝ) : EReal)) :
    ∃ M : ℝ, newMax m s = M ∧ ∀ r, newSum m s (v r) (a r)
      = ((∑ key ∈ Finset.range (n + (q.val + 1)), pow2 (σ key - M) * w r key : ℝ) : EReal) := by
  obtain ⟨M, hM, hr⟩ := step h (fun k => k ≤ q) q le_rfl s hs v hv
  refine ⟨M, hM, fun r => ?_⟩
  rw [hr r, Finset.sum_range_add]
  congr 2
  have hsub : Finset.range (q.val + 1) ⊆ Finset.range 256 := Finset.range_subset_range.2 (by omega)
  refine (Finset.sum_range (n := 256) (fun k => if k ≤ q.val then pow2 (σ (n + k) - M) * w r (n + k) else 0)).symm.trans ?_
  rw [← Finset.sum_filter]
  refine Finset.sum_congr (Finset.ext fun k => ?_) fun _ _ => rfl
  simp only [Finset.mem_filter, Finset.mem_range]
  omega

/-- The softmax-weighted mean of the first `N` keys' values `w`, in the natural exponential. -/
def weighted (τ w : ℕ → ℝ) (N : ℕ) : ℝ :=
  (∑ key ∈ Finset.range N, Real.exp (τ key) * w key) / ∑ key ∈ Finset.range N, Real.exp (τ key)

/-- The quotient of a sum of values by the sum of ones does not depend on the running maximum. -/
theorem quotient (σ w : ℕ → ℝ) (M : ℝ) (N : ℕ) :
    (∑ key ∈ Finset.range N, pow2 (σ key - M) * w key) / (∑ key ∈ Finset.range N, pow2 (σ key - M) * 1)
      = weighted (fun key => σ key * Real.log 2) w N := by
  have h : ∀ key, pow2 (σ key - M) = pow2 (-M) * Real.exp (σ key * Real.log 2) := fun key => by
    rw [← pow2_eq_exp, ← pow2_add]; congr 1; ring
  unfold weighted
  simp only [mul_one, h, mul_assoc]
  rw [← Finset.mul_sum, ← Finset.mul_sum, mul_div_mul_left _ _ (pow2_pos _).ne']

theorem denominator_pos (σ : ℕ → ℝ) (M : ℝ) (N : ℕ) (hN : 0 < N) :
    0 < ∑ key ∈ Finset.range N, pow2 (σ key - M) * 1 :=
  Finset.sum_pos (fun key _ => by rw [mul_one]; exact pow2_pos _) ⟨0, Finset.mem_range.2 hN⟩

end Cert.Proof.AttnOnline

end
-- ==== Proof.AttnPayload.lean ====
/- What the attention call's stretches of operations compute, read at an index over the extended reals: the staged queries, a
   tile of scores, one block of the streamed softmax, and the closing of a head. -/
module

public import proofs.«01_k».proof.Proof.Gen.KernelIdeal.Skeleton
public import proofs.«01_k».proof.Proof.Reads
public import proofs.«01_k».proof.Proof.AttnOnline
public import Idealize.ShloMosaic.Lib.WordCmp

@[expose] public section

noncomputable section

namespace Cert.Proof.AttnPayload

open Cert.KernelIdeal Cert.KernelIdeal.Gen Idealize.ShloMosaic Idealize.ShloMosaic.ValueIdx Cert.Proof.Reads Cert.Proof.AttnOnline

section Layout

variable {α : Type} {m n : Nat}

/-- Dropping and adding unit axes in front. -/
theorem cast_11mn (x : (⟨4, ![1, 1, m, n]⟩ : Shape).Idx → α) (h : Shape.ShapeCasts ⟨4, ![1, 1, m, n]⟩ ⟨2, ![m, n]⟩) (p : Fin m) (q : Fin n) :
    shapeCast ⟨2, ![m, n]⟩ x h (ix2 p q) = x (ix4 0 0 p q) :=
  shapeCast_apply x h _ _ (by
    rw [Shape.rowMajor_val_four, Shape.rowMajor_val_two]
    show ((0 * 1 + 0) * m + p.val) * n + q.val = p.val * n + q.val
    simp)

theorem cast_to_11mn (x : (⟨2, ![m, n]⟩ : Shape).Idx → α) (h : Shape.ShapeCasts ⟨2, ![m, n]⟩ ⟨4, ![1, 1, m, n]⟩) (p : Fin m) (q : Fin n) :
    shapeCast ⟨4, ![1, 1, m, n]⟩ x h (ix4 0 0 p q) = x (ix2 p q) :=
  shapeCast_apply x h _ _ (by
    rw [Shape.rowMajor_val_four, Shape.rowMajor_val_two]
    show p.val * n + q.val = ((0 * 1 + 0) * m + p.val) * n + q.val
    simp)

theorem cast_1mn (x : (⟨3, ![1, m, n]⟩ : Shape).Idx → α) (h : Shape.ShapeCasts ⟨3, ![1, m, n]⟩ ⟨2, ![m, n]⟩) (p : Fin m) (q : Fin n) :
    shapeCast ⟨2, ![m, n]⟩ x h (ix2 p q) = x (ix3 0 p q) :=
  shapeCast_apply x h _ _ (by
    rw [Shape.rowMajor_val_three, Shape.rowMajor_val_two]
    show (0 * m + p.val) * n + q.val = p.val * n + q.val
    simp)

theorem cast_to_1mn (x : (⟨2, ![m, n]⟩ : Shape).Idx → α) (h : Shape.ShapeCasts ⟨2, ![m, n]⟩ ⟨3, ![1, m, n]⟩) (p : Fin m) (q : Fin n) :
    shapeCast ⟨3, ![1, m, n]⟩ x h (ix3 0 p q) = x (ix2 p q) :=
  shapeCast_apply x h _ _ (by
    rw [Shape.rowMajor_val_three, Shape.rowMajor_val_two]
    show p.val * n + q.val = (0 * m + p.val) * n + q.val
    simp)

theorem cast_to_1n (x : (⟨1, ![n]⟩ : Shape).Idx → α) (h : Shape.ShapeCasts ⟨1, ![n]⟩ ⟨2, ![1, n]⟩) (q : Fin n) :
    shapeCast ⟨2, ![1, n]⟩ x h (ix2 0 q) = x (ix1 q) :=
  shapeCast_apply x h _ _ (by
    rw [Shape.rowMajor_val_one, Shape.rowMajor_val_two]
    show q.val = 0 * n + q.val
    simp)

theorem transposed (x : (⟨2, ![m, n]⟩ : Shape).Idx → α) (h : Shape.Transposes ⟨2, ![m, n]⟩ [1, 0] ⟨2, ![n, m]⟩) (p : Fin n) (q : Fin m) :
    transpose ⟨2, ![n, m]⟩ [1, 0] x h (ix2 p q) = x (ix2 q p) :=
  transpose_apply [1, 0] x h _ _ fun b => by
    match b with
    | ⟨0, _⟩ => rfl
    | ⟨1, _⟩ => rfl

/-- The largest element of a column, from `⊥`. -/
theorem col_max (x : FVec Ideal ⟨2, ![m, n]⟩ .f32) (h : Shape.Reduces ⟨2, ![m, n]⟩ [0] ⟨1, ![n]⟩) (hφ : FKind.Formats .f32)
    (hacc : (0xFF800000#32 : BitVec 32) = FKind.maximumf.neutral .f32 hφ) (q : Fin n) :
    multiReduction .maximumf [0] ⟨1, ![n]⟩ x 0xFF800000#32 h hφ hacc (ix1 q)
      = (Finset.univ : Finset (Fin m)).fold max ⊥ (fun k => x (ix2 k q)) := by
  rw [Ideal.multiReduction_maximumf_single]
  have h0 : (FloatOps.ofBits (F := Ideal) .f32 0xFF800000#32 : EReal) = ⊥ := by
    show Ideal.ofBits .f32 0xFF800000#32 = ⊥
    simp [Ideal.ofBits, Ideal.ieee]
  have hf : (x ∘ h.lift (ix1 q)) = fun k : Fin m => x (ix2 k q) := funext fun k => congrArg x (funext fun a => Fin.ext (by
    match a with
    | ⟨0, _⟩ => rfl
    | ⟨1, _⟩ => rfl))
  rw [h0]
  exact congrArg (Finset.fold max ⊥ · Finset.univ) hf

end Layout

/-- The scale of the queries, and the masked score. -/
def scale : ℝ := (8 * Real.log 2)⁻¹

theorem named_scale : (Named.named (F := Ideal) κ "q_scale" (φ := .f32) 0x3E38AA3B#32 : EReal) = (scale : EReal) := rfl

theorem named_mask : (Named.named (F := Ideal) κ "mask" (φ := .f32) 0xF149F2CA#32 : EReal) = ⊥ := rfl

/-- One block: the running maximum, then the sums. -/
def maxes (s : FVec Ideal S256x256 .f32) (lm : Vec Ideal S1x1x1x256 .f32) : FVec Ideal S1x256 .f32 :=
  maximumf (shapeCast S1x256 lm shapeCasts_S1x1x1x256_S1x256)
    (shapeCast S1x256 (multiReduction .maximumf [0] S256 s 0xFF800000#32 reduces_S256x256_S256 (.inl rfl) rfl) shapeCasts_S256_S1x256)

def sums (v : FVec Ideal S144x256 .bf16) (s : FVec Ideal S256x256 .f32) (lm : Vec Ideal S1x1x1x256 .f32) (la : Vec Ideal S1x1x144x256 .f32) :
    FVec Ideal S144x256 .f32 :=
  addf (mulf (broadcastTo S144x256 (exp2 (subf (shapeCast S1x256 lm shapeCasts_S1x1x1x256_S1x256) (maxes s lm))) broadcasts_S1x256_S144x256)
      (shapeCast S144x256 la shapeCasts_S1x1x144x256_S144x256))
    (matmul dot_S144x256_S256x256_S144x256_1_0_0_1_n_n none v
      (truncf .bf16 (exp2 (subf s (broadcastTo S256x256 (maxes s lm) broadcasts_S1x256_S256x256))) bitsLt_bf16_f32)
      (constant S144x256 .f32 0x00000000#32))

theorem maxes_apply (s : FVec Ideal S256x256 .f32) (lm : Vec Ideal S1x1x1x256 .f32) (q : Fin 256) :
    maxes s lm (ix2 0 q) = newMax (lm (ix4 0 0 0 q)) (fun k => s (ix2 k q)) := by
  show max (shapeCast S1x256 lm shapeCasts_S1x1x1x256_S1x256 (ix2 0 q)) (shapeCast S1x256 _ shapeCasts_S256_S1x256 (ix2 0 q)) = _
  rw [cast_11mn, cast_to_1n]
  exact congrArg (max _) (col_max s _ _ _ q)

theorem sums_apply (v : FVec Ideal S144x256 .bf16) (s : FVec Ideal S256x256 .f32) (lm : Vec Ideal S1x1x1x256 .f32)
    (la : Vec Ideal S1x1x144x256 .f32) (r : Fin 144) (q : Fin 256) :
    sums v s lm la (ix2 r q)
      = newSum (lm (ix4 0 0 0 q)) (fun k => s (ix2 k q)) (fun k => v (ix2 r k)) (la (ix4 0 0 r q)) := by
  show broadcastTo S144x256 _ broadcasts_S1x256_S144x256 (ix2 r q) * shapeCast S144x256 la shapeCasts_S1x1x144x256_S144x256 (ix2 r q)
    + FloatOps.matmul (DotDims.plain 144 256 256) none v
      (truncf .bf16 (exp2 (subf s (broadcastTo S256x256 (maxes s lm) broadcasts_S1x256_S256x256))) bitsLt_bf16_f32)
      (constant S144x256 .f32 0x00000000#32) (ix2 r q) = _
  rw [plain_matmul, bcast_row (by decide), cast_11mn]
  show Ideal.exp2 (shapeCast S1x256 lm shapeCasts_S1x1x1x256_S1x256 (ix2 0 q) - maxes s lm (ix2 0 q)) * _ + _ = _
  rw [cast_11mn, maxes_apply]
  unfold newSum
  refine congrArg (_ + ·) (Finset.sum_congr rfl fun k _ => ?_)
  show v (ix2 r k) * Ideal.exp2 (s (ix2 k q) - broadcastTo S256x256 (maxes s lm) broadcasts_S1x256_S256x256 (ix2 k q)) = _
  rw [bcast_row (by decide), maxes_apply]

/-- A tile of scores of both halves of a head. -/
def scores (lk : Vec Ideal S1x256x128 .bf16) (lq : Vec Ideal S1x1x128x512 .bf16) : FVec Ideal S256x512 .f32 :=
  matmul dot_S256x128_S128x512_S256x512_1_0_0_1_n_n none (shapeCast S256x128 lk shapeCasts_S1x256x128_S256x128 : FVec Ideal S256x128 .bf16)
    (shapeCast S128x512 lq shapeCasts_S1x1x128x512_S128x512 : FVec Ideal S128x512 .bf16) (constant S256x512 .f32 0x00000000#32)

theorem scores_apply (lk : Vec Ideal S1x256x128 .bf16) (lq : Vec Ideal S1x1x128x512 .bf16) (k : Fin 256) (l : Fin 512) :
    scores lk lq (ix2 k l) = ∑ f : Fin 128, lk (ix3 0 k f) * lq (ix4 0 0 f l) := by
  show FloatOps.matmul (DotDims.plain 256 128 512) none _ _ (constant S256x512 .f32 0x00000000#32) (ix2 k l) = _
  rw [plain_matmul]
  exact Finset.sum_congr rfl fun f _ => by rw [cast_1mn, cast_11mn]

/-- One half of it. -/
theorem half_apply (x : FVec Ideal S256x512 .f32) (o : ℕ) (h : S256x512.Slices ![0, o] S256x256) (k q : Fin 256) (l : Fin 512) (hl : l.val = o + q.val) :
    shapeCast S1x1x256x256 (extractStridedSlice S256x256 ![0, o] x h) shapeCasts_S256x256_S1x1x256x256 (ix4 0 0 k q) = x (ix2 k l) := by
  rw [cast_to_11mn]
  exact extractStridedSlice_apply _ _ h _ _ fun a => by
    match a with
    | ⟨0, _⟩ => show k.val = 0 + k.val; omega
    | ⟨1, _⟩ => exact hl

/-- The last tile, masked: a query sees the keys up to its own position. -/
def masked (s : FVec Ideal S256x256 .f32) : FVec Ideal S256x256 .f32 :=
  select (cmpi .sle (iota Kind.tc S256x256 32 [0] iota_S256x256_d0_w32) (iota Kind.tc S256x256 32 [1] iota_S256x256_d1_w32)) s
    (broadcast S256x256 (Named.named (F := Ideal) κ "mask" (φ := .f32) 0xF149F2CA#32))

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem masked_apply (s : FVec Ideal S256x256 .f32) (k q : Fin 256) : masked s (ix2 k q) = if k ≤ q then s (ix2 k q) else ⊥ := by
  show Scalar.select (IntOp.cmpi .sle (BitVec.ofNat 32 (0 * 256 + k.val)) (BitVec.ofNat 32 (0 * 256 + q.val))) (s (ix2 k q))
    (Named.named (F := Ideal) κ "mask" (φ := .f32) 0xF149F2CA#32 : EReal) = _
  rw [named_mask, WordCmp.cmpi_sle_ofNat (by have := k.isLt; norm_num; omega) (by have := q.isLt; norm_num; omega), select_ofBool]
  simp only [Nat.zero_mul, Nat.zero_add, Fin.val_fin_le]

/-- A tile of queries, scaled and turned; half of its features kept. -/
def turned (lq : Vec Ideal S1x256x128 .bf16) : FVec Ideal S128x256 .f32 :=
  transpose S128x256 [1, 0] (mulf (extf .f32 (shapeCast S256x128 lq shapeCasts_S1x256x128_S256x128 : FVec Ideal S256x128 .bf16) bitsLt_bf16_f32)
    (broadcast S256x128 (Named.named (F := Ideal) κ "q_scale" (φ := .f32) 0x3E38AA3B#32))) transposes_S256x128_p1_0_S128x256

def kept (c : IVec S128x256 1) (lq : Vec Ideal S1x256x128 .bf16) : FVec Ideal S1x1x128x256 .bf16 :=
  shapeCast S1x1x128x256 (truncf .bf16 (select c (turned lq) (broadcast S128x256 (Scalar.ofBits .f32 0x00000000#32 : Ideal .f32))) bitsLt_bf16_f32)
    shapeCasts_S128x256_S1x1x128x256

def first : IVec S128x256 1 := cmpi .slt (iota Kind.tc S128x256 32 [0] iota_S128x256_d0_w32) (broadcast S128x256 64#32)
def second : IVec S128x256 1 := cmpi .sge (iota Kind.tc S128x256 32 [0] iota_S128x256_d0_w32) (broadcast S128x256 64#32)

theorem turned_apply (lq : Vec Ideal S1x256x128 .bf16) (f : Fin 128) (q : Fin 256) :
    turned lq (ix2 f q) = lq (ix3 0 q f) * (scale : EReal) := by
  unfold turned
  rw [transposed]
  show shapeCast S256x128 lq shapeCasts_S1x256x128_S256x128 (ix2 q f) * (Named.named (F := Ideal) κ "q_scale" (φ := .f32) 0x3E38AA3B#32 : EReal) = _
  rw [cast_1mn, named_scale]

theorem zero_word : (Scalar.ofBits (F := Ideal) .f32 0x00000000#32 : EReal) = 0 := Ideal.ofBits_zero_f32

theorem kept_first (lq : Vec Ideal S1x256x128 .bf16) (f : Fin 128) (q : Fin 256) :
    kept first lq (ix4 0 0 f q) = if f.val < 64 then lq (ix3 0 q f) * (scale : EReal) else 0 := by
  unfold kept
  rw [cast_to_11mn]
  show Scalar.select (IntOp.cmpi .slt (BitVec.ofNat 32 (0 * 128 + f.val)) (BitVec.ofNat 32 64)) (turned lq (ix2 f q)) (Scalar.ofBits (F := Ideal) .f32 0x00000000#32 : EReal) = _
  rw [WordCmp.cmpi_slt_ofNat (by have := f.isLt; norm_num; omega) (by norm_num), select_ofBool, turned_apply, zero_word]
  simp only [Nat.zero_mul, Nat.zero_add]

theorem kept_second (lq : Vec Ideal S1x256x128 .bf16) (f : Fin 128) (q : Fin 256) :
    kept second lq (ix4 0 0 f q) = if 64 ≤ f.val then lq (ix3 0 q f) * (scale : EReal) else 0 := by
  unfold kept
  rw [cast_to_11mn]
  show Scalar.select (IntOp.cmpi .sge (BitVec.ofNat 32 (0 * 128 + f.val)) (BitVec.ofNat 32 64)) (turned lq (ix2 f q)) (Scalar.ofBits (F := Ideal) .f32 0x00000000#32 : EReal) = _
  rw [WordCmp.cmpi_sge_ofNat (by have := f.isLt; norm_num; omega) (by norm_num), select_ofBool, turned_apply, zero_word]
  simp only [Nat.zero_mul, Nat.zero_add]

/-- The float words of the closing of a head. -/
def one : EReal := Scalar.ofBits (F := Ideal) .f32 0x3F800000#32
def width : EReal := Scalar.ofBits (F := Ideal) .f32 0x43000000#32
def eps : EReal := Scalar.ofBits (F := Ideal) .f32 0x358637BD#32
def keep : EReal := Scalar.ofBits (F := Ideal) .f32 0x3F24FD5C#32

/-- A head's normalized difference of two softmaxes, at one of its coordinates. -/
def closing (o g : Fin 128 → EReal) (d : Fin 128) : EReal :=
  o d * FloatOps.rsqrt (F := Ideal) (φ := .f32) (FloatOps.divf (F := Ideal) (φ := .f32) (∑ e : Fin 128, o e * o e) width + eps) * (g d * keep)

/-- The sums of a half divided by its sum of ones. -/
def quotients (la : Vec Ideal S1x1x128x256 .f32) (ll : Vec Ideal S1x1x1x256 .f32) : FVec Ideal S128x256 .f32 :=
  mulf (shapeCast S128x256 la shapeCasts_S1x1x128x256_S128x256)
    (broadcastTo S128x256 (divf (broadcast S1x256 (one : Ideal .f32)) (shapeCast S1x256 ll shapeCasts_S1x1x1x256_S1x256)) broadcasts_S1x256_S128x256)

def difference (lam : FVec Ideal S1x1 .f32) (x y : FVec Ideal S128x256 .f32) : FVec Ideal S128x256 .f32 :=
  subf x (mulf (broadcastTo S128x256 lam broadcasts_S1x1_S128x256) y)

def normed (o : FVec Ideal S128x256 .f32) (g : Vec Ideal S128x1 .f32) : FVec Ideal S128x256 .f32 :=
  mulf (mulf o (broadcastTo S128x256 (rsqrt (addf (divf (shapeCast S1x256 (multiReduction .add [0] S256 (mulf o o) 0x00000000#32 reduces_S128x256_S256 (.inl rfl) rfl)
      shapeCasts_S256_S1x256) (broadcast S1x256 (width : Ideal .f32))) (broadcast S1x256 (eps : Ideal .f32)))) broadcasts_S1x256_S128x256))
    (broadcastTo S128x256 (mulf (shapeCast S128x1 g shapeCasts_S128x1_S128x1) (broadcast S128x1 (keep : Ideal .f32))) broadcasts_S128x1_S128x256)

def closed (o : FVec Ideal S128x256 .f32) (g : Vec Ideal S128x1 .f32) : FVec Ideal S1x256x128 .bf16 :=
  shapeCast S1x256x128 (truncf .bf16 (transpose S256x128 [1, 0] (normed o g) transposes_S128x256_p1_0_S256x128) bitsLt_bf16_f32)
    shapeCasts_S256x128_S1x256x128

theorem quotients_apply (la : Vec Ideal S1x1x128x256 .f32) (ll : Vec Ideal S1x1x1x256 .f32) (d : Fin 128) (q : Fin 256) :
    quotients la ll (ix2 d q) = la (ix4 0 0 d q) * FloatOps.divf (F := Ideal) (φ := .f32) one (ll (ix4 0 0 0 q)) := by
  show shapeCast S128x256 la shapeCasts_S1x1x128x256_S128x256 (ix2 d q) * broadcastTo S128x256 _ broadcasts_S1x256_S128x256 (ix2 d q) = _
  rw [cast_11mn, bcast_row (by decide)]
  show _ * FloatOps.divf (F := Ideal) (φ := .f32) one (shapeCast S1x256 ll shapeCasts_S1x1x1x256_S1x256 (ix2 0 q)) = _
  rw [cast_11mn]

theorem difference_apply (lam : FVec Ideal S1x1 .f32) (x y : FVec Ideal S128x256 .f32) (d : Fin 128) (q : Fin 256) :
    difference lam x y (ix2 d q) = x (ix2 d q) - lam (ix2 0 0) * y (ix2 d q) := by
  show x (ix2 d q) - broadcastTo S128x256 lam broadcasts_S1x1_S128x256 (ix2 d q) * y (ix2 d q) = _
  rw [broadcastTo_apply lam broadcasts_S1x1_S128x256 (ix2 d q) (ix2 0 0) fun a => by
    match a with
    | ⟨0, _⟩ => rfl
    | ⟨1, _⟩ => rfl]

theorem closed_apply (o : FVec Ideal S128x256 .f32) (g : Vec Ideal S128x1 .f32) (q : Fin 256) (d : Fin 128) :
    closed o g (ix3 0 q d) = closing (fun d => o (ix2 d q)) (fun d => g (ix2 d 0)) d := by
  unfold closed
  rw [cast_to_1mn]
  show transpose S256x128 [1, 0] (normed o g) transposes_S128x256_p1_0_S256x128 (ix2 q d) = _
  rw [transposed]
  unfold normed
  show o (ix2 d q) * broadcastTo S128x256 _ broadcasts_S1x256_S128x256 (ix2 d q) * broadcastTo S128x256 _ broadcasts_S128x1_S128x256 (ix2 d q) = _
  rw [bcast_row (by decide), bcast_col (by decide)]
  show o (ix2 d q) * FloatOps.rsqrt (F := Ideal) (φ := .f32) (FloatOps.divf (F := Ideal) (φ := .f32)
      (shapeCast S1x256 _ shapeCasts_S256_S1x256 (ix2 0 q)) width + eps) * (shapeCast S128x1 g shapeCasts_S128x1_S128x1 (ix2 d 0) * keep) = _
  rw [cast_to_1n, cast_self]
  unfold closing
  refine congrArg (fun x => o (ix2 d q) * FloatOps.rsqrt (F := Ideal) (φ := .f32) (FloatOps.divf (F := Ideal) (φ := .f32) x width + eps) * (g (ix2 d 0) * keep)) ?_
  exact col_sum (mulf o o) _ _ _ q

end Cert.Proof.AttnPayload

end
-- ==== Proof.AttnTiles.lean ====
/- The attention's scratch arrays in coordinates - head, half, key or row, query - and what one stored piece, one head's half of
   such an array, holds there. -/
module

public import proofs.«01_k».proof.Proof.AttnPayload
public import Idealize.ShloMosaic.Lib.Pipeline.ValueKit.Tiles
public import Idealize.ShloMosaic.Lib.Writes

@[expose] public section

noncomputable section

namespace Cert.Proof.AttnTiles

open Cert.KernelIdeal Cert.KernelIdeal.Gen Idealize.ShloMosaic Idealize.ShloMosaic.ValueIdx Cert.Proof.AttnOnline Cert.Proof.AttnPayload

/-- An array of four axes, by its coordinates. -/
def by4 {α : Type} {a b c d : Nat} (g : Fin a → Fin b → Fin c → Fin d → α) : (⟨4, ![a, b, c, d]⟩ : Shape).Idx → α := fun y => g (y 0) (y 1) (y 2) (y 3)

/-- Scores, maxima and sums: head, half, (key, nothing, row), query. -/
abbrev Scores := Fin 8 → Fin 2 → Fin 256 → Fin 256 → EReal
abbrev Maxes := Fin 8 → Fin 2 → Fin 1 → Fin 256 → EReal
abbrev Sums := Fin 8 → Fin 2 → Fin 144 → Fin 256 → EReal

/-- The lane of a query of a half. -/
def lane (s : Fin 2) (q : Fin 256) : Fin 512 := ⟨256 * s.val + q.val, by omega⟩

/-- The row of the value tiles that holds a head's row. -/
theorem vrow_lt (h : Fin 8) (r : Fin 144) : 144 * h.val + r.val < 1152 := by omega

/-- The scores of key tile `j`, the new maxima, and the new sums. -/
def score (K : Fin 8 → ℕ → Fin 128 → ℝ) (Q : Fin 8 → Fin 128 → Fin 512 → EReal) (j : ℕ) : Scores := fun h s k q =>
  ∑ f : Fin 128, ((K h (256 * j + k.val) f : ℝ) : EReal) * Q h f (lane s q)

def tops (S : Scores) (M : Maxes) : Maxes := fun h s z q => newMax (M h s z q) (fun k => S h s k q)

def accs (V : Fin 8 → Fin 144 → ℕ → ℝ) (j : ℕ) (S : Scores) (M : Maxes) (A : Sums) : Sums := fun h s r q =>
  newSum (M h s 0 q) (fun k => S h s k q) (fun k => ((V h r (256 * j + k.val) : ℝ) : EReal)) (A h s r q)

/-- A load of a rectangle of unit strides reads at its offsets plus the index. -/
theorem readAt_of {sig : RefSig} {κ : Kind} {sp : Space} {s : Shape} {e : EltTy} {Val : EltTy → Type} (v : View sig κ sp s e)
    (f : v.ty.Contents Val) {off off' size : Fin s.rank → Nat} (inb : ∀ a, off a + size a ≤ s.size a) (hoff : off = off')
    (x : (Rect.unit off size inb).shape.Idx) (i : s.Idx) (hi : ∀ a, (i a : Nat) = off' a + x a) :
    v.readAt Val (Rect.unit off size inb).toLoadRect f x = v.read Val f i := by
  subst hoff
  exact View.ld_unit_apply_of (v.read Val f) off size inb x i hi

variable {h s : ℕ} (hh : h < 8) (hs : s < 2)

theorem emb4 {a b c d : ℕ} (ha : h < a) (hb : s < b) (inb : ∀ i, (![h, s, 0, 0] : Fin 4 → ℕ) i + (![1, 1, c, d] : Fin 4 → ℕ) i ≤ (⟨4, ![a, b, c, d]⟩ : Shape).size i)
    (p : Fin c) (q : Fin d) :
    (Rect.unit (s := ⟨4, ![a, b, c, d]⟩) ![h, s, 0, 0] ![1, 1, c, d] inb).emb (ix4 0 0 p q) = ix4 ⟨h, ha⟩ ⟨s, hb⟩ p q :=
  funext fun i => Fin.ext (by
    match i with
    | ⟨0, _⟩ => show h + 1 * 0 = h; omega
    | ⟨1, _⟩ => show s + 1 * 0 = s; omega
    | ⟨2, _⟩ => show 0 + 1 * p.val = p.val; omega
    | ⟨3, _⟩ => show 0 + 1 * q.val = q.val; omega)

/-- A piece that is one head's half of an array holds the array's elements there. -/
theorem piece4 {c d : ℕ} (g : Fin 8 → Fin 2 → Fin c → Fin d → EReal) (inb) (w : (⟨4, ![1, 1, c, d]⟩ : Shape).Idx → EReal)
    (hw : ∀ p q, w (ix4 0 0 p q) = g ⟨h, hh⟩ ⟨s, hs⟩ p q) (x : (⟨4, ![1, 1, c, d]⟩ : Shape).Idx) :
    w x = by4 g ((Rect.unit (s := ⟨4, ![8, 2, c, d]⟩) ![h, s, 0, 0] ![1, 1, c, d] inb).emb x) := by
  obtain ⟨p, q, rfl⟩ : ∃ (p : Fin c) (q : Fin d), x = ix4 0 0 p q := by
    refine ⟨x 2, x 3, (eq_ix4 x).trans ?_⟩
    congr 1
    · exact Subsingleton.elim (α := Fin 1) _ _
    · exact Subsingleton.elim (α := Fin 1) _ _
  exact (hw p q).trans (congrArg (by4 g) (emb4 hh hs inb p q)).symm

theorem at_tops (S : Scores) (M : Maxes) (sc : FVec Ideal S256x256 .f32) (lm : Vec Ideal S1x1x1x256 .f32)
    (hsc : ∀ k q, sc (ix2 k q) = S ⟨h, hh⟩ ⟨s, hs⟩ k q) (hlm : ∀ q, lm (ix4 0 0 0 q) = M ⟨h, hh⟩ ⟨s, hs⟩ 0 q) (p : Fin 1) (q : Fin 256) :
    shapeCast S1x1x1x256 (maxes sc lm) shapeCasts_S1x256_S1x1x1x256 (ix4 0 0 p q) = tops S M ⟨h, hh⟩ ⟨s, hs⟩ p q := by
  obtain rfl : p = 0 := Subsingleton.elim _ _
  rw [cast_to_11mn, maxes_apply, hlm, funext fun k => hsc k q]
  rfl

theorem piece_tops (S : Scores) (M : Maxes) (inb) (sc : FVec Ideal S256x256 .f32) (lm : Vec Ideal S1x1x1x256 .f32)
    (hsc : ∀ k q, sc (ix2 k q) = S ⟨h, hh⟩ ⟨s, hs⟩ k q) (hlm : ∀ q, lm (ix4 0 0 0 q) = M ⟨h, hh⟩ ⟨s, hs⟩ 0 q) (x : S1x1x1x256.Idx) :
    shapeCast S1x1x1x256 (maxes sc lm) shapeCasts_S1x256_S1x1x1x256 x
      = by4 (tops S M) ((Rect.unit (s := S8x2x1x256) ![h, s, 0, 0] ![1, 1, 1, 256] inb).emb x) :=
  piece4 hh hs (tops S M) inb _ (at_tops hh hs S M sc lm hsc hlm) x

theorem at_accs (V : Fin 8 → Fin 144 → ℕ → ℝ) (j : ℕ) (S : Scores) (M : Maxes) (A : Sums) (v : FVec Ideal S144x256 .bf16)
    (sc : FVec Ideal S256x256 .f32) (lm : Vec Ideal S1x1x1x256 .f32) (la : Vec Ideal S1x1x144x256 .f32)
    (hv : ∀ r k, v (ix2 r k) = ((V ⟨h, hh⟩ r (256 * j + k.val) : ℝ) : EReal))
    (hsc : ∀ k q, sc (ix2 k q) = S ⟨h, hh⟩ ⟨s, hs⟩ k q) (hlm : ∀ q, lm (ix4 0 0 0 q) = M ⟨h, hh⟩ ⟨s, hs⟩ 0 q)
    (hla : ∀ r q, la (ix4 0 0 r q) = A ⟨h, hh⟩ ⟨s, hs⟩ r q) (r : Fin 144) (q : Fin 256) :
    shapeCast S1x1x144x256 (sums v sc lm la) shapeCasts_S144x256_S1x1x144x256 (ix4 0 0 r q) = accs V j S M A ⟨h, hh⟩ ⟨s, hs⟩ r q := by
  rw [cast_to_11mn, sums_apply, hlm, hla, funext fun k => hsc k q, funext fun k => hv r k]
  rfl

theorem piece_accs (V : Fin 8 → Fin 144 → ℕ → ℝ) (j : ℕ) (S : Scores) (M : Maxes) (A : Sums) (inb) (v : FVec Ideal S144x256 .bf16)
    (sc : FVec Ideal S256x256 .f32) (lm : Vec Ideal S1x1x1x256 .f32) (la : Vec Ideal S1x1x144x256 .f32)
    (hv : ∀ r k, v (ix2 r k) = ((V ⟨h, hh⟩ r (256 * j + k.val) : ℝ) : EReal))
    (hsc : ∀ k q, sc (ix2 k q) = S ⟨h, hh⟩ ⟨s, hs⟩ k q) (hlm : ∀ q, lm (ix4 0 0 0 q) = M ⟨h, hh⟩ ⟨s, hs⟩ 0 q)
    (hla : ∀ r q, la (ix4 0 0 r q) = A ⟨h, hh⟩ ⟨s, hs⟩ r q) (x : S1x1x144x256.Idx) :
    shapeCast S1x1x144x256 (sums v sc lm la) shapeCasts_S144x256_S1x1x144x256 x
      = by4 (accs V j S M A) ((Rect.unit (s := S8x2x144x256) ![h, s, 0, 0] ![1, 1, 144, 256] inb).emb x) :=
  piece4 hh hs (accs V j S M A) inb _ (at_accs hh hs V j S M A v sc lm la hv hsc hlm hla) x

include hs in
theorem at_score (K : Fin 8 → ℕ → Fin 128 → ℝ) (Q : Fin 8 → Fin 128 → Fin 512 → EReal) (j : ℕ)
    (lk : Vec Ideal S1x256x128 .bf16) (lq : Vec Ideal S1x1x128x512 .bf16) (o : ℕ) (ho : o = 256 * s) (hsl : S256x512.Slices ![0, o] S256x256)
    (hlk : ∀ k f, lk (ix3 0 k f) = ((K ⟨h, hh⟩ (256 * j + k.val) f : ℝ) : EReal)) (hlq : ∀ f l, lq (ix4 0 0 f l) = Q ⟨h, hh⟩ f l)
    (k q : Fin 256) :
    shapeCast S1x1x256x256 (extractStridedSlice S256x256 ![0, o] (scores lk lq) hsl) shapeCasts_S256x256_S1x1x256x256 (ix4 0 0 k q)
      = score K Q j ⟨h, hh⟩ ⟨s, hs⟩ k q := by
  rw [half_apply _ o hsl k q (lane ⟨s, hs⟩ q) (by rw [ho]; rfl), scores_apply]
  exact Finset.sum_congr rfl fun f _ => by rw [hlk, hlq]

include hs in
theorem piece_score (K : Fin 8 → ℕ → Fin 128 → ℝ) (Q : Fin 8 → Fin 128 → Fin 512 → EReal) (j : ℕ) (inb)
    (lk : Vec Ideal S1x256x128 .bf16) (lq : Vec Ideal S1x1x128x512 .bf16) (o : ℕ) (ho : o = 256 * s) (hsl : S256x512.Slices ![0, o] S256x256)
    (hlk : ∀ k f, lk (ix3 0 k f) = ((K ⟨h, hh⟩ (256 * j + k.val) f : ℝ) : EReal)) (hlq : ∀ f l, lq (ix4 0 0 f l) = Q ⟨h, hh⟩ f l)
    (x : S1x1x256x256.Idx) :
    shapeCast S1x1x256x256 (extractStridedSlice S256x256 ![0, o] (scores lk lq) hsl) shapeCasts_S256x256_S1x1x256x256 x
      = by4 (score K Q j) ((Rect.unit (s := S8x2x256x256) ![h, s, 0, 0] ![1, 1, 256, 256] inb).emb x) :=
  piece4 hh hs (score K Q j) inb _ (at_score hh hs K Q j lk lq o ho hsl hlk hlq) x

/-- A load of one head's half of a scratch array. -/
theorem load4 {sig : RefSig} {κ : Kind} {sp : Space} {e : EltTy} {c d : ℕ} {Val : EltTy → Type} (v : View sig κ sp ⟨4, ![8, 2, c, d]⟩ e) (f : v.ty.Contents Val)
    (inb) (p : Fin c) (q : Fin d) :
    v.readAt Val (Rect.unit (s := ⟨4, ![8, 2, c, d]⟩) ![h, s, 0, 0] ![1, 1, c, d] inb).toLoadRect f (ix4 0 0 p q) = v.read Val f (ix4 ⟨h, hh⟩ ⟨s, hs⟩ p q) :=
  readAt_of v f inb rfl _ _ fun i => by
    match i with
    | ⟨0, _⟩ => show h = h + 0; omega
    | ⟨1, _⟩ => show s = s + 0; omega
    | ⟨2, _⟩ => show p.val = 0 + p.val; omega
    | ⟨3, _⟩ => show q.val = 0 + q.val; omega

/-- A load of a tile of one head's rows. -/
theorem load3 {sig : RefSig} {κ : Kind} {sp : Space} {e : EltTy} {a b c d : ℕ} {Val : EltTy → Type} (v : View sig κ sp ⟨3, ![a, b, d]⟩ e) (f : v.ty.Contents Val)
    {off : Fin 3 → ℕ} (inb) (h o : ℕ) (hoff : off = ![h, o, 0]) (ha : h < a) (p : Fin c) (hp : o + p.val < b) (q : Fin d) :
    v.readAt Val (Rect.unit (s := ⟨3, ![a, b, d]⟩) off ![1, c, d] inb).toLoadRect f (ix3 0 p q) = v.read Val f (ix3 ⟨h, ha⟩ ⟨o + p.val, hp⟩ q) :=
  readAt_of v f inb hoff _ _ fun i => by
    match i with
    | ⟨0, _⟩ => show h = h + 0; omega
    | ⟨1, _⟩ => show o + p.val = o + p.val; rfl
    | ⟨2, _⟩ => show q.val = 0 + q.val; omega

/-- A load of one slot's head of the staged queries. -/
theorem loadq {sig : RefSig} {κ : Kind} {sp : Space} {e : EltTy} {Val : EltTy → Type} (v : View sig κ sp S2x8x128x512 e) (f : v.ty.Contents Val)
    {off : Fin 4 → ℕ} (inb) (z h : ℕ) (hoff : off = ![z, h, 0, 0]) (hz : z < 2) (hh : h < 8) (p : Fin 128) (q : Fin 512) :
    v.readAt Val (Rect.unit (s := S2x8x128x512) off ![1, 1, 128, 512] inb).toLoadRect f (ix4 0 0 p q) = v.read Val f (ix4 ⟨z, hz⟩ ⟨h, hh⟩ p q) :=
  readAt_of v f inb hoff _ _ fun i => by
    match i with
    | ⟨0, _⟩ => show z = z + 0; omega
    | ⟨1, _⟩ => show h = h + 0; omega
    | ⟨2, _⟩ => show p.val = 0 + p.val; omega
    | ⟨3, _⟩ => show q.val = 0 + q.val; omega

end Cert.Proof.AttnTiles

end
-- ==== Proof.AttnInner.lean ====
/- One trip of the attention's inner loop, in coordinates: the maxima and the sums take in the scores held, which the scores of the
   next key tile replace. -/
module

public import proofs.«01_k».proof.Proof.AttnTiles
public import proofs.«01_k».proof.Proof.AttnTrip

@[expose] public section

set_option maxRecDepth 16384

noncomputable section

namespace Cert.Proof.AttnInner

open Cert.KernelIdeal Cert.KernelIdeal.Gen Idealize.ShloMosaic Idealize.ShloMosaic.ValueIdx
open Cert.Proof.AttnOnline Cert.Proof.AttnPayload Cert.Proof.AttnTiles

variable (c : Dev nD) (i : grid0.Coords) {arg2 : Memref sig .tc .vmem S8x2048x128 .bf16} (harg2 : arg2.IsWhole) {arg3 : Memref sig .tc .vmem S8x2048x128 .bf16} (harg3 : arg3.IsWhole) {arg4 : Memref sig .tc .vmem S8x1152x256 .bf16} (harg4 : arg4.IsWhole) {arg5 : Memref sig .tc .vmem S4x64 .f32} (harg5 : arg5.IsWhole) {arg6 : Memref sig .tc .vmem S128x1 .f32} (harg6 : arg6.IsWhole) {arg7 : Memref sig .tc .vmem S1x2048x1024 .bf16} (harg7 : arg7.IsWhole) {arg8 : Memref sig .tc .vmem S2x8x128x512 .bf16} (harg8 : arg8.IsWhole) {arg9 : Memref sig .tc .vmem S8x2x256x256 .f32} (harg9 : arg9.IsWhole) {arg10 : Memref sig .tc .vmem S8x2x1x256 .f32} (harg10 : arg10.IsWhole) {arg11 : Memref sig .tc .vmem S8x2x144x256 .f32} (harg11 : arg11.IsWhole)
  (v16 : IVec S128x256 32) (c0 c1 : BitVec 32) (k1 : Fin k0_t1_loop.trips) (v335 : BitVec 32)
  (X3 : BufTy.Contents (Elt Ideal) arg3.view.ty) (X4 : BufTy.Contents (Elt Ideal) arg4.view.ty) (X8 : BufTy.Contents (Elt Ideal) arg8.view.ty)

/-- The lists of one trip. -/
abbrev lists := trip_k0_t2 (F := Ideal) Variants.none c none i arg2 harg2 arg3 harg3 arg4 harg4 arg5 harg5 arg6 harg6 arg7 harg7 arg8 harg8 arg9 harg9 arg10 harg10 arg11 harg11 v16 c0 c1 k1 v335 X3 X4 X8

variable (k : Fin (k0_t2_loop k1).trips)
  (f9 : BufTy.Contents (Elt Ideal) arg9.view.ty) (f10 : BufTy.Contents (Elt Ideal) arg10.view.ty) (f11 : BufTy.Contents (Elt Ideal) arg11.view.ty)
  {S : Scores} {M : Maxes}
  (hS : ∀ h s k q, arg9.view.read (Elt Ideal) f9 (ix4 h s k q) = S h s k q) (hM : ∀ h s z q, arg10.view.read (Elt Ideal) f10 (ix4 h s z q) = M h s z q)

include hS hM in
theorem tops_pieces : ∀ p ∈ (lists c i harg2 harg3 harg4 harg5 harg6 harg7 harg8 harg9 harg10 harg11 v16 c0 c1 k1 v335 X3 X4 X8 k).2.1 f9 f10 f11, ∀ x, p.2 x = by4 (tops S M) (p.1.emb x) := by
  unfold lists trip_k0_t2
  dsimp only
  iterate 16
    refine List.forall_mem_cons.2 ⟨fun x => (piece_tops (by decide) (by decide) S M (by decide) _ _ (fun k q => ?_) (fun q => ?_) x), ?_⟩
    · exact (cast_11mn _ _ _ _).trans ((load4 (by decide) (by decide) _ _ _ _ _).trans (hS _ _ _ _))
    · exact (load4 (by decide) (by decide) _ _ _ _ _).trans (hM _ _ _ _)
  exact fun _ h => absurd h List.not_mem_nil

variable {A : Sums} {W : Fin 8 → Fin 144 → ℕ → ℝ} {K : Fin 8 → ℕ → Fin 128 → ℝ} {Q : Fin 8 → Fin 128 → Fin 512 → EReal}
  (hA : ∀ h s r q, arg11.view.read (Elt Ideal) f11 (ix4 h s r q) = A h s r q)
  (hW : ∀ (j : Fin 8) (h : Fin 8) (r : Fin 144) (k : Fin 256), arg4.view.read (Elt Ideal) X4 (ix3 j ⟨144 * h.val + r.val, vrow_lt h r⟩ k) = ((W h r (256 * j.val + k.val) : ℝ) : EReal))
  (hK : ∀ (h : Fin 8) (t : Fin 2048) (f : Fin 128), arg3.view.read (Elt Ideal) X3 (ix3 h t f) = ((K h t.val f : ℝ) : EReal))
  (hQ : ∀ (h : Fin 8) (f : Fin 128) (l : Fin 512), arg8.view.read (Elt Ideal) X8 (ix4 ⟨k1.val % 2, Nat.mod_lt _ (by decide)⟩ h f l) = Q h f l)

theorem inner_lt : k.val < 7 := lt_of_lt_of_le k.isLt (k0_t2_abs k1).2.1

include hS hM hA hW in
theorem accs_pieces : ∀ p ∈ (lists c i harg2 harg3 harg4 harg5 harg6 harg7 harg8 harg9 harg10 harg11 v16 c0 c1 k1 v335 X3 X4 X8 k).2.2.1 f9 f10 f11, ∀ x, p.2 x = by4 (accs W k.val S M A) (p.1.emb x) := by
  have hk := inner_lt k1 k
  unfold lists trip_k0_t2
  dsimp only
  iterate 16
    refine List.forall_mem_cons.2 ⟨fun x => (piece_accs (by decide) (by decide) W k.val S M A (by decide) _ _ _ _ (fun r k => ?_) (fun k q => ?_) (fun q => ?_) (fun r q => ?_) x), ?_⟩
    · exact (cast_1mn _ _ _ _).trans ((load3 _ _ _ _ _ (ClosedOff.eq) (lt_of_lt_of_le hk (by decide)) _ (by omega) _).trans (hW ⟨_, lt_of_lt_of_le hk (by decide)⟩ ⟨_, by decide⟩ r k))
    · exact (cast_11mn _ _ _ _).trans ((load4 (by decide) (by decide) _ _ _ _ _).trans (hS _ _ _ _))
    · exact (load4 (by decide) (by decide) _ _ _ _ _).trans (hM _ _ _ _)
    · exact (load4 (by decide) (by decide) _ _ _ _ _).trans (hA _ _ _ _)
  exact fun _ h => absurd h List.not_mem_nil

include hK hQ in
theorem score_pieces : ∀ p ∈ (lists c i harg2 harg3 harg4 harg5 harg6 harg7 harg8 harg9 harg10 harg11 v16 c0 c1 k1 v335 X3 X4 X8 k).1 f9 f10 f11, ∀ x, p.2 x = by4 (score K Q (k.val + 1)) (p.1.emb x) := by
  have hk := inner_lt k1 k
  unfold lists trip_k0_t2
  dsimp only
  iterate 16
    refine List.forall_mem_cons.2 ⟨fun x => (piece_score (by decide) (by decide) K Q (k.val + 1) (by decide) _ _ _ (by decide) (by decide) (fun r f => ?_) (fun f l => ?_) x), ?_⟩
    · exact (load3 _ _ _ _ _ (ClosedOff.eq) (by decide) _ (by omega) _).trans (hK ⟨_, by decide⟩ ⟨_, by omega⟩ f)
    · exact (loadq _ _ _ _ _ (by clear * -; revert k1; decide +kernel) _ (by decide) _ _).trans (hQ _ _ _)
  exact fun _ h => absurd h List.not_mem_nil

theorem score_cover : ∀ y, ∃ p ∈ (lists c i harg2 harg3 harg4 harg5 harg6 harg7 harg8 harg9 harg10 harg11 v16 c0 c1 k1 v335 X3 X4 X8 k).1 f9 f10 f11, y ∈ p.1.set := by
  unfold lists trip_k0_t2
  exact View.cover_of_tiled _ ![1, 1, 256, 256] rfl

theorem tops_cover : ∀ y, ∃ p ∈ (lists c i harg2 harg3 harg4 harg5 harg6 harg7 harg8 harg9 harg10 harg11 v16 c0 c1 k1 v335 X3 X4 X8 k).2.1 f9 f10 f11, y ∈ p.1.set := by
  unfold lists trip_k0_t2
  exact View.cover_of_tiled _ ![1, 1, 1, 256] rfl

theorem accs_cover : ∀ y, ∃ p ∈ (lists c i harg2 harg3 harg4 harg5 harg6 harg7 harg8 harg9 harg10 harg11 v16 c0 c1 k1 v335 X3 X4 X8 k).2.2.1 f9 f10 f11, y ∈ p.1.set := by
  unfold lists trip_k0_t2
  exact View.cover_of_tiled _ ![1, 1, 144, 256] rfl

/-- What `n` key tiles taken in leave: the scores of the next tile, the maxima and the sums. -/
def after (K : Fin 8 → ℕ → Fin 128 → ℝ) (Q : Fin 8 → Fin 128 → Fin 512 → EReal) (W : Fin 8 → Fin 144 → ℕ → ℝ) (M : Maxes) (A : Sums) : ℕ → Maxes × Sums
  | 0 => (M, A)
  | n + 1 => (tops (score K Q n) (after K Q W M A n).1, accs W n (score K Q n) (after K Q W M A n).1 (after K Q W M A n).2)

/-- The lists of the trips before one. -/
abbrev before := pb_k0_t2 (F := Ideal) Variants.none c none i arg2 harg2 arg3 harg3 arg4 harg4 arg5 harg5 arg6 harg6 arg7 harg7 arg8 harg8 arg9 harg9 arg10 harg10 arg11 harg11 v16 c0 c1 k1 v335 X3 X4 X8 f9 f10 f11

variable (hS0 : ∀ h s k q, arg9.view.read (Elt Ideal) f9 (ix4 h s k q) = score K Q 0 h s k q)

include hS0 hM hA hW hK hQ in
theorem inner (n : ℕ) (hn : n ≤ (k0_t2_loop k1).trips) :
    (∀ h s k q, arg9.view.read (Elt Ideal) (arg9.view.writes (Elt Ideal) f9 (before c i harg2 harg3 harg4 harg5 harg6 harg7 harg8 harg9 harg10 harg11 v16 c0 c1 k1 v335 X3 X4 X8 f9 f10 f11 n).1) (ix4 h s k q) = score K Q n h s k q)
      ∧ (∀ h s z q, arg10.view.read (Elt Ideal) (arg10.view.writes (Elt Ideal) f10 (before c i harg2 harg3 harg4 harg5 harg6 harg7 harg8 harg9 harg10 harg11 v16 c0 c1 k1 v335 X3 X4 X8 f9 f10 f11 n).2.1) (ix4 h s z q) = (after K Q W M A n).1 h s z q)
      ∧ (∀ h s r q, arg11.view.read (Elt Ideal) (arg11.view.writes (Elt Ideal) f11 (before c i harg2 harg3 harg4 harg5 harg6 harg7 harg8 harg9 harg10 harg11 v16 c0 c1 k1 v335 X3 X4 X8 f9 f10 f11 n).2.2) (ix4 h s r q) = (after K Q W M A n).2 h s r q) := by
  induction n with
  | zero => exact ⟨hS0, hM, hA⟩
  | succ n ih =>
    obtain ⟨i1, i2, i3⟩ := ih (by omega)
    have e := pb_k0_t2_succ (F := Ideal) Variants.none c none i arg2 harg2 arg3 harg3 arg4 harg4 arg5 harg5 arg6 harg6 arg7 harg7 arg8 harg8 arg9 harg9 arg10 harg10 arg11 harg11 v16 c0 c1 k1 v335 X3 X4 X8 f9 f10 f11 ⟨n, hn⟩
    refine ⟨fun h s k q => ?_, fun h s z q => ?_, fun h s r q => ?_⟩
    · refine (congrArg (fun L : _ × _ × _ => arg9.view.read (Elt Ideal) (arg9.view.writes (Elt Ideal) f9 L.1) (ix4 h s k q)) e).trans ?_
      dsimp only
      rw [View.writes_append]
      exact View.read_writes_apply_of_pieces _ _ (by4 (score K Q (n + 1))) _ (score_pieces c i harg2 harg3 harg4 harg5 harg6 harg7 harg8 harg9 harg10 harg11 v16 c0 c1 k1 v335 X3 X4 X8 ⟨n, hn⟩ _ _ _ hK hQ) _ (score_cover c i harg2 harg3 harg4 harg5 harg6 harg7 harg8 harg9 harg10 harg11 v16 c0 c1 k1 v335 X3 X4 X8 ⟨n, hn⟩ _ _ _ _)
    · refine (congrArg (fun L : _ × _ × _ => arg10.view.read (Elt Ideal) (arg10.view.writes (Elt Ideal) f10 L.2.1) (ix4 h s z q)) e).trans ?_
      dsimp only
      rw [View.writes_append]
      exact View.read_writes_apply_of_pieces _ _ (by4 (after K Q W M A (n + 1)).1) _ (tops_pieces c i harg2 harg3 harg4 harg5 harg6 harg7 harg8 harg9 harg10 harg11 v16 c0 c1 k1 v335 X3 X4 X8 ⟨n, hn⟩ _ _ _ i1 i2) _ (tops_cover c i harg2 harg3 harg4 harg5 harg6 harg7 harg8 harg9 harg10 harg11 v16 c0 c1 k1 v335 X3 X4 X8 ⟨n, hn⟩ _ _ _ _)
    · refine (congrArg (fun L : _ × _ × _ => arg11.view.read (Elt Ideal) (arg11.view.writes (Elt Ideal) f11 L.2.2) (ix4 h s r q)) e).trans ?_
      dsimp only
      rw [View.writes_append]
      exact View.read_writes_apply_of_pieces _ _ (by4 (after K Q W M A (n + 1)).2) _ (accs_pieces c i harg2 harg3 harg4 harg5 harg6 harg7 harg8 harg9 harg10 harg11 v16 c0 c1 k1 v335 X3 X4 X8 ⟨n, hn⟩ _ _ _ i1 i2 i3 hW) _ (accs_cover c i harg2 harg3 harg4 harg5 harg6 harg7 harg8 harg9 harg10 harg11 v16 c0 c1 k1 v335 X3 X4 X8 ⟨n, hn⟩ _ _ _ _)

end Cert.Proof.AttnInner

end
-- ==== Proof.AttnWrites.lean ====
/- Arrays written one head's half at a time, the halves in order: after `n` of the sixteen the first `n` halves are new and the
   others are as before, whatever was there. -/
module

public import proofs.«01_k».proof.Proof.AttnTiles
public import Idealize.ShloMosaic.Lib.WritesUnit

@[expose] public section

noncomputable section

namespace Cert.Proof.AttnWrites

open Cert.KernelIdeal Cert.KernelIdeal.Gen Idealize.ShloMosaic Idealize.ShloMosaic.ValueIdx Cert.Proof.AttnTiles

variable {sig : RefSig} {κ : Kind} {sp : Space} {c d : ℕ} (v : View sig κ sp ⟨4, ![8, 2, c, d]⟩ .f32)
  (B : List (View.Piece (Elt Ideal) ⟨4, ![8, 2, c, d]⟩ .f32)) (new : Fin 8 → Fin 2 → Fin c → Fin d → EReal)

/-- The first `n` halves are new, the others are as the pieces `B` left them. -/
def Prefix (n : ℕ) (L : List (View.Piece (Elt Ideal) ⟨4, ![8, 2, c, d]⟩ .f32)) : Prop :=
  ∀ (f : v.ty.Contents (Elt Ideal)) (h : Fin 8) (s : Fin 2) (p : Fin c) (q : Fin d),
    v.read (Elt Ideal) (v.writes (Elt Ideal) f L) (ix4 h s p q)
      = if 2 * h.val + s.val < n then new h s p q else v.read (Elt Ideal) (v.writes (Elt Ideal) f B) (ix4 h s p q)

/-- The same of a list and of its tails. -/
def Below : ℕ → List (View.Piece (Elt Ideal) ⟨4, ![8, 2, c, d]⟩ .f32) → Prop
  | 0, L => L = B
  | n + 1, L => Prefix v B new (n + 1) L ∧ Below n L.tail

variable {v B new}

theorem Below.pre : {n : ℕ} → {L : List (View.Piece (Elt Ideal) ⟨4, ![8, 2, c, d]⟩ .f32)} → Below v B new n L → Prefix v B new n L
  | 0, _, h => by
    have h' : _ = B := h
    subst h'
    exact fun f h s p q => (if_neg (Nat.not_lt_zero _)).symm
  | _ + 1, _, h => h.1

theorem Below.drop : (m : ℕ) → {n : ℕ} → {L : List (View.Piece (Elt Ideal) ⟨4, ![8, 2, c, d]⟩ .f32)} → Below v B new (n + m) L → Below v B new n (L.drop m)
  | 0, _, _, h => h
  | m + 1, n, L, h => by
    have h' : Below v B new (n + m) L.tail := h.2
    have := h'.drop m
    rwa [List.drop_tail] at this

theorem Below.cons {n : ℕ} {L : List (View.Piece (Elt Ideal) ⟨4, ![8, 2, c, d]⟩ .f32)} {h s : ℕ} (hh : h < 8) (hs : s < 2) (hn : 2 * h + s = n)
    (inb) (w : (⟨4, ![1, 1, c, d]⟩ : Shape).Idx → EReal) (hL : Below v B new n L) (hw : Prefix v B new n L → ∀ p q, w (ix4 0 0 p q) = new ⟨h, hh⟩ ⟨s, hs⟩ p q) :
    Below v B new (n + 1) (⟨Rect.unit (s := ⟨4, ![8, 2, c, d]⟩) ![h, s, 0, 0] ![1, 1, c, d] inb, w⟩ :: L) := by
  refine ⟨fun f h' s' p q => ?_, hL⟩
  have hs' := s'.isLt
  by_cases e : 2 * h'.val + s'.val = n
  · obtain rfl : h' = ⟨h, hh⟩ := Fin.ext (by show h'.val = h; omega)
    obtain rfl : s' = ⟨s, hs⟩ := Fin.ext (by show s'.val = s; simp only at e; omega)
    rw [if_pos (by omega), ← hw hL.pre p q]
    exact View.read_writes_cons_unit_of_mem (Val := Elt Ideal) v f inb w L _ (ix4 0 0 p q) rfl fun a => by
      match a with
      | ⟨0, _⟩ => show h = h + 0; omega
      | ⟨1, _⟩ => show s = s + 0; omega
      | ⟨2, _⟩ => show p.val = 0 + p.val; omega
      | ⟨3, _⟩ => show q.val = 0 + q.val; omega
  · have key : v.read (Elt Ideal) (v.writes (Elt Ideal) f (⟨Rect.unit (s := ⟨4, ![8, 2, c, d]⟩) ![h, s, 0, 0] ![1, 1, c, d] inb, w⟩ :: L)) (ix4 h' s' p q)
        = v.read (Elt Ideal) (v.writes (Elt Ideal) f L) (ix4 h' s' p q) := by
      by_cases eh : h'.val = h
      · exact View.read_writes_cons_unit_of_not_mem (Val := Elt Ideal) v f inb w L (ix4 h' s' p q) rfl (1 : Fin 4) (by show s'.val < s ∨ s + 1 ≤ s'.val; omega)
      · exact View.read_writes_cons_unit_of_not_mem (Val := Elt Ideal) v f inb w L (ix4 h' s' p q) rfl (0 : Fin 4) (by show h'.val < h ∨ h + 1 ≤ h'.val; omega)
    rw [key, hL.pre f h' s' p q]
    by_cases lt : 2 * h'.val + s'.val < n
    · rw [if_pos lt, if_pos (by omega)]
    · rw [if_neg lt, if_neg (by omega)]

/-- All sixteen written, everything is new. -/
theorem Below.whole {L : List (View.Piece (Elt Ideal) ⟨4, ![8, 2, c, d]⟩ .f32)} (hL : Below v B new 16 L) (f : v.ty.Contents (Elt Ideal)) (h : Fin 8) (s : Fin 2) (p : Fin c) (q : Fin d) :
    v.read (Elt Ideal) (v.writes (Elt Ideal) f L) (ix4 h s p q) = new h s p q :=
  (hL.pre f h s p q).trans (if_pos (by omega))

theorem Prefix.old {n : ℕ} {L : List (View.Piece (Elt Ideal) ⟨4, ![8, 2, c, d]⟩ .f32)} (hL : Prefix v B new n L) (f : v.ty.Contents (Elt Ideal)) (h : Fin 8) (s : Fin 2) (hn : 2 * h.val + s.val = n) (p : Fin c) (q : Fin d) :
    v.read (Elt Ideal) (v.writes (Elt Ideal) f L) (ix4 h s p q) = v.read (Elt Ideal) (v.writes (Elt Ideal) f B) (ix4 h s p q) :=
  (hL f h s p q).trans (if_neg (by omega))

/-- A half read just before it is written is as the pieces `B` left it. -/
theorem Below.old {L L' : List (View.Piece (Elt Ideal) ⟨4, ![8, 2, c, d]⟩ .f32)} (hL : Below v B new 16 L) (f : v.ty.Contents (Elt Ideal)) (h : Fin 8) (s : Fin 2)
    (e : L.drop (16 - (2 * h.val + s.val)) = L') (p : Fin c) (q : Fin d) :
    v.read (Elt Ideal) (v.writes (Elt Ideal) f L') (ix4 h s p q) = v.read (Elt Ideal) (v.writes (Elt Ideal) f B) (ix4 h s p q) := by
  subst e
  have hn : 2 * h.val + s.val + (16 - (2 * h.val + s.val)) = 16 := by omega
  have hL' : Below v B new (2 * h.val + s.val + (16 - (2 * h.val + s.val))) L := by rw [hn]; exact hL
  exact hL'.drop.pre.old f h s rfl p q

/-! The staged queries: one slot, a head's 256 lanes at a time. -/

variable {vq : View sig κ sp S2x8x128x512 .bf16} {z : Fin 2} {st : Fin 8 → Fin 128 → Fin 512 → EReal}

variable (vq z st) in
def Staged (n : ℕ) (L : List (View.Piece (Elt Ideal) S2x8x128x512 .bf16)) : Prop :=
  ∀ (f : vq.ty.Contents (Elt Ideal)) (h : Fin 8) (p : Fin 128) (l : Fin 512), 2 * h.val + l.val / 256 < n →
    vq.read (Elt Ideal) (vq.writes (Elt Ideal) f L) (ix4 z h p l) = st h p l

theorem inb_staged {h s o : ℕ} (hh : h < 8) (hs : s < 2) (ho : 256 * s = o) {off : Fin 4 → ℕ} (hoff : off = ![z.val, h, 0, o]) :
    ∀ a, off a + (![1, 1, 128, 256] : Fin 4 → ℕ) a ≤ S2x8x128x512.size a := by
  subst hoff ho
  have hz := z.isLt
  intro a
  match a with
  | ⟨0, _⟩ => show z.val + 1 ≤ 2; omega
  | ⟨1, _⟩ => show h + 1 ≤ 8; omega
  | ⟨2, _⟩ => show 0 + 128 ≤ 128; omega
  | ⟨3, _⟩ => show 256 * s + 256 ≤ 512; omega

theorem Staged.nil : Staged vq z st 0 [] := fun _ _ _ _ h => absurd h (Nat.not_lt_zero _)

theorem Staged.cons {n : ℕ} {L : List (View.Piece (Elt Ideal) S2x8x128x512 .bf16)} {h s o : ℕ} (hh : h < 8) (hs : s < 2) (hn : 2 * h + s = n) (ho : 256 * s = o)
    {off : Fin 4 → ℕ} (hoff : off = ![z.val, h, 0, o]) (w : S1x1x128x256.Idx → EReal) (hL : Staged vq z st n L)
    (hw : ∀ p q, w (ix4 0 0 p q) = st ⟨h, hh⟩ p (lane ⟨s, hs⟩ q)) :
    Staged vq z st (n + 1) (⟨Rect.unit (s := S2x8x128x512) off ![1, 1, 128, 256] (inb_staged hh hs ho hoff), w⟩ :: L) := by
  have inb := inb_staged hh hs ho hoff
  subst ho hoff
  intro f h' p l hl
  have hl' := l.isLt
  by_cases e : 2 * h'.val + l.val / 256 = n
  · obtain rfl : h' = ⟨h, hh⟩ := Fin.ext (by show h'.val = h; omega)
    simp only at e
    obtain ⟨q, rfl⟩ : ∃ q : Fin 256, l = lane ⟨s, hs⟩ q := ⟨⟨l.val - 256 * s, by omega⟩, Fin.ext (by show l.val = 256 * s + (l.val - 256 * s); omega)⟩
    rw [← hw p q]
    exact View.read_writes_cons_unit_of_mem (Val := Elt Ideal) vq f inb w L _ (ix4 0 0 p q) rfl fun a => by
      match a with
      | ⟨0, _⟩ => show z.val = z.val + 0; omega
      | ⟨1, _⟩ => show h = h + 0; omega
      | ⟨2, _⟩ => show p.val = 0 + p.val; omega
      | ⟨3, _⟩ => rfl
  · have key : vq.read (Elt Ideal) (vq.writes (Elt Ideal) f (⟨Rect.unit (s := S2x8x128x512) ![z.val, h, 0, 256 * s] ![1, 1, 128, 256] inb, w⟩ :: L)) (ix4 z h' p l)
        = vq.read (Elt Ideal) (vq.writes (Elt Ideal) f L) (ix4 z h' p l) := by
      by_cases eh : h'.val = h
      · exact View.read_writes_cons_unit_of_not_mem (Val := Elt Ideal) vq f inb w L (ix4 z h' p l) rfl (3 : Fin 4) (by show l.val < 256 * s ∨ 256 * s + 256 ≤ l.val; omega)
      · exact View.read_writes_cons_unit_of_not_mem (Val := Elt Ideal) vq f inb w L (ix4 z h' p l) rfl (1 : Fin 4) (by show h'.val < h ∨ h + 1 ≤ h'.val; omega)
    rw [key]
    exact hL f h' p l (by omega)

theorem Staged.whole {L : List (View.Piece (Elt Ideal) S2x8x128x512 .bf16)} (hL : Staged vq z st 16 L) (f : vq.ty.Contents (Elt Ideal)) (h : Fin 8) (p : Fin 128) (l : Fin 512) :
    vq.read (Elt Ideal) (vq.writes (Elt Ideal) f L) (ix4 z h p l) = st h p l :=
  hL f h p l (by omega)

/-! The output's rows of one block of queries, a head's columns at a time. -/

variable {vo : View sig κ sp S1x2048x1024 .bf16} {j : ℕ} {row : Fin 8 → Fin 256 → Fin 128 → EReal}

variable (vo j row) in
/-- The first `n` heads' columns of block `j` are new, everything else is as it was. -/
def Rows (n : ℕ) (L : List (View.Piece (Elt Ideal) S1x2048x1024 .bf16)) : Prop :=
  ∀ (f : vo.ty.Contents (Elt Ideal)) (t : Fin 2048) (h : Fin 8) (x : Fin 128),
    vo.read (Elt Ideal) (vo.writes (Elt Ideal) f L) (ix3 0 t ⟨128 * h.val + x.val, by omega⟩)
      = if t.val / 256 = j ∧ h.val < n then row h ⟨t.val % 256, Nat.mod_lt _ (by decide)⟩ x else vo.read (Elt Ideal) f (ix3 0 t ⟨128 * h.val + x.val, by omega⟩)

theorem inb_rows {n o o' : ℕ} (hn : n < 8) (hj : j < 8) (ho : o = 256 * j) (ho' : 128 * n = o') {off : Fin 3 → ℕ} (hoff : off = ![0, o, o']) :
    ∀ a, off a + (![1, 256, 128] : Fin 3 → ℕ) a ≤ S1x2048x1024.size a := by
  subst hoff ho ho'
  intro a
  match a with
  | ⟨0, _⟩ => show 0 + 1 ≤ 1; omega
  | ⟨1, _⟩ => show 256 * j + 256 ≤ 2048; omega
  | ⟨2, _⟩ => show 128 * n + 128 ≤ 1024; omega

theorem Rows.nil : Rows vo j row 0 [] := fun _ _ _ _ => (if_neg (fun h => absurd h.2 (Nat.not_lt_zero _))).symm

theorem Rows.cons {n : ℕ} {L : List (View.Piece (Elt Ideal) S1x2048x1024 .bf16)} {o o' : ℕ} (hn : n < 8) (hj : j < 8) (ho : o = 256 * j) (ho' : 128 * n = o')
    {off : Fin 3 → ℕ} (hoff : off = ![0, o, o']) (w : S1x256x128.Idx → EReal) (hL : Rows vo j row n L)
    (hw : ∀ q x, w (ix3 0 q x) = row ⟨n, hn⟩ q x) :
    Rows vo j row (n + 1) (⟨Rect.unit (s := S1x2048x1024) off ![1, 256, 128] (inb_rows hn hj ho ho' hoff), w⟩ :: L) := by
  have inb := inb_rows hn hj ho ho' hoff
  subst ho' ho hoff
  intro f t h x
  have hx := x.isLt
  by_cases e : t.val / 256 = j ∧ h.val = n
  · obtain ⟨e, eh⟩ := e
    obtain rfl : h = ⟨n, hn⟩ := Fin.ext eh
    rw [if_pos ⟨e, Nat.lt_succ_self n⟩, ← hw]
    exact View.read_writes_cons_unit_of_mem (Val := Elt Ideal) vo f inb w L _ (ix3 0 ⟨t.val % 256, Nat.mod_lt _ (by decide)⟩ x) rfl fun a => by
      match a with
      | ⟨0, _⟩ => rfl
      | ⟨1, _⟩ => show t.val = 256 * j + t.val % 256; omega
      | ⟨2, _⟩ => rfl
  · have key : vo.read (Elt Ideal) (vo.writes (Elt Ideal) f (⟨Rect.unit (s := S1x2048x1024) ![0, 256 * j, 128 * n] ![1, 256, 128] inb, w⟩ :: L)) (ix3 0 t ⟨128 * h.val + x.val, by omega⟩)
        = vo.read (Elt Ideal) (vo.writes (Elt Ideal) f L) (ix3 0 t ⟨128 * h.val + x.val, by omega⟩) := by
      by_cases et : t.val / 256 = j
      · have eh : h.val ≠ n := fun eh => e ⟨et, eh⟩
        exact View.read_writes_cons_unit_of_not_mem (Val := Elt Ideal) vo f inb w L _ rfl (2 : Fin 3) (by show 128 * h.val + x.val < 128 * n ∨ 128 * n + 128 ≤ 128 * h.val + x.val; omega)
      · exact View.read_writes_cons_unit_of_not_mem (Val := Elt Ideal) vo f inb w L _ rfl (1 : Fin 3) (by show t.val < 256 * j ∨ 256 * j + 256 ≤ t.val; omega)
    rw [key, hL f t h x]
    by_cases lt : t.val / 256 = j ∧ h.val < n
    · rw [if_pos lt, if_pos ⟨lt.1, by omega⟩]
    · rw [if_neg lt, if_neg (by omega)]

end Cert.Proof.AttnWrites

end
-- ==== Proof.AttnBlock.lean ====
/- One block of 256 queries, in coordinates: the next block's queries are staged and its first scores taken, the maxima reset, the sums
   take in the masked last tile, and the block's rows of the output follow from them. -/
module

public import proofs.«01_k».proof.Proof.AttnInner
public import proofs.«01_k».proof.Proof.AttnWrites

@[expose] public section

set_option maxRecDepth 16384
set_option maxHeartbeats 2000000

noncomputable section

namespace Cert.Proof.AttnOuter

open Cert.KernelIdeal Cert.KernelIdeal.Gen Idealize.ShloMosaic Idealize.ShloMosaic.ValueIdx
open Cert.Proof.AttnOnline Cert.Proof.AttnPayload Cert.Proof.AttnTiles Cert.Proof.AttnWrites Cert.Proof.AttnInner

/-- The queries of block `b`, scaled: lane `l` below 256 keeps the first 64 features, the others the last 64. -/
def staged (R : Fin 8 → ℕ → Fin 128 → ℝ) (b : ℕ) (h : Fin 8) (f : Fin 128) (l : Fin 512) : EReal :=
  if (f.val < 64 ↔ l.val < 256) then ((R h (256 * b + l.val % 256) f : ℝ) : EReal) * (scale : EReal) else 0

/-- Scores of the tile of the block itself: a query sees the keys up to its own position. -/
def maskS (S : Scores) : Scores := fun h s k q => if k ≤ q then S h s k q else ⊥

/-- One head's row, from the sums. -/
def ending (lam : EReal) (g : Fin 128 → EReal) (A : Sums) (h : Fin 8) (q : Fin 256) (d : Fin 128) : EReal :=
  closing (fun d => A h 0 ⟨d.val, by omega⟩ q * FloatOps.divf (F := Ideal) (φ := .f32) one (A h 0 128 q)
    - lam * (A h 1 ⟨d.val, by omega⟩ q * FloatOps.divf (F := Ideal) (φ := .f32) one (A h 1 128 q))) g d

theorem at_ending {lam : EReal} {g : Fin 128 → EReal} (A : Sums) {h : ℕ} (hh : h < 8) (v : FVec Ideal S1x1 .f32) (la lb : Vec Ideal S1x1x128x256 .f32) (ll lm : Vec Ideal S1x1x1x256 .f32)
    (lg : Vec Ideal S128x1 .f32) (hl : v (ix2 0 0) = lam)
    (ha : ∀ (d : Fin 128) (q : Fin 256), la (ix4 0 0 d q) = A ⟨h, hh⟩ 0 ⟨d.val, by omega⟩ q) (hla : ∀ q, ll (ix4 0 0 0 q) = A ⟨h, hh⟩ 0 128 q)
    (hb : ∀ (d : Fin 128) (q : Fin 256), lb (ix4 0 0 d q) = A ⟨h, hh⟩ 1 ⟨d.val, by omega⟩ q) (hlb : ∀ q, lm (ix4 0 0 0 q) = A ⟨h, hh⟩ 1 128 q)
    (hg : ∀ d, lg (ix2 d 0) = g d) (q : Fin 256) (d : Fin 128) :
    closed (difference v (quotients la ll) (quotients lb lm)) lg (ix3 0 q d) = ending lam g A ⟨h, hh⟩ q d := by
  rw [closed_apply]
  unfold ending
  refine congrArg₂ (fun o g => closing o g d) (funext fun d => ?_) (funext hg)
  rw [difference_apply, quotients_apply, quotients_apply, ha, hla, hb, hlb, hl]

/-- A load of some rows of one head's half of the sums. -/
theorem load_part {sig : RefSig} {κ : Kind} {sp : Space} {n : ℕ} {h s : ℕ} (hh : h < 8) (hs : s < 2) (v : View sig κ sp S8x2x144x256 .f32) (f : v.ty.Contents (Elt Ideal))
    (o : ℕ) (inb) (p : Fin n) (hp : o + p.val < 144) (q : Fin 256) :
    v.readAt (Elt Ideal) (Rect.unit (s := S8x2x144x256) ![h, s, o, 0] ![1, 1, n, 256] inb).toLoadRect f (ix4 0 0 p q) = v.read (Elt Ideal) f (ix4 ⟨h, hh⟩ ⟨s, hs⟩ ⟨o + p.val, hp⟩ q) :=
  readAt_of v f inb rfl _ _ fun i => by
    match i with
    | ⟨0, _⟩ => show h = h + 0; omega
    | ⟨1, _⟩ => show s = s + 0; omega
    | ⟨2, _⟩ => show o + p.val = o + p.val; rfl
    | ⟨3, _⟩ => show q.val = 0 + q.val; omega

variable (c : Dev nD) (i : grid0.Coords) {arg2 : Memref sig .tc .vmem S8x2048x128 .bf16} (harg2 : arg2.IsWhole) {arg3 : Memref sig .tc .vmem S8x2048x128 .bf16} (harg3 : arg3.IsWhole) {arg4 : Memref sig .tc .vmem S8x1152x256 .bf16} (harg4 : arg4.IsWhole) {arg5 : Memref sig .tc .vmem S4x64 .f32} (harg5 : arg5.IsWhole) {arg6 : Memref sig .tc .vmem S128x1 .f32} (harg6 : arg6.IsWhole) {arg7 : Memref sig .tc .vmem S1x2048x1024 .bf16} (harg7 : arg7.IsWhole) {arg8 : Memref sig .tc .vmem S2x8x128x512 .bf16} (harg8 : arg8.IsWhole) {arg9 : Memref sig .tc .vmem S8x2x256x256 .f32} (harg9 : arg9.IsWhole) {arg10 : Memref sig .tc .vmem S8x2x1x256 .f32} (harg10 : arg10.IsWhole) {arg11 : Memref sig .tc .vmem S8x2x144x256 .f32} (harg11 : arg11.IsWhole)
  (v15 : FVec Ideal S1x1 .f32) (X2 : BufTy.Contents (Elt Ideal) arg2.view.ty)
  (X3 : BufTy.Contents (Elt Ideal) arg3.view.ty) (X4 : BufTy.Contents (Elt Ideal) arg4.view.ty) (X6 : BufTy.Contents (Elt Ideal) arg6.view.ty)

abbrev rows128 : IVec S128x256 32 := iota Kind.tc S128x256 32 [0] iota_S128x256_d0_w32
abbrev keys : IVec S256x256 32 := iota Kind.tc S256x256 32 [0] iota_S256x256_d0_w32
abbrev queries : IVec S256x256 32 := iota Kind.tc S256x256 32 [1] iota_S256x256_d1_w32

/-- What the block's trip writes. -/
abbrev block (k : Fin k0_t1_loop.trips) := Outer.trip (F := Ideal) c i arg2 harg2 arg3 harg3 arg4 harg4 arg5 harg5 arg6 harg6 arg7 harg7 arg8 harg8 arg9 harg9 arg10 harg10 arg11 harg11 v15 rows128 keys queries X2 X3 X4 X6 k

variable (k : Fin k0_t1_loop.trips)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty) (f11 : BufTy.Contents (Elt Ideal) arg11.view.ty)

theorem block_lt : k.val < 8 := k.isLt

theorem inner_trips : ∀ k : Fin k0_t1_loop.trips, (k0_t2_loop k).trips = k.val := by decide +kernel

theorem rest_trips : ∀ k : Fin k0_t1_loop.trips, (k0_t3_loop k).trips = 0 := by decide +kernel

/-- The next block's slot. -/
def slot (n : ℕ) : Fin 2 := ⟨n % 2, Nat.mod_lt _ (by decide)⟩

variable {A : Sums} {W : Fin 8 → Fin 144 → ℕ → ℝ} {K R : Fin 8 → ℕ → Fin 128 → ℝ} {g : Fin 128 → EReal}

/-- What the block's trip leaves. -/
def Done (lam : EReal) (k : ℕ) (A' : Sums) (Q' : Fin 8 → Fin 128 → Fin 512 → EReal) (K : Fin 8 → ℕ → Fin 128 → ℝ) (g : Fin 128 → EReal)
    (f7 g7 : BufTy.Contents (Elt Ideal) arg7.view.ty) (g8 : BufTy.Contents (Elt Ideal) arg8.view.ty) (g9 : BufTy.Contents (Elt Ideal) arg9.view.ty)
    (g10 : BufTy.Contents (Elt Ideal) arg10.view.ty) (g11 : BufTy.Contents (Elt Ideal) arg11.view.ty) : Prop :=
  (∀ (t : Fin 2048) (h : Fin 8) (x : Fin 128), arg7.view.read (Elt Ideal) g7 (ix3 0 t ⟨128 * h.val + x.val, by omega⟩)
      = if t.val / 256 = k then ending lam g A' h ⟨t.val % 256, Nat.mod_lt _ (by decide)⟩ x else arg7.view.read (Elt Ideal) f7 (ix3 0 t ⟨128 * h.val + x.val, by omega⟩))
    ∧ (∀ h p l, arg8.view.read (Elt Ideal) g8 (ix4 (slot (k + 1)) h p l) = Q' h p l)
    ∧ (∀ h s k q, arg9.view.read (Elt Ideal) g9 (ix4 h s k q) = score K Q' 0 h s k q)
    ∧ (∀ h s z q, arg10.view.read (Elt Ideal) g10 (ix4 h s z q) = ⊥)
    ∧ (∀ h s r q, arg11.view.read (Elt Ideal) g11 (ix4 h s r q) = A' h s r q)

theorem assemble {lam : EReal} {k : ℕ} {A' : Sums} {Q' : Fin 8 → Fin 128 → Fin 512 → EReal} {M' : Maxes} {L7 L8 L9 L10 L11}
    {f7 : BufTy.Contents (Elt Ideal) arg7.view.ty} {f8 : BufTy.Contents (Elt Ideal) arg8.view.ty}
    {f9 : BufTy.Contents (Elt Ideal) arg9.view.ty} {f10 : BufTy.Contents (Elt Ideal) arg10.view.ty} {f11 : BufTy.Contents (Elt Ideal) arg11.view.ty} (B9 B10 B11) (inb)
    (s8 : Staged arg8.view (slot (k + 1)) Q' 16 L8)
    (b9 : Staged arg8.view (slot (k + 1)) Q' 16 L8 → Below arg9.view B9 (score K Q' 0) 16 L9)
    (b10 : Below arg9.view B9 (score K Q' 0) 16 L9 → Below arg10.view B10 M' 16 L10)
    (b11 : Below arg9.view B9 (score K Q' 0) 16 L9 → Below arg10.view B10 M' 16 L10 → Below arg11.view B11 A' 16 L11)
    (r7 : Below arg11.view B11 A' 16 L11 → Rows arg7.view k (ending lam g A') 8 L7) :
    Done lam k A' Q' K g f7 (arg7.view.writes (Elt Ideal) f7 L7) (arg8.view.writes (Elt Ideal) f8 L8) (arg9.view.writes (Elt Ideal) f9 L9)
      (arg10.view.writes (Elt Ideal) f10 (⟨Rect.unit (s := S8x2x1x256) ![0, 0, 0, 0] S8x2x1x256.size inb, k0_pay5 (F := Ideal)⟩ :: L10)) (arg11.view.writes (Elt Ideal) f11 L11) := by
  have b9 := b9 s8
  have b10' := b10 b9
  have b11 := b11 b9 b10'
  have r7 := r7 b11
  refine ⟨fun t h x => (r7 f7 t h x).trans ?_, s8.whole f8, b9.whole f9, fun h s z q => ?_, b11.whole f11⟩
  · by_cases e : t.val / 256 = k
    · rw [if_pos ⟨e, h.isLt⟩, if_pos e]
    · rw [if_neg (fun h => e h.1), if_neg e]
  · refine (View.read_writes_cons_unit_of_mem (Val := Elt Ideal) arg10.view f10 inb (k0_pay5 (F := Ideal)) L10 (ix4 h s z q) (ix4 h s z q) rfl fun a => by
      match a with
      | ⟨0, _⟩ => show h.val = 0 + h.val; omega
      | ⟨1, _⟩ => show s.val = 0 + s.val; omega
      | ⟨2, _⟩ => show z.val = 0 + z.val; omega
      | ⟨3, _⟩ => show q.val = 0 + q.val; omega).trans ?_
    unfold k0_pay5
    refine (congrFun (shapeCast_self _ _) _).trans ?_
    exact named_mask

/-- The lists of the whole tiles, and the empty ones of the loop after them. -/
abbrev tiles := pb_k0_t2 (F := Ideal) Variants.none c none i arg2 harg2 arg3 harg3 arg4 harg4 arg5 harg5 arg6 harg6 arg7 harg7 arg8 harg8 arg9 harg9 arg10 harg10 arg11 harg11 rows128 0#32 1#32 k (Outer.trip.sl.v335 k) X3 X4 f8 f9 f10 f11 (Scf.trips (k0_t2_loop k).lb (k0_t2_loop k).ub (k0_t2_loop k).st)

abbrev rest := pb_k0_t3 (F := Ideal) Variants.none c none i arg2 harg2 arg3 harg3 arg4 harg4 arg5 harg5 arg6 harg6 arg7 harg7 arg8 harg8 arg9 harg9 arg10 harg10 arg11 harg11 rows128 0#32 1#32 k (Outer.trip.sl.v335 k) (Outer.trip.sl.v340 k) X3 X4 f8
  (arg9.view.writes (Elt Ideal) f9 (tiles c i harg2 harg3 harg4 harg5 harg6 harg7 harg8 harg9 harg10 harg11 X3 X4 k f8 f9 f10 f11).1)
  (arg10.view.writes (Elt Ideal) f10 (tiles c i harg2 harg3 harg4 harg5 harg6 harg7 harg8 harg9 harg10 harg11 X3 X4 k f8 f9 f10 f11).2.1)
  (arg11.view.writes (Elt Ideal) f11 (tiles c i harg2 harg3 harg4 harg5 harg6 harg7 harg8 harg9 harg10 harg11 X3 X4 k f8 f9 f10 f11).2.2)
  (Scf.trips (k0_t3_loop k).lb (k0_t3_loop k).ub (k0_t3_loop k).st)

theorem rest_nil : rest c i harg2 harg3 harg4 harg5 harg6 harg7 harg8 harg9 harg10 harg11 X3 X4 k f8 f9 f10 f11 = ([], [], []) := by
  have h : Scf.trips (k0_t3_loop k).lb (k0_t3_loop k).ub (k0_t3_loop k).st = 0 := rest_trips k
  unfold rest
  rw [h]
  rfl

variable {Q : Fin 8 → Fin 128 → Fin 512 → EReal}
  (hA : ∀ h s r q, arg11.view.read (Elt Ideal) f11 (ix4 h s r q) = A h s r q)
  (hW : ∀ (j : Fin 8) (h : Fin 8) (r : Fin 144) (k : Fin 256), arg4.view.read (Elt Ideal) X4 (ix3 j ⟨144 * h.val + r.val, vrow_lt h r⟩ k) = ((W h r (256 * j.val + k.val) : ℝ) : EReal))
  (hK : ∀ (h : Fin 8) (t : Fin 2048) (f : Fin 128), arg3.view.read (Elt Ideal) X3 (ix3 h t f) = ((K h t.val f : ℝ) : EReal))
  (hR : ∀ (h : Fin 8) (t : Fin 2048) (f : Fin 128), arg2.view.read (Elt Ideal) X2 (ix3 h t f) = ((R h t.val f : ℝ) : EReal))
  (hQ : ∀ (h : Fin 8) (f : Fin 128) (l : Fin 512), arg8.view.read (Elt Ideal) f8 (ix4 (slot k.val) h f l) = Q h f l)
  (hS : ∀ h s k q, arg9.view.read (Elt Ideal) f9 (ix4 h s k q) = score K Q 0 h s k q)
  (hM : ∀ h s z q, arg10.view.read (Elt Ideal) f10 (ix4 h s z q) = ⊥)

include hA hW hK hQ hS hM in
theorem base :
    (∀ h s x q, arg9.view.read (Elt Ideal) (arg9.view.writes (Elt Ideal) f9 ((rest c i harg2 harg3 harg4 harg5 harg6 harg7 harg8 harg9 harg10 harg11 X3 X4 k f8 f9 f10 f11).1 ++ (tiles c i harg2 harg3 harg4 harg5 harg6 harg7 harg8 harg9 harg10 harg11 X3 X4 k f8 f9 f10 f11).1)) (ix4 h s x q) = score K Q k.val h s x q)
      ∧ (∀ h s z q, arg10.view.read (Elt Ideal) (arg10.view.writes (Elt Ideal) f10 ((rest c i harg2 harg3 harg4 harg5 harg6 harg7 harg8 harg9 harg10 harg11 X3 X4 k f8 f9 f10 f11).2.1 ++ (tiles c i harg2 harg3 harg4 harg5 harg6 harg7 harg8 harg9 harg10 harg11 X3 X4 k f8 f9 f10 f11).2.1)) (ix4 h s z q) = (after K Q W (fun _ _ _ _ => ⊥) A k.val).1 h s z q)
      ∧ (∀ h s r q, arg11.view.read (Elt Ideal) (arg11.view.writes (Elt Ideal) f11 ((rest c i harg2 harg3 harg4 harg5 harg6 harg7 harg8 harg9 harg10 harg11 X3 X4 k f8 f9 f10 f11).2.2 ++ (tiles c i harg2 harg3 harg4 harg5 harg6 harg7 harg8 harg9 harg10 harg11 X3 X4 k f8 f9 f10 f11).2.2)) (ix4 h s r q) = (after K Q W (fun _ _ _ _ => ⊥) A k.val).2 h s r q) := by
  rw [rest_nil]
  have h := inner c i harg2 harg3 harg4 harg5 harg6 harg7 harg8 harg9 harg10 harg11 rows128 0#32 1#32 k (Outer.trip.sl.v335 k) X3 X4 f8 f9 f10 f11
    (M := fun _ _ _ _ => ⊥) hM hA hW hK hQ hS _ (le_refl (k0_t2_loop k).trips)
  have e : (k0_t2_loop k).trips = k.val := inner_trips k
  refine ⟨fun h' s x q => (h.1 h' s x q).trans ?_, fun h' s x q => (h.2.1 h' s x q).trans ?_, fun h' s x q => (h.2.2 h' s x q).trans ?_⟩
  all_goals rw [e]

theorem staged_first (b : ℕ) (h : Fin 8) (f : Fin 128) (q : Fin 256) (x : EReal) (hx : x = ((R h (256 * b + q.val) f : ℝ) : EReal)) :
    (if f.val < 64 then x * (scale : EReal) else 0) = staged R b h f (lane 0 q) := by
  have e : (lane 0 q).val = q.val := by show 256 * 0 + q.val = q.val; omega
  have hq := q.isLt
  unfold staged
  rw [e, Nat.mod_eq_of_lt hq, ← hx]
  exact if_congr (by simp only [hq, iff_true]) rfl rfl

theorem staged_second (b : ℕ) (h : Fin 8) (f : Fin 128) (q : Fin 256) (x : EReal) (hx : x = ((R h (256 * b + q.val) f : ℝ) : EReal)) :
    (if 64 ≤ f.val then x * (scale : EReal) else 0) = staged R b h f (lane 1 q) := by
  have e : (lane 1 q).val = 256 + q.val := by show 256 * 1 + q.val = 256 + q.val; omega
  have hq := q.isLt
  unfold staged
  rw [e, show (256 + q.val) % 256 = q.val by omega, ← hx]
  exact if_congr (by omega) rfl rfl

include hR in
theorem stage : Staged arg8.view (slot (k.val + 1)) (staged R (min (k.val + 1) 7)) 16 (Outer.trip.sl.HW_arg8_16 (F := Ideal) arg2 rows128 X2 k) := by
  have hk := block_lt k
  unfold Outer.trip.sl.HW_arg8_16
  iterate 8
    refine Staged.cons (s := 1) (by decide) (by decide) (by decide) rfl ClosedOff.eq _ ?_ (fun p q => ?_)
    rotate_left
    · exact (kept_second _ p q).trans (staged_second _ _ p q _ ((load3 _ _ _ _ _ ClosedOff.eq (by decide) _ (by omega) _).trans (hR ⟨_, by decide⟩ ⟨_, by omega⟩ p)))
    refine Staged.cons (s := 0) (by decide) (by decide) (by decide) rfl ClosedOff.eq _ ?_ (fun p q => ?_)
    rotate_left
    · exact (kept_first _ p q).trans (staged_first _ _ p q _ ((load3 _ _ _ _ _ ClosedOff.eq (by decide) _ (by omega) _).trans (hR ⟨_, by decide⟩ ⟨_, by omega⟩ p)))
  exact Staged.nil

/-- The sums after the block's own tile. -/
def last (K : Fin 8 → ℕ → Fin 128 → ℝ) (Q : Fin 8 → Fin 128 → Fin 512 → EReal) (W : Fin 8 → Fin 144 → ℕ → ℝ) (A : Sums) (n : ℕ) : Sums :=
  accs W n (maskS (score K Q n)) (after K Q W (fun _ _ _ _ => ⊥) A n).1 (after K Q W (fun _ _ _ _ => ⊥) A n).2

end Cert.Proof.AttnOuter

end
-- ==== Proof.AttnOuter.lean ====
/- One block of 256 queries, what its trip leaves: the lists of writes put together. -/
module

public import proofs.«01_k».proof.Proof.AttnBlock

@[expose] public section

set_option maxRecDepth 16384
set_option maxHeartbeats 2000000

noncomputable section

namespace Cert.Proof.AttnOuter

open Cert.KernelIdeal Cert.KernelIdeal.Gen Idealize.ShloMosaic Idealize.ShloMosaic.ValueIdx
open Cert.Proof.AttnOnline Cert.Proof.AttnPayload Cert.Proof.AttnTiles Cert.Proof.AttnWrites Cert.Proof.AttnInner

variable (c : Dev nD) (i : grid0.Coords) {arg2 : Memref sig .tc .vmem S8x2048x128 .bf16} (harg2 : arg2.IsWhole) {arg3 : Memref sig .tc .vmem S8x2048x128 .bf16} (harg3 : arg3.IsWhole) {arg4 : Memref sig .tc .vmem S8x1152x256 .bf16} (harg4 : arg4.IsWhole) {arg5 : Memref sig .tc .vmem S4x64 .f32} (harg5 : arg5.IsWhole) {arg6 : Memref sig .tc .vmem S128x1 .f32} (harg6 : arg6.IsWhole) {arg7 : Memref sig .tc .vmem S1x2048x1024 .bf16} (harg7 : arg7.IsWhole) {arg8 : Memref sig .tc .vmem S2x8x128x512 .bf16} (harg8 : arg8.IsWhole) {arg9 : Memref sig .tc .vmem S8x2x256x256 .f32} (harg9 : arg9.IsWhole) {arg10 : Memref sig .tc .vmem S8x2x1x256 .f32} (harg10 : arg10.IsWhole) {arg11 : Memref sig .tc .vmem S8x2x144x256 .f32} (harg11 : arg11.IsWhole)
  (v15 : FVec Ideal S1x1 .f32) (X2 : BufTy.Contents (Elt Ideal) arg2.view.ty)
  (X3 : BufTy.Contents (Elt Ideal) arg3.view.ty) (X4 : BufTy.Contents (Elt Ideal) arg4.view.ty) (X6 : BufTy.Contents (Elt Ideal) arg6.view.ty)

variable (k : Fin k0_t1_loop.trips)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty) (f11 : BufTy.Contents (Elt Ideal) arg11.view.ty)

variable {A : Sums} {W : Fin 8 → Fin 144 → ℕ → ℝ} {K R : Fin 8 → ℕ → Fin 128 → ℝ} {g : Fin 128 → EReal}

variable {Q : Fin 8 → Fin 128 → Fin 512 → EReal}
  (hA : ∀ h s r q, arg11.view.read (Elt Ideal) f11 (ix4 h s r q) = A h s r q)
  (hW : ∀ (j : Fin 8) (h : Fin 8) (r : Fin 144) (k : Fin 256), arg4.view.read (Elt Ideal) X4 (ix3 j ⟨144 * h.val + r.val, vrow_lt h r⟩ k) = ((W h r (256 * j.val + k.val) : ℝ) : EReal))
  (hK : ∀ (h : Fin 8) (t : Fin 2048) (f : Fin 128), arg3.view.read (Elt Ideal) X3 (ix3 h t f) = ((K h t.val f : ℝ) : EReal))
  (hR : ∀ (h : Fin 8) (t : Fin 2048) (f : Fin 128), arg2.view.read (Elt Ideal) X2 (ix3 h t f) = ((R h t.val f : ℝ) : EReal))
  (hQ : ∀ (h : Fin 8) (f : Fin 128) (l : Fin 512), arg8.view.read (Elt Ideal) f8 (ix4 (slot k.val) h f l) = Q h f l)
  (hS : ∀ h s k q, arg9.view.read (Elt Ideal) f9 (ix4 h s k q) = score K Q 0 h s k q)
  (hM : ∀ h s z q, arg10.view.read (Elt Ideal) f10 (ix4 h s z q) = ⊥)

variable {lam : EReal} (hl : v15 (ix2 0 0) = lam) (hg : ∀ d : Fin 128, arg6.view.read (Elt Ideal) X6 (ix2 d 0) = g d)

theorem inb4 {c d h s : ℕ} (hh : h < 8) (hs : s < 2) : ∀ a, (![h, s, 0, 0] : Fin 4 → ℕ) a + (![1, 1, c, d] : Fin 4 → ℕ) a ≤ (⟨4, ![8, 2, c, d]⟩ : Shape).size a := by
  intro a
  match a with
  | ⟨0, _⟩ => show h + 1 ≤ 8; omega
  | ⟨1, _⟩ => show s + 1 ≤ 2; omega
  | ⟨2, _⟩ => show 0 + c ≤ c; omega
  | ⟨3, _⟩ => show 0 + d ≤ d; omega

/-- A half as the pieces `L` left it. -/
abbrev half {sig : RefSig} {κ : Kind} {sp : Space} {c d : ℕ} (v : View sig κ sp ⟨4, ![8, 2, c, d]⟩ .f32) (f : v.ty.Contents (Elt Ideal))
    (L : List (View.Piece (Elt Ideal) ⟨4, ![8, 2, c, d]⟩ .f32)) {h s : ℕ} (hh : h < 8) (hs : s < 2) : Vec Ideal ⟨4, ![1, 1, c, d]⟩ .f32 :=
  v.readAt (Elt Ideal) (Rect.unit (s := ⟨4, ![8, 2, c, d]⟩) ![h, s, 0, 0] ![1, 1, c, d] (inb4 hh hs)).toLoadRect (v.writes (Elt Ideal) f L)

/-- The scores of the block's own tile, masked. -/
theorem masked_half {S0 new : Scores} {B9 L9} (b9 : Below arg9.view B9 new 16 L9)
    (i9 : ∀ h s x q, arg9.view.read (Elt Ideal) (arg9.view.writes (Elt Ideal) f9 B9) (ix4 h s x q) = S0 h s x q) {h s : ℕ} (hh : h < 8) (hs : s < 2) (x q : Fin 256) :
    masked (shapeCast S256x256 (half arg9.view f9 (L9.drop (16 - (2 * h + s))) hh hs) shapeCasts_S1x1x256x256_S256x256) (ix2 x q) = maskS S0 ⟨h, hh⟩ ⟨s, hs⟩ x q :=
  (masked_apply _ x q).trans (congrArg (fun z : EReal => if x ≤ q then z else ⊥)
    ((cast_11mn _ _ _ _).trans ((load4 hh hs _ _ _ _ _).trans ((b9.old f9 ⟨h, hh⟩ ⟨s, hs⟩ rfl x q).trans (i9 _ _ _ _)))))

/-- The maxima of a half take in the masked scores. -/
theorem tops_cons {S0 new : Scores} {M0 : Maxes} {B9 L9 B10 L10} (b9 : Below arg9.view B9 new 16 L9)
    (i9 : ∀ h s x q, arg9.view.read (Elt Ideal) (arg9.view.writes (Elt Ideal) f9 B9) (ix4 h s x q) = S0 h s x q)
    (i10 : ∀ h s z q, arg10.view.read (Elt Ideal) (arg10.view.writes (Elt Ideal) f10 B10) (ix4 h s z q) = M0 h s z q)
    {n h s : ℕ} (hh : h < 8) (hs : s < 2) (hn : 2 * h + s = n) (inb) (w : S1x1x1x256.Idx → EReal)
    (hw : w = shapeCast S1x1x1x256 (maxes (masked (shapeCast S256x256 (half arg9.view f9 (L9.drop (16 - (2 * h + s))) hh hs) shapeCasts_S1x1x256x256_S256x256))
      (half arg10.view f10 L10 hh hs)) shapeCasts_S1x256_S1x1x1x256)
    (hL : Below arg10.view B10 (tops (maskS S0) M0) n L10) :
    Below arg10.view B10 (tops (maskS S0) M0) (n + 1) (⟨Rect.unit (s := S8x2x1x256) ![h, s, 0, 0] ![1, 1, 1, 256] inb, w⟩ :: L10) := by
  subst hw
  refine Below.cons hh hs hn inb _ hL fun ih p q => ?_
  exact at_tops hh hs (maskS S0) M0 _ _ (masked_half f9 b9 i9 hh hs) (fun q => (load4 hh hs _ _ _ _ _).trans ((ih.old f10 ⟨h, hh⟩ ⟨s, hs⟩ hn 0 q).trans (i10 _ _ _ _))) p q

/-- The sums of a half take in the masked scores. -/
theorem accs_cons {S0 new : Scores} {M0 : Maxes} {A0 : Sums} {B9 L9 B10 L10 B11 L11} (b9 : Below arg9.view B9 new 16 L9) (b10 : Below arg10.view B10 (tops (maskS S0) M0) 16 L10)
    (i9 : ∀ h s x q, arg9.view.read (Elt Ideal) (arg9.view.writes (Elt Ideal) f9 B9) (ix4 h s x q) = S0 h s x q)
    (i10 : ∀ h s z q, arg10.view.read (Elt Ideal) (arg10.view.writes (Elt Ideal) f10 B10) (ix4 h s z q) = M0 h s z q)
    (i11 : ∀ h s r q, arg11.view.read (Elt Ideal) (arg11.view.writes (Elt Ideal) f11 B11) (ix4 h s r q) = A0 h s r q) (j : ℕ)
    {n h s : ℕ} (hh : h < 8) (hs : s < 2) (hn : 2 * h + s = n) (inb) (v : FVec Ideal S144x256 .bf16) (w : S1x1x144x256.Idx → EReal)
    (hw : w = shapeCast S1x1x144x256 (sums v (masked (shapeCast S256x256 (half arg9.view f9 (L9.drop (16 - (2 * h + s))) hh hs) shapeCasts_S1x1x256x256_S256x256))
      (half arg10.view f10 (L10.drop (16 - (2 * h + s))) hh hs) (half arg11.view f11 L11 hh hs)) shapeCasts_S144x256_S1x1x144x256)
    (hv : ∀ r k, v (ix2 r k) = ((W ⟨h, hh⟩ r (256 * j + k.val) : ℝ) : EReal))
    (hL : Below arg11.view B11 (accs W j (maskS S0) M0 A0) n L11) :
    Below arg11.view B11 (accs W j (maskS S0) M0 A0) (n + 1) (⟨Rect.unit (s := S8x2x144x256) ![h, s, 0, 0] ![1, 1, 144, 256] inb, w⟩ :: L11) := by
  subst hw
  refine Below.cons hh hs hn inb _ hL fun ih p q => ?_
  exact at_accs hh hs W j (maskS S0) M0 A0 _ _ _ _ hv (masked_half f9 b9 i9 hh hs)
    (fun q => (load4 hh hs _ _ _ _ _).trans ((b10.old f10 ⟨h, hh⟩ ⟨s, hs⟩ rfl 0 q).trans (i10 _ _ _ _)))
    (fun r q => (load4 hh hs _ _ _ _ _).trans ((ih.old f11 ⟨h, hh⟩ ⟨s, hs⟩ hn r q).trans (i11 _ _ _ _))) p q

include hA hW hK hR hQ hS hM hl hg in
theorem done : Done lam k.val (last K Q W A k.val) (staged R (min (k.val + 1) 7)) K g f7
    ((block c i harg2 harg3 harg4 harg5 harg6 harg7 harg8 harg9 harg10 harg11 v15 X2 X3 X4 X6 k).1 f7 f8 f9 f10 f11) ((block c i harg2 harg3 harg4 harg5 harg6 harg7 harg8 harg9 harg10 harg11 v15 X2 X3 X4 X6 k).2.1 f7 f8 f9 f10 f11)
    ((block c i harg2 harg3 harg4 harg5 harg6 harg7 harg8 harg9 harg10 harg11 v15 X2 X3 X4 X6 k).2.2.1 f7 f8 f9 f10 f11) ((block c i harg2 harg3 harg4 harg5 harg6 harg7 harg8 harg9 harg10 harg11 v15 X2 X3 X4 X6 k).2.2.2.1 f7 f8 f9 f10 f11)
    ((block c i harg2 harg3 harg4 harg5 harg6 harg7 harg8 harg9 harg10 harg11 v15 X2 X3 X4 X6 k).2.2.2.2.1 f7 f8 f9 f10 f11) := by
  have hk := block_lt k
  obtain ⟨i9, i10, i11⟩ := base c i harg2 harg3 harg4 harg5 harg6 harg7 harg8 harg9 harg10 harg11 X3 X4 k f8 f9 f10 f11 hA hW hK hQ hS hM
  unfold block Outer.trip
  dsimp only
  refine assemble (M' := tops (maskS (score K Q k.val)) (after K Q W (fun _ _ _ _ => ⊥) A k.val).1)
    ((rest c i harg2 harg3 harg4 harg5 harg6 harg7 harg8 harg9 harg10 harg11 X3 X4 k f8 f9 f10 f11).1 ++ (tiles c i harg2 harg3 harg4 harg5 harg6 harg7 harg8 harg9 harg10 harg11 X3 X4 k f8 f9 f10 f11).1)
    ((rest c i harg2 harg3 harg4 harg5 harg6 harg7 harg8 harg9 harg10 harg11 X3 X4 k f8 f9 f10 f11).2.1 ++ (tiles c i harg2 harg3 harg4 harg5 harg6 harg7 harg8 harg9 harg10 harg11 X3 X4 k f8 f9 f10 f11).2.1)
    ((rest c i harg2 harg3 harg4 harg5 harg6 harg7 harg8 harg9 harg10 harg11 X3 X4 k f8 f9 f10 f11).2.2 ++ (tiles c i harg2 harg3 harg4 harg5 harg6 harg7 harg8 harg9 harg10 harg11 X3 X4 k f8 f9 f10 f11).2.2)
    _ (stage X2 k hR) (fun s8 => ?_) (fun b9 => ?_) (fun b9 b10 => ?_) (fun b11 => ?_)
  · iterate 8
      refine Below.cons (s := 1) (by decide) (by decide) (by decide) _ _ ?_ (fun _ p q => ?_)
      rotate_left
      · refine at_score _ (by decide) K _ 0 _ _ 256 (by decide) (by decide) (fun r f => ?_) (fun f l => ?_) p q
        · exact (load3 _ _ _ _ 0 rfl (by decide) _ (by omega) _).trans (hK ⟨_, by decide⟩ ⟨_, by omega⟩ f)
        · exact (loadq _ _ _ _ _ (by clear * -; revert k; decide +kernel) (slot (k.val + 1)).isLt (by decide) _ _).trans (s8.whole _ _ _ _)
      refine Below.cons (s := 0) (by decide) (by decide) (by decide) _ _ ?_ (fun _ p q => ?_)
      rotate_left
      · refine at_score _ (by decide) K _ 0 _ _ 0 (by decide) (by decide) (fun r f => ?_) (fun f l => ?_) p q
        · exact (load3 _ _ _ _ 0 rfl (by decide) _ (by omega) _).trans (hK ⟨_, by decide⟩ ⟨_, by omega⟩ f)
        · exact (loadq _ _ _ _ _ (by clear * -; revert k; decide +kernel) (slot (k.val + 1)).isLt (by decide) _ _).trans (s8.whole _ _ _ _)
    exact rfl
  · iterate 16
      refine tops_cons f9 f10 b9 i9 i10 (by decide) (by decide) (by decide) (by decide) _ rfl ?_
    exact rfl
  · iterate 16
      refine accs_cons f9 f10 f11 b9 b10 i9 i10 i11 k.val (by decide) (by decide) (by decide) (by decide) _ _ rfl (fun r x => ?_) ?_
      · exact (cast_1mn _ _ _ _).trans ((load3 _ _ _ _ _ ClosedOff.eq hk _ (by omega) _).trans (hW ⟨_, hk⟩ ⟨_, by decide⟩ r x))
    exact rfl
  · iterate 8
      refine Rows.cons (by decide) hk rfl rfl ClosedOff.eq _ ?_ (fun q x => ?_)
      rotate_left
      · refine at_ending (last K Q W A k.val) _ _ _ _ _ _ _ hl (fun d q => ?_) (fun q => ?_) (fun d q => ?_) (fun q => ?_) (fun d => ?_) q x
        · exact (load_part (by decide) (by decide) _ _ 0 _ d (by omega) q).trans ((b11.whole _ _ _ _ q).trans (congrArg (fun r => last K Q W A k.val _ _ r q) (Fin.ext (Nat.zero_add _))))
        · exact (load_part (by decide) (by decide) _ _ 128 _ (0 : Fin 1) (by decide) q).trans (b11.whole _ _ _ _ _)
        · exact (load_part (by decide) (by decide) _ _ 0 _ d (by omega) q).trans ((b11.whole _ _ _ _ q).trans (congrArg (fun r => last K Q W A k.val _ _ r q) (Fin.ext (Nat.zero_add _))))
        · exact (load_part (by decide) (by decide) _ _ 128 _ (0 : Fin 1) (by decide) q).trans (b11.whole _ _ _ _ _)
        · exact (readAt_of _ _ _ rfl _ (ix2 d 0) fun a => by
            match a with
            | ⟨0, _⟩ => show d.val = 0 + d.val; omega
            | ⟨1, _⟩ => rfl).trans (hg d)
    exact Rows.nil

end Cert.Proof.AttnOuter

end
-- ==== Proof.AttnSoftmax.lean ====
/- What the sums of one block of queries come to: the two softmaxes of each head over the keys up to the query's position. -/
module

public import proofs.«01_k».proof.Proof.AttnBlock
public import Idealize.ShloMosaic.Lib.IdealHost

@[expose] public section

noncomputable section

namespace Cert.Proof.AttnSoftmax

open Idealize.ShloMosaic Cert.Proof.AttnOnline Cert.Proof.AttnPayload Cert.Proof.AttnTiles Cert.Proof.AttnInner Cert.Proof.AttnOuter

variable (K R : Fin 8 → ℕ → Fin 128 → ℝ) (W : Fin 8 → Fin 144 → ℕ → ℝ)

/-- The score of a query and a key in a half of a head, the query scaled. -/
def sigma (h : Fin 8) (s : Fin 2) (t key : ℕ) : ℝ :=
  ∑ f : Fin 128, K h key f * (if (f.val < 64 ↔ s = 0) then R h t f * scale else 0)

theorem score_staged (b j : ℕ) (h : Fin 8) (s : Fin 2) (k q : Fin 256) :
    score K (staged R b) j h s k q = ((sigma K R h s (256 * b + q.val) (256 * j + k.val) : ℝ) : EReal) := by
  unfold score sigma
  rw [coe_sum]
  refine Finset.sum_congr rfl fun f _ => ?_
  rw [EReal.coe_mul]
  refine congrArg (_ * ·) ?_
  unfold staged
  have hq := q.isLt
  have e : (lane s q).val = 256 * s.val + q.val := rfl
  have e1 : (lane s q).val % 256 = q.val := by rw [e]; omega
  have e2 : (lane s q).val < 256 ↔ s = 0 := by
    rw [e, Fin.ext_iff]
    show _ ↔ s.val = 0
    omega
  rw [e1]
  by_cases c : (f.val < 64 ↔ s = 0)
  · rw [if_pos (c.trans e2.symm), if_pos c, EReal.coe_mul]
  · rw [if_neg (fun h => c (h.trans e2)), if_neg c]; rfl

variable {A : Sums} (hA : ∀ h s r q, ∃ x : ℝ, A h s r q = x)

include hA in
/-- After `n` whole tiles the sums are those of the first `256 n` keys. -/
theorem after_inv (b : ℕ) (h : Fin 8) (s : Fin 2) (q : Fin 256) (n : ℕ) :
    Inv (sigma K R h s (256 * b + q.val)) (W h) (256 * n) ((after K (staged R b) W (fun _ _ _ _ => ⊥) A n).1 h s 0 q)
      (fun r => (after K (staged R b) W (fun _ _ _ _ => ⊥) A n).2 h s r q) := by
  induction n with
  | zero => exact Or.inl ⟨rfl, rfl, fun r => hA h s r q⟩
  | succ n ih =>
    exact step_whole ih (fun k => score K (staged R b) n h s k q) (fun k => score_staged K R b n h s k q) _ (fun _ _ => rfl)

include hA in
/-- After the masked tile they are those of the keys up to the query's position. -/
theorem last_eq (b : ℕ) (h : Fin 8) (s : Fin 2) (q : Fin 256) :
    ∃ M : ℝ, ∀ r, last K (staged R b) W A b h s r q
      = ((∑ key ∈ Finset.range (256 * b + (q.val + 1)), pow2 (sigma K R h s (256 * b + q.val) key - M) * W h r key : ℝ) : EReal) := by
  obtain ⟨M, -, hr⟩ := step_last (after_inv K R W hA b h s q b) q (fun k => maskS (score K (staged R b) b) h s k q)
    (fun k => by unfold maskS; rw [score_staged]) (fun r k => ((W h r (256 * b + k.val) : ℝ) : EReal)) (fun _ _ => rfl)
  exact ⟨M, hr⟩

include hA in
theorem last_real (b : ℕ) (h : Fin 8) (s : Fin 2) (r : Fin 144) (q : Fin 256) : ∃ x : ℝ, last K (staged R b) W A b h s r q = x := by
  obtain ⟨M, hM⟩ := last_eq K R W hA b h s q
  exact ⟨_, hM r⟩

/-- A softmax of a half of a head, times a column of values. -/
def mean (h : Fin 8) (s : Fin 2) (r : Fin 144) (t : ℕ) : ℝ :=
  weighted (fun key => sigma K R h s t key * Real.log 2) (W h r) (t + 1)

theorem one_eq : one = 1 := Ideal.ofBits_one_f32

include hA in
theorem quotient_eq (hW : ∀ h key, W h 128 key = 1) (b : ℕ) (h : Fin 8) (s : Fin 2) (r : Fin 144) (q : Fin 256) :
    last K (staged R b) W A b h s r q * FloatOps.divf (F := Ideal) (φ := .f32) one (last K (staged R b) W A b h s 128 q)
      = ((mean K R W h s r (256 * b + q.val) : ℝ) : EReal) := by
  obtain ⟨M, hM⟩ := last_eq K R W hA b h s q
  have hone : (∑ key ∈ Finset.range (256 * b + (q.val + 1)), pow2 (sigma K R h s (256 * b + q.val) key - M) * W h 128 key)
      = ∑ key ∈ Finset.range (256 * b + (q.val + 1)), pow2 (sigma K R h s (256 * b + q.val) key - M) * 1 :=
    Finset.sum_congr rfl fun key _ => by rw [hW]
  have hpos := denominator_pos (sigma K R h s (256 * b + q.val)) M (256 * b + (q.val + 1)) (by omega)
  rw [hM r, hM 128, hone, one_eq]
  show _ * Ideal.div 1 _ = _
  rw [Ideal.div_coe hpos.ne', one_mul, ← EReal.coe_mul, mul_one_div, quotient]
  rfl

/-- One head's row of the result. -/
def row (lam : ℝ) (g : Fin 128 → EReal) (h : Fin 8) (t : ℕ) (d : Fin 128) : EReal :=
  closing (fun d => ((mean K R W h 0 ⟨d.val, by omega⟩ t - lam * mean K R W h 1 ⟨d.val, by omega⟩ t : ℝ) : EReal)) g d

include hA in
theorem ending_eq (hW : ∀ h key, W h 128 key = 1) (lam : ℝ) (g : Fin 128 → EReal) (b : ℕ) (h : Fin 8) (q : Fin 256) (d : Fin 128) :
    ending (lam : EReal) g (last K (staged R b) W A b) h q d = row K R W lam g h (256 * b + q.val) d := by
  unfold ending row
  refine congrArg (fun o => closing o g d) (funext fun d => ?_)
  rw [quotient_eq K R W hA hW, quotient_eq K R W hA hW, ← EReal.coe_mul, ← EReal.coe_sub]

end Cert.Proof.AttnSoftmax

end
-- ==== Proof.AttnBody.lean ====
/- The whole body: the first block's queries staged and its first scores taken, then block after block. Every row of the output
   block is the row of the plain mathematics. -/
module

public import proofs.«01_k».proof.Proof.AttnOuter
public import proofs.«01_k».proof.Proof.AttnSoftmax

@[expose] public section

set_option maxRecDepth 16384
set_option maxHeartbeats 1000000

noncomputable section

namespace Cert.Proof.AttnBody

open Cert.KernelIdeal Cert.KernelIdeal.Gen Idealize.ShloMosaic Idealize.ShloMosaic.ValueIdx
open Cert.Proof.AttnOnline Cert.Proof.AttnPayload Cert.Proof.AttnTiles Cert.Proof.AttnWrites Cert.Proof.AttnInner Cert.Proof.AttnOuter Cert.Proof.AttnSoftmax

variable (c : Dev nD) (i : grid0.Coords) {arg2 : Memref sig .tc .vmem S8x2048x128 .bf16} (harg2 : arg2.IsWhole) {arg3 : Memref sig .tc .vmem S8x2048x128 .bf16} (harg3 : arg3.IsWhole) {arg4 : Memref sig .tc .vmem S8x1152x256 .bf16} (harg4 : arg4.IsWhole) {arg5 : Memref sig .tc .vmem S4x64 .f32} (harg5 : arg5.IsWhole) {arg6 : Memref sig .tc .vmem S128x1 .f32} (harg6 : arg6.IsWhole) {arg7 : Memref sig .tc .vmem S1x2048x1024 .bf16} (harg7 : arg7.IsWhole) {arg8 : Memref sig .tc .vmem S2x8x128x512 .bf16} (harg8 : arg8.IsWhole) {arg9 : Memref sig .tc .vmem S8x2x256x256 .f32} (harg9 : arg9.IsWhole) {arg10 : Memref sig .tc .vmem S8x2x1x256 .f32} (harg10 : arg10.IsWhole) {arg11 : Memref sig .tc .vmem S8x2x144x256 .f32} (harg11 : arg11.IsWhole)
  (v15 : FVec Ideal S1x1 .f32) (X2 : BufTy.Contents (Elt Ideal) arg2.view.ty)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

variable {W : Fin 8 → Fin 144 → ℕ → ℝ} {K R : Fin 8 → ℕ → Fin 128 → ℝ} {g : Fin 128 → EReal} {lam : ℝ}

variable (W K R g lam) in
/-- What the arrays hold before block `n`: the block's queries and first scores, no maxima yet, some sums, and the rows of the
    blocks before. -/
def Good (n : ℕ) (p : Outer.St (F := Ideal) arg7 arg8 arg9 arg10 arg11) : Prop :=
  (∀ (t : Fin 2048) (h : Fin 8) (x : Fin 128), t.val / 256 < n →
      arg7.view.read (Elt Ideal) p.1 (ix3 0 t ⟨128 * h.val + x.val, by omega⟩) = row K R W lam g h t.val x)
    ∧ (∀ h f l, arg8.view.read (Elt Ideal) p.2.1 (ix4 (slot n) h f l) = staged R (min n 7) h f l)
    ∧ (∀ h s k q, arg9.view.read (Elt Ideal) p.2.2.1 (ix4 h s k q) = score K (staged R (min n 7)) 0 h s k q)
    ∧ (∀ h s z q, arg10.view.read (Elt Ideal) p.2.2.2.1 (ix4 h s z q) = ⊥)
    ∧ ∃ A : Sums, (∀ h s r q, ∃ x : ℝ, A h s r q = x) ∧ ∀ h s r q, arg11.view.read (Elt Ideal) p.2.2.2.2 (ix4 h s r q) = A h s r q

variable (hW : ∀ (j : Fin 8) (h : Fin 8) (r : Fin 144) (k : Fin 256), arg4.view.read (Elt Ideal) X4 (ix3 j ⟨144 * h.val + r.val, vrow_lt h r⟩ k) = ((W h r (256 * j.val + k.val) : ℝ) : EReal))
  (hK : ∀ (h : Fin 8) (t : Fin 2048) (f : Fin 128), arg3.view.read (Elt Ideal) X3 (ix3 h t f) = ((K h t.val f : ℝ) : EReal))
  (hR : ∀ (h : Fin 8) (t : Fin 2048) (f : Fin 128), arg2.view.read (Elt Ideal) X2 (ix3 h t f) = ((R h t.val f : ℝ) : EReal))
  (hl : v15 (ix2 0 0) = ((lam : ℝ) : EReal)) (hg : ∀ d : Fin 128, arg6.view.read (Elt Ideal) X6 (ix2 d 0) = g d)
  (hones : ∀ h key, W h 128 key = 1)

/-- What the arrays hold before block `n`, from what they hold at first. -/
abbrev state (G : Outer.St (F := Ideal) arg7 arg8 arg9 arg10 arg11) := Outer.st (F := Ideal) c i arg2 harg2 arg3 harg3 arg4 harg4 arg5 harg5 arg6 harg6 arg7 harg7 arg8 harg8 arg9 harg9 arg10 harg10 arg11 harg11 v15 rows128 keys queries X2 X3 X4 X6 G

include hW hK hR hl hg hones in
/-- One block more. -/
theorem good_succ (G : Outer.St (F := Ideal) arg7 arg8 arg9 arg10 arg11) (k : Fin k0_t1_loop.trips)
    (ih : Good W K R g lam k.val (state c i harg2 harg3 harg4 harg5 harg6 harg7 harg8 harg9 harg10 harg11 v15 X2 X3 X4 X6 G k.val)) :
    Good W K R g lam (k.val + 1) (state c i harg2 harg3 harg4 harg5 harg6 harg7 harg8 harg9 harg10 harg11 v15 X2 X3 X4 X6 G (k.val + 1)) := by
  have hk := block_lt k
  rw [show state c i harg2 harg3 harg4 harg5 harg6 harg7 harg8 harg9 harg10 harg11 v15 X2 X3 X4 X6 G (k.val + 1) = _ from Outer.st_succ ..]
  obtain ⟨h7, h8, h9, h10, A, hA, h11⟩ := ih
  have e : min k.val 7 = k.val := by omega
  rw [e] at h8 h9
  obtain ⟨d7, d8, d9, d10, d11⟩ := done c i harg2 harg3 harg4 harg5 harg6 harg7 harg8 harg9 harg10 harg11 v15 X2 X3 X4 X6 k _ _ _ _ _ h11 hW hK hR h8 h9 h10 hl hg
  refine ⟨fun t h x ht => (d7 t h x).trans ?_, d8, d9, d10, _, last_real K R W hA k.val, d11⟩
  by_cases c : t.val / 256 = k.val
  · rw [if_pos c, ending_eq K R W hA hones]
    congr 1
    show 256 * k.val + t.val % 256 = t.val
    omega
  · rw [if_neg c]
    exact h7 t h x (by omega)

include hW hK hR hl hg hones in
theorem good (G : Outer.St (F := Ideal) arg7 arg8 arg9 arg10 arg11) (h0 : Good W K R g lam 0 G) (n : ℕ) (hn : n ≤ 8) :
    Good W K R g lam n (state c i harg2 harg3 harg4 harg5 harg6 harg7 harg8 harg9 harg10 harg11 v15 X2 X3 X4 X6 G n) := by
  induction n with
  | zero => exact h0
  | succ n ih => exact good_succ c i harg2 harg3 harg4 harg5 harg6 harg7 harg8 harg9 harg10 harg11 v15 X2 X3 X4 X6 hW hK hR hl hg hones G ⟨n, hn⟩ (ih (by omega))

/-! The start. -/

include hR in
theorem stage_first : Staged arg8.view (slot 0) (staged R 0) 16 (Outer.bodyRun.sl.HW_arg8_16 (F := Ideal) arg2 X2) := by
  unfold Outer.bodyRun.sl.HW_arg8_16
  iterate 8
    refine Staged.cons (s := 1) (by decide) (by decide) (by decide) rfl rfl _ ?_ (fun p q => ?_)
    rotate_left
    · exact (kept_second _ p q).trans (staged_second _ _ p q _ ((load3 _ _ _ _ 0 rfl (by decide) _ (by omega) _).trans (hR ⟨_, by decide⟩ ⟨_, by omega⟩ p)))
    refine Staged.cons (s := 0) (by decide) (by decide) (by decide) rfl rfl _ ?_ (fun p q => ?_)
    rotate_left
    · exact (kept_first _ p q).trans (staged_first _ _ p q _ ((load3 _ _ _ _ 0 rfl (by decide) _ (by omega) _).trans (hR ⟨_, by decide⟩ ⟨_, by omega⟩ p)))
  exact Staged.nil

include hR hK in
theorem score_first : Below arg9.view [] (score K (staged R 0) 0) 16 (Outer.bodyRun.sl.HW_arg9_16 (F := Ideal) arg2 arg3 arg8 X2 X3) := by
  have s8 := stage_first (arg8 := arg8) X2 hR
  unfold Outer.bodyRun.sl.HW_arg9_16
  iterate 8
    refine Below.cons (s := 1) (by decide) (by decide) (by decide) _ _ ?_ (fun _ p q => ?_)
    rotate_left
    · refine at_score _ (by decide) K _ 0 _ _ 256 (by decide) (by decide) (fun r f => ?_) (fun f l => ?_) p q
      · exact (load3 _ _ _ _ 0 rfl (by decide) _ (by omega) _).trans (hK ⟨_, by decide⟩ ⟨_, by omega⟩ f)
      · exact (loadq _ _ _ _ _ rfl (slot 0).isLt (by decide) _ _).trans (s8.whole _ _ _ _)
    refine Below.cons (s := 0) (by decide) (by decide) (by decide) _ _ ?_ (fun _ p q => ?_)
    rotate_left
    · refine at_score _ (by decide) K _ 0 _ _ 0 (by decide) (by decide) (fun r f => ?_) (fun f l => ?_) p q
      · exact (load3 _ _ _ _ 0 rfl (by decide) _ (by omega) _).trans (hK ⟨_, by decide⟩ ⟨_, by omega⟩ f)
      · exact (loadq _ _ _ _ _ rfl (slot 0).isLt (by decide) _ _).trans (s8.whole _ _ _ _)
  exact rfl

/-- One write of a whole array leaves its value. -/
theorem read_one {a b c d : ℕ} {sig : RefSig} {κ : Kind} {sp : Space} (v : View sig κ sp ⟨4, ![a, b, c, d]⟩ .f32) (f : v.ty.Contents (Elt Ideal)) (inb)
    (w : (⟨4, ![a, b, c, d]⟩ : Shape).Idx → EReal) (h : Fin a) (s : Fin b) (r : Fin c) (q : Fin d) :
    v.read (Elt Ideal) (v.writes (Elt Ideal) f [⟨Rect.unit (s := ⟨4, ![a, b, c, d]⟩) ![0, 0, 0, 0] ![a, b, c, d] inb, w⟩]) (ix4 h s r q) = w (ix4 h s r q) :=
  View.read_writes_cons_unit_of_mem (Val := Elt Ideal) v f inb w [] (ix4 h s r q) (ix4 h s r q) rfl fun i => by
    match i with
    | ⟨0, _⟩ => show h.val = 0 + h.val; omega
    | ⟨1, _⟩ => show s.val = 0 + s.val; omega
    | ⟨2, _⟩ => show r.val = 0 + r.val; omega
    | ⟨3, _⟩ => show q.val = 0 + q.val; omega

variable (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty) (f11 : BufTy.Contents (Elt Ideal) arg11.view.ty)

include hR hK in
theorem good_first : Good W K R g lam 0
    (f7, arg8.view.writes (Elt Ideal) f8 (Outer.bodyRun.sl.HW_arg8_16 (F := Ideal) arg2 X2), arg9.view.writes (Elt Ideal) f9 (Outer.bodyRun.sl.HW_arg9_16 (F := Ideal) arg2 arg3 arg8 X2 X3),
      arg10.view.writes (Elt Ideal) f10 (Outer.bodyRun.sl.HW_arg10_1 (F := Ideal)), arg11.view.writes (Elt Ideal) f11 (Outer.bodyRun.sl.HW_arg11_1 (F := Ideal))) := by
  have s8 := stage_first (arg8 := arg8) X2 hR
  have s9 := score_first (arg8 := arg8) (arg9 := arg9) X2 X3 hK hR
  have e : min 0 7 = 0 := rfl
  unfold Good
  dsimp only
  rw [e]
  refine ⟨fun t h x ht => absurd ht (Nat.not_lt_zero _), fun h f l => ?_, fun h s k q => ?_, fun h s z q => ?_, fun _ _ _ _ => 0, fun _ _ _ _ => ⟨0, EReal.coe_zero.symm⟩, fun h s r q => ?_⟩
  · exact s8.whole f8 h f l
  · exact s9.whole f9 h s k q
  · unfold Outer.bodyRun.sl.HW_arg10_1
    refine (read_one arg10.view f10 _ _ h s z q).trans ?_
    unfold Outer.bodyRun.sl.v211
    refine (congrFun (shapeCast_self _ _) _).trans ?_
    exact named_mask
  · unfold Outer.bodyRun.sl.HW_arg11_1
    refine (read_one arg11.view f11 _ _ h s r q).trans ?_
    unfold k0_pay461
    refine (congrFun (shapeCast_self _ _) _).trans ?_
    exact Ideal.ofBits_zero_f32

variable (hl' : Outer.bodyRun.sl.r (F := Ideal) arg5 X5 (ix2 0 0) = ((lam : ℝ) : EReal))

include hW hK hR hl' hg hones in
/-- The output block, row by row. -/
theorem body_row (t : Fin 2048) (h : Fin 8) (x : Fin 128) :
    arg7.view.read (Elt Ideal) ((Outer.bodyRun (F := Ideal) c i arg2 harg2 arg3 harg3 arg4 harg4 arg5 harg5 arg6 harg6 arg7 harg7 arg8 harg8 arg9 harg9 arg10 harg10 arg11 harg11 X2 X3 X4 X6 X5).val f7 f8 f9 f10 f11)
      (ix3 0 t ⟨128 * h.val + x.val, by omega⟩) = row K R W lam g h t.val x := by
  unfold Outer.bodyRun
  dsimp only
  exact (good c i harg2 harg3 harg4 harg5 harg6 harg7 harg8 harg9 harg10 harg11 _ X2 X3 X4 X6 hW hK hR hl' hg hones _
    (good_first X2 X3 hK hR f7 f8 _ _ _) 8 (le_refl 8)).1 t h x (by omega)

end Cert.Proof.AttnBody

end
-- ==== Proof.AttnSpec.lean ====
/- The attention's result as plain mathematics of its argument arrays, the queries, keys, values and lambda vectors real:
   row (b, t), head h is `AttnSoftmax.row` of the batch's keys, queries and values. And two facts about the plain side: the
   scores of a half of a head over its 64 coordinates, and a softmax's weights summed against the values. -/
module

public import proofs.«01_k».proof.Proof.AttnSoftmax

@[expose] public section

noncomputable section

namespace Cert.Proof.AttnSpec

open Idealize.ShloMosaic Idealize.ShloMosaic.ValueIdx Cert.Proof.AttnOnline Cert.Proof.AttnPayload Cert.Proof.AttnSoftmax

/-- Keys or queries of batch `b`, the two halves of a head one after the other. -/
def head (a : (⟨5, ![8, 2048, 8, 2, 64]⟩ : Shape).Idx → ℝ) (b h : Fin 8) (t : ℕ) (f : Fin 128) : ℝ :=
  a (ix5 b ⟨t % 2048, Nat.mod_lt _ (by decide)⟩ h ⟨f.val / 64, by omega⟩ ⟨f.val % 64, Nat.mod_lt _ (by decide)⟩)

/-- Values of batch `b`, and the sixteen rows of ones below them. -/
def values (a : (⟨4, ![8, 2048, 8, 128]⟩ : Shape).Idx → ℝ) (b h : Fin 8) (r : Fin 144) (key : ℕ) : ℝ :=
  if hr : r.val < 128 then a (ix4 b ⟨key % 2048, Nat.mod_lt _ (by decide)⟩ h ⟨r.val, hr⟩) else 1

/-- The constant the difference of the two exponentials starts from. -/
def lamInit : ℝ := (Ideal.ofBits .f32 0x3EB60549#32).toReal

theorem lamInit_eq : Ideal.ofBits .f32 0x3EB60549#32 = (lamInit : EReal) := by
  unfold lamInit
  refine (EReal.coe_toReal ?_ ?_).symm <;> simp [Ideal.ofBits, Ideal.ieee, -EReal.coe_mul]

/-- The weight of the second softmax. -/
def lam (a : (⟨2, ![4, 64]⟩ : Shape).Idx → ℝ) : ℝ :=
  Real.exp (∑ j : Fin 64, a (ix2 0 j) * a (ix2 1 j)) - Real.exp (∑ j : Fin 64, a (ix2 2 j) * a (ix2 3 j)) + lamInit

variable (a0 a1 : (⟨5, ![8, 2048, 8, 2, 64]⟩ : Shape).Idx → ℝ) (a2 : (⟨4, ![8, 2048, 8, 128]⟩ : Shape).Idx → ℝ)
  (a3 : (⟨2, ![4, 64]⟩ : Shape).Idx → ℝ) (g : (⟨1, ![128]⟩ : Shape).Idx → EReal)

/-- The result array. -/
def result : (⟨3, ![8, 2048, 1024]⟩ : Shape).Idx → EReal := fun i =>
  row (head a1 (i 0)) (head a0 (i 0)) (values a2 (i 0)) (lam a3) (fun d => g (ix1 d))
    ⟨(i 2).val / 128, by have h : (i 2).val < 1024 := (i 2).isLt; omega⟩ (i 1).val ⟨(i 2).val % 128, Nat.mod_lt _ (by decide)⟩

/-- The score of a query and a key, over the coordinates of one half of a head. -/
def rho (b h : Fin 8) (s : Fin 2) (t key : ℕ) : ℝ :=
  ∑ f : Fin 64, a0 (ix5 b ⟨t % 2048, Nat.mod_lt _ (by decide)⟩ h s f) * (1 / 8) * a1 (ix5 b ⟨key % 2048, Nat.mod_lt _ (by decide)⟩ h s f)

theorem sigma_eq (b h : Fin 8) (s : Fin 2) (t key : ℕ) :
    sigma (head a1 b) (head a0 b) h s t key * Real.log 2 = rho a0 a1 b h s t key := by
  have hl : Real.log 2 ≠ 0 := (Real.log_pos (by norm_num)).ne'
  unfold sigma rho
  rw [Finset.sum_mul]
  refine (Fin.sum_univ_add (a := 64) (b := 64) _).trans ?_
  have e1 : ∀ f : Fin 64, (Fin.castAdd 64 f).val = f.val := fun f => rfl
  have e2 : ∀ f : Fin 64, (Fin.natAdd 64 f).val = 64 + f.val := fun f => rfl
  have h1 : ∀ (a : (⟨5, ![8, 2048, 8, 2, 64]⟩ : Shape).Idx → ℝ) (t : ℕ) (f : Fin 64), head a b h t (Fin.castAdd 64 f)
      = a (ix5 b ⟨t % 2048, Nat.mod_lt _ (by decide)⟩ h 0 f) := fun a t f => by
    unfold head
    have hf := f.isLt
    congr 2
    · exact Fin.ext (by show f.val / 64 = 0; omega)
    · exact Fin.ext (by show f.val % 64 = f.val; omega)
  have h2 : ∀ (a : (⟨5, ![8, 2048, 8, 2, 64]⟩ : Shape).Idx → ℝ) (t : ℕ) (f : Fin 64), head a b h t (Fin.natAdd 64 f)
      = a (ix5 b ⟨t % 2048, Nat.mod_lt _ (by decide)⟩ h 1 f) := fun a t f => by
    unfold head
    have hf := f.isLt
    congr 2
    · exact Fin.ext (by show (64 + f.val) / 64 = 1; omega)
    · exact Fin.ext (by show (64 + f.val) % 64 = f.val; omega)
  simp only [h1, h2, e1, e2]
  fin_cases s
  · rw [Finset.sum_eq_zero (s := Finset.univ) (f := fun f : Fin 64 => _ * (if (64 + f.val < 64 ↔ _) then _ else _) * Real.log 2), add_zero]
    · refine Finset.sum_congr rfl fun f _ => ?_
      rw [if_pos (by simp)]
      unfold scale
      simp only [Fin.zero_eta]
      field_simp
    · intro f _
      rw [if_neg (by simp)]
      simp
  · rw [Finset.sum_eq_zero (s := Finset.univ) (f := fun f : Fin 64 => _ * (if (f.val < 64 ↔ _) then _ else _) * Real.log 2), zero_add]
    · refine Finset.sum_congr rfl fun f _ => ?_
      rw [if_pos (by simp)]
      unfold scale
      simp only [Fin.mk_one]
      field_simp
    · intro f _
      rw [if_neg (by simp)]
      simp

/-- The exponential weight of a key the query sees; no other key has any. -/
def wgt (ρ : ℕ → ℝ) (M : ℝ) (t k : ℕ) : ℝ := if k ≤ t then Real.exp (ρ k - M) else 0

theorem sum_wgt (ρ w : ℕ → ℝ) (M : ℝ) {t : ℕ} (ht : t < 2048) :
    ∑ k : Fin 2048, wgt ρ M t k.val * w k.val = Real.exp (-M) * ∑ k ∈ Finset.range (t + 1), Real.exp (ρ k) * w k := by
  refine (Finset.sum_range (n := 2048) (fun k => wgt ρ M t k * w k)).symm.trans ?_
  rw [Finset.mul_sum]
  symm
  refine Finset.sum_subset_zero_on_sdiff (Finset.range_subset_range.2 (by omega)) (fun k hk => ?_) (fun k hk => ?_)
  · rw [Finset.mem_sdiff, Finset.mem_range, Finset.mem_range] at hk
    unfold wgt
    rw [if_neg (by omega), zero_mul]
  · rw [Finset.mem_range] at hk
    unfold wgt
    rw [if_pos (by omega), show ρ k - M = -M + ρ k by ring, Real.exp_add, mul_assoc]

theorem sum_wgt_pos (ρ : ℕ → ℝ) (M : ℝ) {t : ℕ} (ht : t < 2048) : 0 < ∑ k : Fin 2048, wgt ρ M t k.val := by
  have h := sum_wgt ρ (fun _ => 1) M ht
  simp only [mul_one] at h
  rw [h]
  exact mul_pos (Real.exp_pos _) (Finset.sum_pos (fun _ _ => Real.exp_pos _) ⟨0, Finset.mem_range.2 (by omega)⟩)

/-- The softmax's weights summed against the values. -/
theorem softmax_sum (ρ w : ℕ → ℝ) (M : ℝ) {t : ℕ} (ht : t < 2048) :
    ∑ k : Fin 2048, wgt ρ M t k.val * (1 / ∑ k : Fin 2048, wgt ρ M t k.val) * w k.val = weighted ρ w (t + 1) := by
  have h := sum_wgt ρ (fun _ => 1) M ht
  simp only [mul_one] at h
  have e : ∀ k : Fin 2048, wgt ρ M t k.val * (1 / ∑ k : Fin 2048, wgt ρ M t k.val) * w k.val
      = (wgt ρ M t k.val * w k.val) * (1 / ∑ k : Fin 2048, wgt ρ M t k.val) := fun k => by ring
  rw [Finset.sum_congr rfl fun k _ => e k, ← Finset.sum_mul, sum_wgt ρ w M ht, h, mul_one_div]
  unfold weighted
  exact mul_div_mul_left _ _ (Real.exp_pos _).ne'

end Cert.Proof.AttnSpec

end
-- ==== Proof.AttnCall.lean ====
/- The attention call's result array as one function of its arguments. The host lays the heads' queries and keys out head by
   head, the values tile by tile with rows of ones below them; grid point `b` is batch `b`, and the eight blocks tile the
   array. -/
module

public import proofs.«01_k».proof.Proof.AttnFrame
public import proofs.«01_k».proof.Proof.AttnBody
public import proofs.«01_k».proof.Proof.AttnSpec
public import proofs.«01_k».proof.Proof.Reads
public import Idealize.ShloMosaic.Lib.Pipeline.ValueKit.Tiles
public import Idealize.ShloMosaic.Lib.Pipeline.ValueKit.Geometry

@[expose] public section

set_option maxRecDepth 16384

noncomputable section

namespace Cert.Proof.AttnCall

open Cert.KernelIdeal Cert.KernelIdeal.Gen Cert.KernelIdeal.Outer Idealize.ShloMosaic Idealize.ShloMosaic.TcCoe Idealize.SL.Sem
open Idealize.ShloMosaic.ValueIdx Cert.Proof.AttnSpec Cert.Proof.AttnSoftmax Cert.Proof.Reads

/-! ## The host's layouts -/

section Layouts

variable {α : Type}

/-- Queries or keys laid out head by head. -/
theorem heads_read (x : S8x2048x8x2x64.Idx → α) (h : Fin 8) (n : Fin 16384) (f : Fin 128) :
    shapeCast S8x16384x128 (transpose S8x8x2048x2x64 [2, 0, 1, 3, 4] x transposes_S8x2048x8x2x64_S8x8x2048x2x64_2_0_1_3_4) shapeCasts_S8x8x2048x2x64_S8x16384x128 (ix3 h n f)
      = x (ix5 ⟨n.val / 2048, by omega⟩ ⟨n.val % 2048, Nat.mod_lt _ (by decide)⟩ h ⟨f.val / 64, by omega⟩ ⟨f.val % 64, Nat.mod_lt _ (by decide)⟩) := by
  refine (shapeCast_apply _ _ _ (ix5 h ⟨n.val / 2048, by omega⟩ ⟨n.val % 2048, Nat.mod_lt _ (by decide)⟩ ⟨f.val / 64, by omega⟩ ⟨f.val % 64, Nat.mod_lt _ (by decide)⟩) ?_).trans ?_
  · rw [Shape.rowMajor_val_five, Shape.rowMajor_val_three]
    show (((h.val * 8 + n.val / 2048) * 2048 + n.val % 2048) * 2 + f.val / 64) * 64 + f.val % 64 = (h.val * 16384 + n.val) * 128 + f.val
    omega
  · exact transpose_apply _ x _ _ _ (fun b => match b with
      | ⟨0, _⟩ => rfl
      | ⟨1, _⟩ => rfl
      | ⟨2, _⟩ => rfl
      | ⟨3, _⟩ => rfl
      | ⟨4, _⟩ => rfl)

/-- Values laid out tile by tile, the rows of `y` below them. -/
theorem tiles_read (x : S8x2048x8x128.Idx → α) (y : S8x8x8x16x256.Idx → α) (b j h : Fin 8) (r : Fin 144) (k : Fin 256)
    (n : Fin 64) (hn : n.val = 8 * b.val + j.val) (q : Fin 1152) (hq : q.val = 144 * h.val + r.val) :
    shapeCast S64x1152x256 (concatenate S8x8x8x144x256 3 [⟨S8x8x8x128x256,
        transpose S8x8x8x128x256 [0, 1, 3, 4, 2] (shapeCast S8x8x256x8x128 x shapeCasts_S8x2048x8x128_S8x8x256x8x128) transposes_S8x8x256x8x128_S8x8x8x128x256_0_1_3_4_2⟩,
        ⟨S8x8x8x16x256, y⟩] concatenates_S8x8x8x128x256_S8x8x8x16x256_S8x8x8x144x256_d3) shapeCasts_S8x8x8x144x256_S64x1152x256 (ix3 n q k)
      = if hr : r.val < 128 then x (ix4 b ⟨256 * j.val + k.val, by omega⟩ h ⟨r.val, hr⟩) else y (ix5 b j h ⟨r.val - 128, by omega⟩ k) := by
  refine (shapeCast_apply _ _ _ (ix5 b j h r k) ?_).trans ?_
  · rw [Shape.rowMajor_val_five, Shape.rowMajor_val_three]
    show (((b.val * 8 + j.val) * 8 + h.val) * 144 + r.val) * 256 + k.val = (n.val * 1152 + q.val) * 256 + k.val
    omega
  · by_cases hr : r.val < 128
    · rw [dif_pos hr]
      refine (concatenate_pair_apply_left (t := S8x8x8x144x256) (s₁ := S8x8x8x128x256) (s₂ := S8x8x8x16x256) 3 _ y _ (ix5 b j h r k) rfl (ix5 b j h ⟨r.val, hr⟩ k) (fun a => match a with
        | ⟨0, _⟩ => rfl
        | ⟨1, _⟩ => rfl
        | ⟨2, _⟩ => rfl
        | ⟨3, _⟩ => rfl
        | ⟨4, _⟩ => rfl)).trans ?_
      refine (transpose_apply _ _ _ _ (ix5 b j k h ⟨r.val, hr⟩) (fun a => match a with
        | ⟨0, _⟩ => rfl
        | ⟨1, _⟩ => rfl
        | ⟨2, _⟩ => rfl
        | ⟨3, _⟩ => rfl
        | ⟨4, _⟩ => rfl)).trans ?_
      refine shapeCast_apply _ _ _ _ ?_
      rw [Shape.rowMajor_val_five, Shape.rowMajor_val_four]
      show ((b.val * 2048 + (256 * j.val + k.val)) * 8 + h.val) * 128 + r.val = (((b.val * 8 + j.val) * 256 + k.val) * 8 + h.val) * 128 + r.val
      omega
    · rw [dif_neg hr]
      exact concatenate_pair_apply_right (t := S8x8x8x144x256) (s₁ := S8x8x8x128x256) (s₂ := S8x8x8x16x256) 3 _ y _ (ix5 b j h r k) rfl rfl (ix5 b j h ⟨r.val - 128, by omega⟩ k) (fun a => match a with
        | ⟨0, _⟩ => fun _ => rfl
        | ⟨1, _⟩ => fun _ => rfl
        | ⟨2, _⟩ => fun _ => rfl
        | ⟨3, _⟩ => fun h => absurd rfl h
        | ⟨4, _⟩ => fun _ => rfl) (by show r.val - 128 + 128 = r.val; omega)

end Layouts

/-- The second softmax's weight, from the lambda vectors. -/
theorem lam_read (v : Vec Ideal S4x64 .f32) (a3 : S4x64.Idx → ℝ) (h3 : ∀ i, v i = (a3 i : EReal)) :
    k0_pay431 (F := Ideal) v (ix2 0 0) = (lam a3 : EReal) := by
  have hrow : ∀ (n : Fin 4) (h : Shape.Slices S4x64 ![n.val, 0] S1x64) (j : Fin 64), extractStridedSlice S1x64 ![n.val, 0] v h (ix2 0 j) = (a3 (ix2 n j) : EReal) := fun n h j => by
    refine (extractStridedSlice_apply _ v h _ (ix2 n j) (fun a => match a with
      | ⟨0, _⟩ => by show n.val = n.val + 0; omega
      | ⟨1, _⟩ => by show j.val = 0 + j.val; omega)).trans (h3 _)
  have hsum : ∀ (n n' : Fin 4) (h : Shape.Slices S4x64 ![n.val, 0] S1x64) (h' : Shape.Slices S4x64 ![n'.val, 0] S1x64) hr hφ hacc hc,
      shapeCast S1x1 (multiReduction .add [1] S1 (mulf (F := Ideal) (φ := .f32) (extractStridedSlice S1x64 ![n.val, 0] v h) (extractStridedSlice S1x64 ![n'.val, 0] v h')) 0x00000000#32 hr hφ hacc) hc (ix2 0 0)
        = ((∑ j : Fin 64, a3 (ix2 n j) * a3 (ix2 n' j) : ℝ) : EReal) := fun n n' h h' hr hφ hacc hc => by
    rw [cast_col _ _ 0 0, row_sum, AttnOnline.coe_sum]
    refine Finset.sum_congr rfl fun j _ => ?_
    show extractStridedSlice S1x64 ![n.val, 0] v h (ix2 0 j) * extractStridedSlice S1x64 ![n'.val, 0] v h' (ix2 0 j) = _
    rw [hrow, hrow, EReal.coe_mul]
  have e1 := hsum 0 1 slices_S4x64_o0_0_S1x64 slices_S4x64_o1_0_S1x64 reduces_S1x64_S1 k0_pay10._proof_2 k0_pay411._proof_1 shapeCasts_S1_S1x1
  have e2 := hsum 2 3 slices_S4x64_o2_0_S1x64 slices_S4x64_o3_0_S1x64 reduces_S1x64_S1 k0_pay10._proof_2 k0_pay411._proof_1 shapeCasts_S1_S1x1
  unfold lam
  rw [EReal.coe_add, EReal.coe_sub, ← Ideal.exp_coe, ← Ideal.exp_coe, ← e1, ← e2, ← lamInit_eq]
  rfl

variable (m : (ℓ : Loc nD τ sig) → Buf (Elt Ideal) ℓ) (ρ : Dev nD → PrngReg)

/-! ## What the call finds in its arrays -/

theorem V_main_v2 (c : Dev nD) : V m c main_v2
    = shapeCast S8x16384x128 (transpose S8x8x2048x2x64 [2, 0, 1, 3, 4] (m ((c : Thread nD τ).loc main_arg0) : Vec Ideal S8x2048x8x2x64 .f32) transposes_S8x2048x8x2x64_S8x8x2048x2x64_2_0_1_3_4) shapeCasts_S8x8x2048x2x64_S8x16384x128 := by
  show StableHlo.after hostOps0 _ (Proc.devRef .tc main_v2) = _
  after_results
  rfl
theorem V_main_v5 (c : Dev nD) : V m c main_v5
    = shapeCast S8x16384x128 (transpose S8x8x2048x2x64 [2, 0, 1, 3, 4] (m ((c : Thread nD τ).loc main_arg1) : Vec Ideal S8x2048x8x2x64 .f32) transposes_S8x2048x8x2x64_S8x8x2048x2x64_2_0_1_3_4) shapeCasts_S8x8x2048x2x64_S8x16384x128 := by
  show StableHlo.after hostOps0 _ (Proc.devRef .tc main_v5) = _
  after_results
  rfl
theorem V_main_v11 (c : Dev nD) : V m c main_v11
    = shapeCast S64x1152x256 (concatenate S8x8x8x144x256 3 [⟨S8x8x8x128x256,
        transpose S8x8x8x128x256 [0, 1, 3, 4, 2] (shapeCast S8x8x256x8x128 (m ((c : Thread nD τ).loc main_arg2) : Vec Ideal S8x2048x8x128 .f32) shapeCasts_S8x2048x8x128_S8x8x256x8x128) transposes_S8x8x256x8x128_S8x8x8x128x256_0_1_3_4_2⟩,
        ⟨S8x8x8x16x256, broadcastInDim S8x8x8x16x256 ![] bcast_S_S8x8x8x16x256 (constant (F := Ideal) S_ .bf16 0x3F80#16)⟩] concatenates_S8x8x8x128x256_S8x8x8x16x256_S8x8x8x144x256_d3) shapeCasts_S8x8x8x144x256_S64x1152x256 := by
  show StableHlo.after hostOps0 _ (Proc.devRef .tc main_v11) = _
  after_results
  rfl
theorem V_main_v12 (c : Dev nD) : V m c main_v12
    = shapeCast S128x1 (m ((c : Thread nD τ).loc main_arg4) : Vec Ideal S128 .f32) shapeCasts_S128_S128x1 := by
  show StableHlo.after hostOps0 _ (Proc.devRef .tc main_v12) = _
  after_results
  rfl

/-! ## The index maps: point `b` stages batch `b` -/

theorem index0 : ∀ t : Fin cfg0.N, win0_0.index t (0 : Fin 3) = 0 ∧ win0_0.index t (1 : Fin 3) = t.val ∧ win0_0.index t (2 : Fin 3) = 0 := (by decide +kernel : ∀ t : Fin grid0.N, _)
theorem index1 : ∀ t : Fin cfg0.N, win0_1.index t (0 : Fin 3) = 0 ∧ win0_1.index t (1 : Fin 3) = t.val ∧ win0_1.index t (2 : Fin 3) = 0 := (by decide +kernel : ∀ t : Fin grid0.N, _)
theorem index2 : ∀ t : Fin cfg0.N, win0_2.index t (0 : Fin 3) = t.val ∧ win0_2.index t (1 : Fin 3) = 0 ∧ win0_2.index t (2 : Fin 3) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 3) = t.val ∧ win0_5.index t (1 : Fin 3) = 0 ∧ win0_5.index t (2 : Fin 3) = 0 := (by decide +kernel : ∀ t : Fin grid0.N, _)

/-! ## The blocks of a point -/

variable {a0 a1 : S8x2048x8x2x64.Idx → ℝ} {a2 : S8x2048x8x128.Idx → ℝ} {a3 : S4x64.Idx → ℝ} (c : Dev nD) (t : Fin cfg0.N)

theorem t_lt : t.val < 8 := t.isLt

/-- A point's batch. -/
abbrev bat : Fin 8 := ⟨t.val, t_lt t⟩

theorem blk0 (h0 : ∀ i, (m ((c : Thread nD τ).loc main_arg0) : Vec Ideal S8x2048x8x2x64 .f32) i = (a0 i : EReal)) (h : Fin 8) (p : Fin 2048) (f : Fin 128) :
    (iblk m c 0 t : Vec Ideal S8x2048x128 .bf16) (ix3 h p f) = (head a0 (bat t) h p.val f : EReal) := by
  show V m c main_v2 (((cfg0.win 0).blk t).view.emb (ix3 h p f)) = _
  rw [V_main_v2]
  obtain ⟨e0, e1, e2⟩ := index0 t
  have hp := p.isLt
  have ht := t_lt t
  have e : (((cfg0.win 0).blk t).view.emb (ix3 h p f) : S8x16384x128.Idx) = ix3 h ⟨2048 * t.val + p.val, by omega⟩ f := funext fun a => Fin.ext (by
    match a with
    | ⟨0, _⟩ => show win0_0.index t (0 : Fin 3) * 8 + 1 * h.val = h.val; omega
    | ⟨1, _⟩ => show win0_0.index t (1 : Fin 3) * 2048 + 1 * p.val = 2048 * t.val + p.val; omega
    | ⟨2, _⟩ => show win0_0.index t (2 : Fin 3) * 128 + 1 * f.val = f.val; omega)
  rw [e, heads_read, h0]
  unfold head
  congr 3
  · exact Fin.ext (by show (2048 * t.val + p.val) / 2048 = t.val; omega)
  · exact Fin.ext (by show (2048 * t.val + p.val) % 2048 = p.val % 2048; omega)

theorem blk1 (h1 : ∀ i, (m ((c : Thread nD τ).loc main_arg1) : Vec Ideal S8x2048x8x2x64 .f32) i = (a1 i : EReal)) (h : Fin 8) (p : Fin 2048) (f : Fin 128) :
    (iblk m c 1 t : Vec Ideal S8x2048x128 .bf16) (ix3 h p f) = (head a1 (bat t) h p.val f : EReal) := by
  show V m c main_v5 (((cfg0.win 1).blk t).view.emb (ix3 h p f)) = _
  rw [V_main_v5]
  obtain ⟨e0, e1, e2⟩ := index1 t
  have hp := p.isLt
  have ht := t_lt t
  have e : (((cfg0.win 1).blk t).view.emb (ix3 h p f) : S8x16384x128.Idx) = ix3 h ⟨2048 * t.val + p.val, by omega⟩ f := funext fun a => Fin.ext (by
    match a with
    | ⟨0, _⟩ => show win0_1.index t (0 : Fin 3) * 8 + 1 * h.val = h.val; omega
    | ⟨1, _⟩ => show win0_1.index t (1 : Fin 3) * 2048 + 1 * p.val = 2048 * t.val + p.val; omega
    | ⟨2, _⟩ => show win0_1.index t (2 : Fin 3) * 128 + 1 * f.val = f.val; omega)
  rw [e, heads_read, h1]
  unfold head
  congr 3
  · exact Fin.ext (by show (2048 * t.val + p.val) / 2048 = t.val; omega)
  · exact Fin.ext (by show (2048 * t.val + p.val) % 2048 = p.val % 2048; omega)

theorem blk2 (h2 : ∀ i, (m ((c : Thread nD τ).loc main_arg2) : Vec Ideal S8x2048x8x128 .f32) i = (a2 i : EReal)) (j h : Fin 8) (r : Fin 144) (k : Fin 256) :
    (iblk m c 2 t : Vec Ideal S8x1152x256 .bf16) (ix3 j ⟨144 * h.val + r.val, AttnTiles.vrow_lt h r⟩ k) = (values a2 (bat t) h r (256 * j.val + k.val) : EReal) := by
  show V m c main_v11 (((cfg0.win 2).blk t).view.emb (ix3 j ⟨144 * h.val + r.val, _⟩ k)) = _
  rw [V_main_v11]
  obtain ⟨e0, e1, e2⟩ := index2 t
  have ht := t_lt t
  have hj := j.isLt
  have hk := k.isLt
  have e : (((cfg0.win 2).blk t).view.emb (ix3 j ⟨144 * h.val + r.val, AttnTiles.vrow_lt h r⟩ k) : S64x1152x256.Idx)
      = ix3 ⟨8 * t.val + j.val, by omega⟩ ⟨144 * h.val + r.val, AttnTiles.vrow_lt h r⟩ k := funext fun a => Fin.ext (by
    match a with
    | ⟨0, _⟩ => show win0_2.index t (0 : Fin 3) * 8 + 1 * j.val = 8 * t.val + j.val; omega
    | ⟨1, _⟩ => show win0_2.index t (1 : Fin 3) * 1152 + 1 * (144 * h.val + r.val) = 144 * h.val + r.val; omega
    | ⟨2, _⟩ => show win0_2.index t (2 : Fin 3) * 256 + 1 * k.val = k.val; omega)
  rw [e, tiles_read _ _ (bat t) j h r k _ rfl _ rfl]
  unfold values
  by_cases hr : r.val < 128
  · rw [dif_pos hr, dif_pos hr, h2]
    congr 3
    exact Fin.ext (by show 256 * j.val + k.val = (256 * j.val + k.val) % 2048; omega)
  · rw [dif_neg hr, dif_neg hr]
    exact Ideal.ofBits_one_bf16

theorem blk3 (i : S4x64.Idx) : (iblk m c 3 t : Vec Ideal S4x64 .f32) i = (m ((c : Thread nD τ).loc main_arg3) : Vec Ideal S4x64 .f32) i := by
  show V m c main_arg3 (((cfg0.win 3).blk t).view.emb i) = _
  rw [V_main_arg3]
  obtain ⟨e0, e1⟩ := index3 t
  refine congrArg (m ((c : Thread nD τ).loc main_arg3) : Vec Ideal S4x64 .f32) (funext fun a => Fin.ext (by
    match a with
    | ⟨0, _⟩ => show win0_3.index t (0 : Fin 2) * 4 + 1 * (i 0).val = (i 0).val; omega
    | ⟨1, _⟩ => show win0_3.index t (1 : Fin 2) * 64 + 1 * (i 1).val = (i 1).val; omega))

theorem blk4 (d : Fin 128) : (iblk m c 4 t : Vec Ideal S128x1 .f32) (ix2 d 0) = (m ((c : Thread nD τ).loc main_arg4) : Vec Ideal S128 .f32) (ix1 d) := by
  show V m c main_v12 (((cfg0.win 4).blk t).view.emb (ix2 d 0)) = _
  rw [V_main_v12]
  obtain ⟨e0, e1⟩ := index4 t
  have e : (((cfg0.win 4).blk t).view.emb (ix2 d 0) : S128x1.Idx) = ix2 d 0 := funext fun a => Fin.ext (by
    match a with
    | ⟨0, _⟩ => show win0_4.index t (0 : Fin 2) * 128 + 1 * d.val = d.val; omega
    | ⟨1, _⟩ => show win0_4.index t (1 : Fin 2) * 1 + 1 * 0 = 0; omega)
  rw [e]
  exact cast_col _ _ d 0

/-! ## The result array -/

variable (a0 a1 a2 a3) in
/-- The result of a device's arguments, `a0` to `a3` their values as reals. -/
abbrev GM : Vec Ideal S8x2048x1024 .bf16 := result a0 a1 a2 a3 (m ((c : Thread nD τ).loc main_arg4) : Vec Ideal S128 .f32)

variable (a0 a1 a2 a3) in
/-- A point's block of the result. -/
abbrev Z : Vec Ideal S1x2048x1024 .bf16 := ((cfg0.win 5).blk t).view.read (Elt Ideal) (GM m a0 a1 a2 a3 c)

theorem Z_at (p : Fin 2048) (h : Fin 8) (x : Fin 128) :
    Z m a0 a1 a2 a3 c t (ix3 0 p ⟨128 * h.val + x.val, by omega⟩)
      = row (head a1 (bat t)) (head a0 (bat t)) (values a2 (bat t)) (lam a3) (fun d => (m ((c : Thread nD τ).loc main_arg4) : Vec Ideal S128 .f32) (ix1 d)) h p.val x := by
  show GM m a0 a1 a2 a3 c (((cfg0.win 5).blk t).view.emb (ix3 0 p ⟨128 * h.val + x.val, _⟩)) = _
  obtain ⟨e0, e1, e2⟩ := index5 t
  have hh := h.isLt
  have hx := x.isLt
  have e : (((cfg0.win 5).blk t).view.emb (ix3 0 p ⟨128 * h.val + x.val, by omega⟩) : S8x2048x1024.Idx) = ix3 (bat t) p ⟨128 * h.val + x.val, by omega⟩ := funext fun a => Fin.ext (by
    match a with
    | ⟨0, _⟩ => show win0_5.index t (0 : Fin 3) * 1 + 1 * 0 = t.val; omega
    | ⟨1, _⟩ => show win0_5.index t (1 : Fin 3) * 2048 + 1 * p.val = p.val; omega
    | ⟨2, _⟩ => show win0_5.index t (2 : Fin 3) * 1024 + 1 * (128 * h.val + x.val) = 128 * h.val + x.val; omega)
  rw [e]
  show row _ _ _ _ _ _ _ _ = _
  congr 1
  · exact Fin.ext (by show (128 * h.val + x.val) / 128 = h.val; omega)
  · exact Fin.ext (by show (128 * h.val + x.val) % 128 = x.val; omega)

end Cert.Proof.AttnCall

end
-- ==== Proof.AttnResult.lean ====
/- Every run of the attention call leaves the result array: each point's block is the plain mathematics of its batch
   (`AttnBody.body_row`), and the eight blocks tile the array. -/
module

public import proofs.«01_k».proof.Proof.AttnCall
public import Idealize.ShloMosaic.Lib.VecWindow

@[expose] public section

set_option maxRecDepth 16384
set_option maxHeartbeats 1000000

noncomputable section

namespace Cert.Proof.AttnResult

open Cert.KernelIdeal Cert.KernelIdeal.Gen Cert.KernelIdeal.Outer Idealize.ShloMosaic Idealize.ShloMosaic.TcCoe Idealize.SL.Sem
open Idealize.ShloMosaic.ValueIdx Cert.Proof.AttnSpec Cert.Proof.AttnSoftmax Cert.Proof.AttnCall

variable (m : (ℓ : Loc nD τ sig) → Buf (Elt Ideal) ℓ) (ρ : Dev nD → PrngReg)

/-- The first four arguments hold reals on every device. -/
structure Reals (a0 a1 : Dev nD → S8x2048x8x2x64.Idx → ℝ) (a2 : Dev nD → S8x2048x8x128.Idx → ℝ) (a3 : Dev nD → S4x64.Idx → ℝ) : Prop where
  h0 : ∀ (c : Dev nD) i, (m ((c : Thread nD τ).loc main_arg0) : Vec Ideal S8x2048x8x2x64 .f32) i = (a0 c i : EReal)
  h1 : ∀ (c : Dev nD) i, (m ((c : Thread nD τ).loc main_arg1) : Vec Ideal S8x2048x8x2x64 .f32) i = (a1 c i : EReal)
  h2 : ∀ (c : Dev nD) i, (m ((c : Thread nD τ).loc main_arg2) : Vec Ideal S8x2048x8x128 .f32) i = (a2 c i : EReal)
  h3 : ∀ (c : Dev nD) i, (m ((c : Thread nD τ).loc main_arg3) : Vec Ideal S4x64 .f32) i = (a3 c i : EReal)

variable {a0 a1 : Dev nD → S8x2048x8x2x64.Idx → ℝ} {a2 : Dev nD → S8x2048x8x128.Idx → ℝ} {a3 : Dev nD → S4x64.Idx → ℝ}

/-- A column of the output, as a head and a coordinate of it. -/
theorem col_split (z : Fin 1024) : ∃ (h : Fin 8) (x : Fin 128), z = ⟨128 * h.val + x.val, by omega⟩ :=
  ⟨⟨z.val / 128, by omega⟩, ⟨z.val % 128, Nat.mod_lt _ (by decide)⟩, Fin.ext (by show z.val = 128 * (z.val / 128) + z.val % 128; omega)⟩

theorem block_value (H : Reals m a0 a1 a2 a3) (c : Dev nD) (t : Fin cfg0.N) f7 f8 f9 f10 f11 :
    (st0_5 t).view.read (Elt Ideal) ((bodyRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
      ((hstage0_0 ((cfg0.slots t 0).cast nbuf0_0)).unread (iblk m c 0 t)) ((hstage0_1 ((cfg0.slots t 1).cast nbuf0_1)).unread (iblk m c 1 t))
      ((hstage0_2 ((cfg0.slots t 2).cast nbuf0_2)).unread (iblk m c 2 t)) ((hstage0_4 ((cfg0.slots t 4).cast nbuf0_4)).unread (iblk m c 4 t))
      ((hstage0_3 ((cfg0.slots t 3).cast nbuf0_3)).unread (iblk m c 3 t))).val f7 f8 f9 f10 f11) = Z m (a0 c) (a1 c) (a2 c) (a3 c) c t := by
  funext i
  obtain ⟨z, p, q, rfl⟩ : ∃ (z : Fin 1) (p : Fin 2048) (q : Fin 1024), i = ix3 z p q := ⟨i 0, i 1, i 2, eq_ix3 _⟩
  obtain rfl : z = 0 := Fin.ext (by omega)
  obtain ⟨h, x, rfl⟩ := col_split q
  refine (AttnBody.body_row (W := values (a2 c) (bat t)) (K := head (a1 c) (bat t)) (R := head (a0 c) (bat t))
    (g := fun d => (m ((c : Thread nD τ).loc main_arg4) : Vec Ideal S128 .f32) (ix1 d)) (lam := lam (a3 c)) c (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (Memref.isWhole_whole _) (Memref.isWhole_whole _) (Memref.isWhole_whole _) (Memref.isWhole_whole _) _ _ _ _ _
    ?_ ?_ ?_ ?_ ?_ f7 f8 f9 f10 f11 ?_ p h x).trans (Z_at m c t p h x).symm
  · intro j h r k
    rw [Memref.IsWhole.read_unread]
    exact blk2 m c t (H.h2 c) j h r k
  · intro h p f
    rw [Memref.IsWhole.read_unread]
    exact blk1 m c t (H.h1 c) h p f
  · intro h p f
    rw [Memref.IsWhole.read_unread]
    exact blk0 m c t (H.h0 c) h p f
  · intro d
    rw [Memref.IsWhole.read_unread]
    exact blk4 m c t d
  · intro h key
    unfold values
    exact dif_neg (by decide)
  · refine lam_read _ (a3 c) fun i => ?_
    show (st0_3 t).view.readAt (Elt Ideal) (Rect.unit ![0, 0] S4x64.size _).toLoadRect ((hstage0_3 ((cfg0.slots t 3).cast nbuf0_3)).unread (iblk m c 3 t)) i = _
    rw [View.readAt_full, Memref.IsWhole.read_unread]
    exact (blk3 m c t i).trans (H.h3 c i)

/-- What a point writes back is its block of the result. -/
theorem flushed_eq (c : Dev nD) (t : Fin cfg0.N) :
    (dats m (fun c t => Z m (a0 c) (a1 c) (a2 c) (a3 c) c t) 0 c).flushed 5 t = ((cfg0.win 5).blk t).view.read (Elt Ideal) (GM m (a0 c) (a1 c) (a2 c) (a3 c) c) := by
  show (cfg0.win 5).cut (grid0.coords t) ((dats m (fun c t => Z m (a0 c) (a1 c) (a2 c) (a3 c) c t) 0 c).after 5 t) = _
  rw [after_5]

/-- The result array after the run. -/
theorem final (c : Dev nD) : (dats m (fun c t => Z m (a0 c) (a1 c) (a2 c) (a3 c) c t) 0 c).arrAt 5 cfg0.N = GM m (a0 c) (a1 c) (a2 c) (a3 c) c :=
  (dats m (fun c t => Z m (a0 c) (a1 c) (a2 c) (a3 c) c t) 0 c).arrAt_eq_of_cover 5 (GM m (a0 c) (a1 c) (a2 c) (a3 c) c) (fun t _ => flushed_eq m c t)
    ((show (cfg0.win 5).Covers by decide +kernel).cover _ (Memref.isWhole_whole _))

/-- Every run leaves the result array, and the arguments as they were. -/
theorem run (H : Reals m a0 a1 a2 a3) : θ_run defs (onTc (τ := τ) (main (F := Ideal))) ⟨m, fun _ => 0, ρ⟩ fun r => ∀ c : Dev nD,
      r.2.mem ((c.tc : Thread nD τ).loc main_v13) = GM m (a0 c) (a1 c) (a2 c) (a3 c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 5).trans (final m c), ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (((h c).1 3).trans ((dats m _ 0 c).arrAt_in 3 rfl _)).trans ((A_eq m _ c 3).trans (V_main_arg3 m c)),
    ((h c).2 main_arg4 (Pipeline.mem_restRefs_of main_arg4 (by decide) (by decide))).trans (V_main_arg4 m c)⟩)
    (run_value m ρ (fun c t => Z m (a0 c) (a1 c) (a2 c) (a3 c) c t) (block_value m H))

end Cert.Proof.AttnResult

end
-- ==== Proof.AttnReference.lean ====
/- The attention reference's result, read operation by operation (Gen/ReferenceIdeal/Read.lean), as the plain mathematics of
   AttnSpec.lean, where its queries, keys, values and lambda vectors are real. -/
module

public import proofs.«01_k».proof.Proof.Gen.ReferenceIdeal.Read
public import proofs.«01_k».proof.Proof.AttnSpec
public import Idealize.ShloMosaic.Lib.Affine
public import Idealize.ShloMosaic.Lib.DynamicIndex

@[expose] public section

set_option maxRecDepth 16384

noncomputable section

namespace Cert.Proof.AttnReference

open Cert.ReferenceIdeal Cert.ReferenceIdeal.Read Idealize.ShloMosaic Idealize.ShloMosaic.ValueIdx
open Cert.Proof.AttnOnline Cert.Proof.AttnPayload Cert.Proof.AttnSoftmax Cert.Proof.AttnSpec

/-- Equal indices from equal coordinates. -/
theorem ext5 {n0 n1 n2 n3 n4 : Nat} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (by match a with | ⟨0, _⟩ => exact h0 | ⟨1, _⟩ => exact h1 | ⟨2, _⟩ => exact h2 | ⟨3, _⟩ => exact h3 | ⟨4, _⟩ => exact h4)
theorem ext4 {n0 n1 n2 n3 : Nat} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)
theorem ext2 {n0 n1 : Nat} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)
theorem ext1 {n0 : Nat} {i j : (⟨1, ![n0]⟩ : Shape).Idx} (h0 : (i 0).val = (j 0).val) : i = j :=
  funext fun a => Fin.ext (by match a with | ⟨0, _⟩ => exact h0)

theorem eighth_eq : Ideal.ofBits .f32 0x3E000000#32 = ((1 / 8 : ℝ) : EReal) := by
  simp [Ideal.ofBits, Ideal.ieee, -EReal.coe_mul]; norm_num

theorem bot_eq : Ideal.ofBits .f32 0xFF800000#32 = ⊥ := by
  simp [Ideal.ofBits, Ideal.ieee]

variable {x0 x1 : Vec Ideal S8x2048x8x2x64 .f32} {x2 : Vec Ideal S8x2048x8x128 .f32} {x3 : Vec Ideal S4x64 .f32} {x4 : Vec Ideal S128 .f32}
  {a0 a1 : S8x2048x8x2x64.Idx → ℝ} {a2 : S8x2048x8x128.Idx → ℝ} {a3 : S4x64.Idx → ℝ}
  (h0 : ∀ i, x0 i = (a0 i : EReal)) (h1 : ∀ i, x1 i = (a1 i : EReal)) (h2 : ∀ i, x2 i = (a2 i : EReal)) (h3 : ∀ i, x3 i = (a3 i : EReal))
  (b h : Fin 8) (s : Fin 2) (t k : Fin 2048)

include h0 h1 in
/-- A score. -/
theorem score_eq : val_main_v21 (F := Ideal) x0 x1 (ix5 b h s t k) = (rho a0 a1 b h s t.val k.val : EReal) := by
  rw [val_main_v21_apply]
  unfold rho
  rw [coe_sum]
  refine Finset.sum_congr rfl fun f _ => ?_
  have ht := t.isLt
  have hk := k.isLt
  rw [val_main_v2_apply, val_main_v1_apply, val_main_v3_apply, val_main_v0_apply, val_main_cst_apply, h0, h1, EReal.coe_mul, EReal.coe_mul, ← eighth_eq]
  have e0 : idx_main_v2 (lidx_main_v21 (ix5 b h s t k) f) = ix5 b ⟨t.val % 2048, Nat.mod_lt _ (by decide)⟩ h s f :=
    ext5 rfl (by show t.val = t.val % 2048; omega) rfl rfl rfl
  have e1 : idx_main_v3 (ridx_main_v21 (ix5 b h s t k) f) = ix5 b ⟨k.val % 2048, Nat.mod_lt _ (by decide)⟩ h s f :=
    ext5 rfl (by show k.val = k.val % 2048; omega) rfl rfl rfl
  rw [e0, e1]
  rfl

include h0 h1 in
/-- A masked score. -/
theorem masked_eq : val_main_v29 (F := Ideal) x0 x1 (ix5 b h s t k) = if k.val ≤ t.val then (rho a0 a1 b h s t.val k.val : EReal) else ⊥ := by
  rw [val_main_v29_apply, score_eq h0 h1]
  have e : val_main_call0_v1 (F := Ideal) (ix5 b h s t k) = IntOp.cmpi .sle (BitVec.ofNat 32 k.val) (BitVec.ofNat 32 t.val) := by
    rw [val_main_call0_v1_apply, val_main_v28_apply, val_main_v26_apply, val_main_v23_apply, val_main_v22_apply, val_main_v27_apply, val_main_v25_apply, val_main_v24_apply]
  have e2 : val_main_call0_v2 (F := Ideal) (ix5 b h s t k) = ⊥ := by
    rw [val_main_call0_v2_apply, val_main_call0_v0_apply, val_main_cst_3_apply]
    exact bot_eq
  have e3 : (IntOp.cmpi .sle (BitVec.ofNat 32 k.val) (BitVec.ofNat 32 t.val) = 1#1) ↔ k.val ≤ t.val := by
    rw [IntOp.cmpi_sle, toInt_ofNat_of_lt (by have := k.isLt; omega), toInt_ofNat_of_lt (by have := t.isLt; omega)]
    exact Int.ofNat_le
  rw [e, e2]
  unfold Scalar.select
  by_cases hc : k.val ≤ t.val
  · rw [if_pos hc]; exact if_pos (e3.2 hc)
  · rw [if_neg hc]; exact if_neg (fun h => hc (e3.1 h))

include h0 h1 in
/-- The greatest masked score of a query is real. -/
theorem max_real : ∃ M : ℝ, val_main_v32 (F := Ideal) x0 x1 (ix4 b h s t) = (M : EReal) := by
  have hr : Shape.Reduces S8x8x2x2048x2048 [4] S8x8x2x2048 := by decide
  have hl : ∀ k, val_main_v29 (F := Ideal) x0 x1 (hr.lift (ix4 b h s t) k) = if k.val ≤ t.val then (rho a0 a1 b h s t.val k.val : EReal) else ⊥ := fun k =>
    have e : hr.lift (ix4 b h s t) k = ix5 b h s t k := ext5 rfl rfl rfl rfl rfl
    (congrArg (val_main_v29 (F := Ideal) x0 x1) e).trans (masked_eq h0 h1 b h s t k)
  have e : val_main_v30 (F := Ideal) x0 x1 (ix4 b h s t)
      = Finset.univ.fold (FloatOps.maximumf (F := Ideal) (φ := .f32)) ⊥ (val_main_v29 (F := Ideal) x0 x1 ∘ hr.lift (ix4 b h s t)) := by
    unfold val_main_v30
    have z : FloatOps.ofBits (F := Ideal) .f32 0xFF800000#32 = (⊥ : EReal) := bot_eq
    refine (Host.reduce_eq_fold_single (FloatOps.maximumf (F := Ideal) (φ := .f32)) (val_main_v29 (F := Ideal) x0 x1) (val_main_cst_4 (F := Ideal)) _ hr _ (ix4 b h s t)).trans ?_
    rw [val_main_cst_4_apply, z]
  have e2 : val_main_v32 (F := Ideal) x0 x1 (ix4 b h s t) = max ⊥ (val_main_v30 (F := Ideal) x0 x1 (ix4 b h s t)) := by
    have z : FloatOps.ofBits (F := Ideal) .f32 0xFF800000#32 = (⊥ : EReal) := bot_eq
    rw [val_main_v32_apply, val_main_v31_apply, val_main_cst_5_apply, z]
    generalize val_main_v30 (F := Ideal) x0 x1 (ix4 b h s t) = y
    rfl
  rw [e2, max_eq_right bot_le]
  have ht : val_main_v30 (F := Ideal) x0 x1 (ix4 b h s t) ≠ ⊤ := by
    rw [e]
    refine ne_of_lt ((Finset.fold_max_lt _).2 ⟨bot_lt_top, fun k _ => ?_⟩)
    rw [Function.comp_apply, hl]
    split
    · exact EReal.coe_lt_top _
    · exact bot_lt_top
  have hb : val_main_v30 (F := Ideal) x0 x1 (ix4 b h s t) ≠ ⊥ := by
    rw [e]
    refine ne_of_gt (lt_of_lt_of_le ?_ ((Finset.le_fold_max _).2 (Or.inr ⟨(⟨0, by decide⟩ : Fin (S8x8x2x2048x2048.size 4)), Finset.mem_univ _, le_rfl⟩)))
    rw [Function.comp_apply, hl]
    exact lt_of_lt_of_eq (EReal.bot_lt_coe _) (if_pos (Nat.zero_le _)).symm
  exact ⟨_, (EReal.coe_toReal ht hb).symm⟩

include h0 h1 in
/-- A softmax weight, for some real `M`. -/
theorem softmax_eq : ∃ M : ℝ, ∀ k : Fin 2048, val_main_v40 (F := Ideal) x0 x1 (ix5 b h s t k)
    = ((wgt (rho a0 a1 b h s t.val) M t.val k.val * (1 / ∑ k : Fin 2048, wgt (rho a0 a1 b h s t.val) M t.val k.val) : ℝ) : EReal) := by
  obtain ⟨M, hM⟩ := max_real h0 h1 b h s t
  have hexp : ∀ k : Fin 2048, val_main_v36 (F := Ideal) x0 x1 (ix5 b h s t k) = (wgt (rho a0 a1 b h s t.val) M t.val k.val : EReal) := fun k => by
    rw [val_main_v36_apply, val_main_v35_apply, masked_eq h0 h1, val_main_v34_apply, val_main_v33_apply]
    have e : idx_main_v33 (idx_main_v34 (ix5 b h s t k)) = ix4 b h s t := ext4 rfl rfl rfl rfl
    rw [e, hM]
    unfold wgt
    show Ideal.exp (_ - _) = _
    split
    · rw [← EReal.coe_sub, Ideal.exp_coe]
    · rw [EReal.bot_sub, Ideal.exp_bot]; rfl
  have hsum : val_main_v37 (F := Ideal) x0 x1 (ix4 b h s t) = ((∑ k : Fin 2048, wgt (rho a0 a1 b h s t.val) M t.val k.val : ℝ) : EReal) := by
    rw [val_main_v37_apply, val_main_cst_6_apply, coe_sum]
    show Ideal.ofBits .f32 0x00000000#32 + _ = _
    rw [Ideal.ofBits_zero_f32, zero_add]
    refine Finset.sum_congr rfl fun k _ => ?_
    have e : idx_main_v37 (ix4 b h s t) k = ix5 b h s t k := ext5 rfl rfl rfl rfl rfl
    rw [e, hexp]
  refine ⟨M, fun k => ?_⟩
  have e : idx_main_v38 (idx_main_v39 (ix5 b h s t k)) = ix4 b h s t := ext4 rfl rfl rfl rfl
  rw [val_main_v40_apply, val_main_v39_apply, val_main_v38_apply, e, hexp, hsum]
  show Ideal.div _ _ = _
  rw [Ideal.div_coe (sum_wgt_pos _ M t.isLt).ne', ← EReal.coe_mul]

include h3 in
/-- The second softmax's weight. -/
theorem lam_eq (i : S_.Idx) : val_main_v20 (F := Ideal) x3 i = (lam a3 : EReal) := by
  have e0 : ∀ j : S64.Idx, val_main_v9 (F := Ideal) x3 j = ((a3 (ix2 0 (j 0)) * a3 (ix2 1 (j 0)) : ℝ) : EReal) := fun j => by
    have hj : (j 0).val < 64 := (j 0).isLt
    rw [val_main_v9_apply, val_main_v6_apply, val_main_v5_apply, val_main_v8_apply, val_main_v7_apply, h3, h3, EReal.coe_mul]
    refine congrArg₂ (fun i j => (a3 i : EReal) * (a3 j : EReal)) (ext2 rfl ?_) (ext2 rfl ?_)
    · show (j 0).val % 64 = (j 0).val; omega
    · show (j 0).val % 64 = (j 0).val; omega
  have e1 : ∀ j : S64.Idx, val_main_v16 (F := Ideal) x3 j = ((a3 (ix2 2 (j 0)) * a3 (ix2 3 (j 0)) : ℝ) : EReal) := fun j => by
    have hj : (j 0).val < 64 := (j 0).isLt
    rw [val_main_v16_apply, val_main_v13_apply, val_main_v12_apply, val_main_v15_apply, val_main_v14_apply, h3, h3, EReal.coe_mul]
    refine congrArg₂ (fun i j => (a3 i : EReal) * (a3 j : EReal)) (ext2 rfl ?_) (ext2 rfl ?_)
    · show (j 0).val % 64 = (j 0).val; omega
    · show (j 0).val % 64 = (j 0).val; omega
  have hs : ∀ f : Fin 64 → ℝ, (∑ j : S64.Idx, ((f (j 0) : ℝ) : EReal)) = ((∑ j : Fin 64, f j : ℝ) : EReal) := fun f => by
    rw [coe_sum]
    exact (Equiv.sum_comp (⟨fun j : S64.Idx => j 0, fun k => ix1 k, fun j => ext1 rfl, fun k => rfl⟩ : S64.Idx ≃ Fin 64) (fun k => ((f k : ℝ) : EReal)))
  have z : FloatOps.ofBits (F := Ideal) .f32 0x00000000#32 = (0 : EReal) := Ideal.ofBits_zero_f32
  rw [val_main_v20_apply, val_main_v19_apply, val_main_v11_apply, val_main_v18_apply, val_main_v10_apply, val_main_v17_apply, val_main_cst_2_apply,
    val_main_cst_0_apply, val_main_cst_1_apply, z, zero_add, zero_add, Finset.sum_congr rfl fun j _ => e0 j, Finset.sum_congr rfl fun j _ => e1 j,
    hs fun j => a3 (ix2 0 j) * a3 (ix2 1 j), hs fun j => a3 (ix2 2 j) * a3 (ix2 3 j)]
  unfold lam
  rw [EReal.coe_add, EReal.coe_sub, ← lamInit_eq]
  rfl

/-- The value a query weighs a key with. -/
theorem values_lt (d : Fin 128) (k : Fin 2048) : values a2 b h ⟨d.val, by have := d.isLt; omega⟩ k.val = a2 (ix4 b k h d) := by
  unfold values
  rw [dif_pos d.isLt]
  exact congrArg a2 (ext4 rfl (Nat.mod_eq_of_lt k.isLt) rfl rfl)

/-- The mean of the values over a query's softmax is the sum over all the keys with the softmax's weights. -/
theorem mean_eq (M : ℝ) (d : Fin 128) :
    ∑ k : Fin 2048, wgt (rho a0 a1 b h s t.val) M t.val k.val * (1 / ∑ k : Fin 2048, wgt (rho a0 a1 b h s t.val) M t.val k.val) * a2 (ix4 b k h d)
      = mean (head a1 b) (head a0 b) (values a2 b) h s ⟨d.val, by have := d.isLt; omega⟩ t.val := by
  have e : (fun key => sigma (head a1 b) (head a0 b) h s t.val key * Real.log 2) = rho a0 a1 b h s t.val := funext fun key => sigma_eq a0 a1 b h s t.val key
  unfold mean
  rw [e, ← softmax_sum (rho a0 a1 b h s t.val) (values a2 b h ⟨d.val, by have := d.isLt; omega⟩) M t.isLt]
  exact Finset.sum_congr rfl fun k _ => by rw [values_lt]

include h0 h1 h2 h3 in
/-- The difference of the two softmaxes' means. -/
theorem diff_eq (d : Fin 128) : val_main_v48 (F := Ideal) x0 x1 x2 x3 (ix4 b h t d)
    = ((mean (head a1 b) (head a0 b) (values a2 b) h 0 ⟨d.val, by have := d.isLt; omega⟩ t.val
        - lam a3 * mean (head a1 b) (head a0 b) (values a2 b) h 1 ⟨d.val, by have := d.isLt; omega⟩ t.val : ℝ) : EReal) := by
  obtain ⟨M, hM⟩ := softmax_eq h0 h1 b h 0 t
  obtain ⟨N, hN⟩ := softmax_eq h0 h1 b h 1 t
  rw [val_main_v48_apply, ← mean_eq b h 0 t M d, ← mean_eq b h 1 t N d, Finset.mul_sum, ← Finset.sum_sub_distrib, coe_sum]
  refine Finset.sum_congr rfl fun k _ => ?_
  have hb := b.isLt; have hh := h.isLt; have ht := t.isLt; have hk := k.isLt
  have e0 : idx_main_v41 (idx_main_v42 (lidx_main_v48 (ix4 b h t d) k)) = ix5 b h 0 t k :=
    ext5 (by show _ = b.val; dsimp [idx_main_v41, idx_main_v42, lidx_main_v48, ix4]; omega) (by show _ = h.val; dsimp [idx_main_v41, idx_main_v42, lidx_main_v48, ix4]; omega)
      (by rfl) (by show _ = t.val; dsimp [idx_main_v41, idx_main_v42, lidx_main_v48, ix4]; omega) (by show _ = k.val; dsimp [idx_main_v41, idx_main_v42, lidx_main_v48, ix4]; omega)
  have e1 : idx_main_v43 (idx_main_v44 (lidx_main_v48 (ix4 b h t d) k)) = ix5 b h 1 t k :=
    ext5 (by show _ = b.val; dsimp [idx_main_v43, idx_main_v44, lidx_main_v48, ix4]; omega) (by show _ = h.val; dsimp [idx_main_v43, idx_main_v44, lidx_main_v48, ix4]; omega)
      (by rfl) (by show _ = t.val; dsimp [idx_main_v43, idx_main_v44, lidx_main_v48, ix4]; omega) (by show _ = k.val; dsimp [idx_main_v43, idx_main_v44, lidx_main_v48, ix4]; omega)
  have e4 : idx_main_v4 (ridx_main_v48 (ix4 b h t d) k) = ix4 b k h d := ext4 rfl rfl rfl rfl
  rw [val_main_v47_apply, val_main_v42_apply, val_main_v41_apply, val_main_v46_apply, val_main_v45_apply, val_main_v44_apply, val_main_v43_apply,
    val_main_v4_apply, e0, e1, e4, hM, hN, h2, lam_eq h3]
  show ((_ : EReal) - _ * _) * _ = _
  rw [← EReal.coe_mul, ← EReal.coe_sub, ← EReal.coe_mul]
  exact congrArg _ (by ring)

include h0 h1 h2 h3 in
/-- The normalised and scaled difference. -/
theorem normed_eq (d : Fin 128) : val_main_v63 (F := Ideal) x0 x1 x2 x3 x4 (ix4 b h t d)
    = row (head a1 b) (head a0 b) (values a2 b) (lam a3) (fun d => x4 (ix1 d)) h t.val d := by
  have e0 : idx_main_v51 (idx_main_v57 (ix4 b h t d)) = ix3 b h t := funext fun a => Fin.ext (by match a with | ⟨0, _⟩ => rfl | ⟨1, _⟩ => rfl | ⟨2, _⟩ => rfl)
  have e1 : idx_main_v59 (idx_main_v60 (ix4 b h t d)) = ix1 d := ext1 rfl
  have es : val_main_v50 (F := Ideal) x0 x1 x2 x3 (ix3 b h t)
      = ∑ e : Fin 128, val_main_v48 (F := Ideal) x0 x1 x2 x3 (ix4 b h t e) * val_main_v48 (F := Ideal) x0 x1 x2 x3 (ix4 b h t e) := by
    have z : FloatOps.ofBits (F := Ideal) .f32 0x00000000#32 = (0 : EReal) := Ideal.ofBits_zero_f32
    rw [val_main_v50_apply, val_main_cst_7_apply, z, zero_add]
    refine Finset.sum_congr rfl fun e _ => ?_
    have e' : idx_main_v50 (ix3 b h t) e = ix4 b h t e := ext4 rfl rfl rfl rfl
    rw [e', val_main_v49_apply]
    rfl
  rw [val_main_v63_apply, val_main_v61_apply, val_main_v58_apply, val_main_v57_apply, val_main_v56_apply, val_main_v55_apply, val_main_v53_apply,
    val_main_v51_apply, val_main_v52_apply, val_main_v54_apply, val_main_v60_apply, val_main_v59_apply, val_main_v62_apply, e0, e1, es,
    val_main_cst_8_apply, val_main_cst_9_apply, val_main_cst_10_apply]
  unfold row closing
  simp only [← diff_eq h0 h1 h2 h3 b h t]
  exact mul_assoc _ _ _

include h0 h1 h2 h3 in
/-- The reference's result. -/
theorem result_eq : val_main_v66 (F := Ideal) x0 x1 x2 x3 x4 = result a0 a1 a2 a3 x4 := funext fun i => by
  have hi0 : (i 0).val < 8 := (i 0).isLt
  have hi1 : (i 1).val < 2048 := (i 1).isLt
  have hi2 : (i 2).val < 1024 := (i 2).isLt
  have e : idx_main_v64 (idx_main_v65 i) = ix4 (i 0) ⟨(i 2).val / 128, by omega⟩ (i 1) ⟨(i 2).val % 128, by omega⟩ :=
    ext4 (by show _ = (i 0).val; dsimp [idx_main_v64, idx_main_v65, ix4]; omega) (by show _ = (i 2).val / 128; dsimp [idx_main_v64, idx_main_v65, ix4]; omega)
      (by show _ = (i 1).val; dsimp [idx_main_v64, idx_main_v65, ix4]; omega) (by show _ = (i 2).val % 128; dsimp [idx_main_v64, idx_main_v65, ix4]; omega)
  rw [val_main_v66_apply, val_main_v65_apply, val_main_v64_apply, e]
  exact normed_eq h0 h1 h2 h3 (i 0) _ (i 1) _

end Cert.Proof.AttnReference

end
-- ==== Proof.Attn.lean ====
/- The attention call computes its reference's array, where the queries, the keys, the values and the lambda vectors are
   finite: AttnResult.lean runs the call, AttnReference.lean reads the reference, and both leave `AttnSpec.result`. -/
module

public import proofs.«01_k».proof.Defs
public import proofs.«01_k».proof.Proof.AttnFramePrinted
public import proofs.«01_k».proof.Proof.AttnResult
public import proofs.«01_k».proof.Proof.AttnReference
public import Idealize.ShloMosaic.Lib.Quiescent
public import Idealize.ShloMosaic.Lib.ReduceAll

@[expose] public section

noncomputable section

namespace Cert.Proof.Attn

open Idealize.ShloMosaic Idealize.SL.Sem Cert.Proof

/-- The shape relations the precondition's operations take. -/
instance finiteFacts : Cert.Pre_finite_args.Facts where
  bcast_S_S8x2048x8x2x64 := by decide
  reducesTo_S8x2048x8x2x64_S_d0_1_2_3_4 := by decide
  h_S_ := by decide
  bcast_S_S8x2048x8x128 := by decide
  reducesTo_S8x2048x8x128_S_d0_1_2_3 := by decide
  bcast_S_S4x64 := by decide
  reducesTo_S4x64_S_d0_1 := by decide

theorem inf_eq : Ideal.ofBits .f32 0x7F800000#32 = ⊤ := by
  simp [Ideal.ofBits, Ideal.ieee]

/-- What is below infinity in absolute value is real. -/
theorem real_of_lt (x : EReal) (h : Ideal.cmp .olt (max x (-x)) (Ideal.ofBits .f32 0x7F800000#32) = 1#1) : x = ((EReal.toReal x : ℝ) : EReal) := by
  rw [inf_eq] at h
  have hl : max x (-x) < ⊤ := by
    by_contra hc
    have e : Ideal.cmp .olt (max x (-x)) ⊤ = BitVec.ofBool (decide (max x (-x) < ⊤)) := rfl
    rw [e, decide_eq_false hc] at h
    exact absurd h (by decide)
  refine (EReal.coe_toReal (ne_of_lt (lt_of_le_of_lt (le_max_left _ _) hl)) fun hb => ?_).symm
  rw [hb, EReal.neg_bot, max_eq_right bot_le] at hl
  exact lt_irrefl _ hl

/-- An argument of which the precondition's `all` is one holds reals. -/
theorem real_of_all {s : Shape} {axes : List (Fin s.rank)} (a : FVec Ideal s .f32) (hb : Cert.Pre_finite_args.S_.BroadcastsInDim s ![])
    (h : s.ReducesTo axes Cert.Pre_finite_args.S_) (hu : 0 < Cert.Pre_finite_args.S_.numel) (j : Cert.Pre_finite_args.S_.Idx)
    (e : Host.reduce IntOp.andi (cmpf .olt (Host.absf a) (broadcastInDim s ![] hb (constant (F := Ideal) Cert.Pre_finite_args.S_ .f32 0x7F800000#32)))
      (constantI Cert.Pre_finite_args.S_ 1 1#1) h hu j = 1#1) (i : s.Idx) : a i = ((EReal.toReal (a i) : ℝ) : EReal) :=
  real_of_lt _ (Host.reduce_andi_all _ _ h hu j e i)

variable (m : (ℓ : Loc Cert.KernelIdeal.nD Cert.KernelIdeal.τ Cert.KernelIdeal.sig) → Buf (Elt Ideal) ℓ)

/-- The precondition as reals. -/
theorem reals (hm : Cert.Pre_KernelIdeal_finite_args m) : AttnResult.Reals m
    (fun c i => EReal.toReal ((m ((c.tc : Thread Cert.KernelIdeal.nD Cert.KernelIdeal.τ).loc Cert.KernelIdeal.main_arg0) : Vec Ideal Cert.KernelIdeal.S8x2048x8x2x64 .f32) i))
    (fun c i => EReal.toReal ((m ((c.tc : Thread Cert.KernelIdeal.nD Cert.KernelIdeal.τ).loc Cert.KernelIdeal.main_arg1) : Vec Ideal Cert.KernelIdeal.S8x2048x8x2x64 .f32) i))
    (fun c i => EReal.toReal ((m ((c.tc : Thread Cert.KernelIdeal.nD Cert.KernelIdeal.τ).loc Cert.KernelIdeal.main_arg2) : Vec Ideal Cert.KernelIdeal.S8x2048x8x128 .f32) i))
    (fun c i => EReal.toReal ((m ((c.tc : Thread Cert.KernelIdeal.nD Cert.KernelIdeal.τ).loc Cert.KernelIdeal.main_arg3) : Vec Ideal Cert.KernelIdeal.S4x64 .f32) i)) := by
  have key := fun c : Dev Cert.KernelIdeal.nD => congrFun (hm c) (fun a => a.elim0)
  have split := fun c => IntOp.andi_eq_one.1 (key c)
  have split2 := fun c => IntOp.andi_eq_one.1 (split c).1
  have split3 := fun c => IntOp.andi_eq_one.1 (split2 c).1
  exact ⟨fun c i => real_of_all _ _ _ _ _ (split3 c).1 i, fun c i => real_of_all _ _ _ _ _ (split3 c).2 i,
    fun c i => real_of_all _ _ _ _ _ (split2 c).2 i, fun c i => real_of_all _ _ _ _ _ (split c).2 i⟩

/-- The call leaves its arguments and its counters as they were: as printed, -/
theorem frame_printed : Cert.quiescent_Kernel := fun m ρ _ => Cert.Kernel.Outer.frame_claim m ρ
/-- in ideal arithmetic, -/
theorem frame_ideal : Cert.quiescent_KernelIdeal := fun m ρ _ => Cert.KernelIdeal.Outer.frame_claim m ρ
/-- and there of finite arguments. -/
theorem frame_ideal_finite : Cert.quiescent_KernelIdeal_pre_finite_args := fun m ρ _ => Cert.KernelIdeal.Outer.frame_claim m ρ

/-- The reference leaves its arguments and its counters as they were, -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)
/-- of finite arguments too. -/
theorem frame_reference_finite : Cert.quiescent_ReferenceIdeal_pre_finite_args := fun m ρ _ => frame_reference m ρ trivial

/-- The call and its reference end with the same array. -/
theorem algebraic : Cert.algebraic_KernelIdeal_ReferenceIdeal_pre_finite_args := by
  intro m ρ m' ρ' hm hargs
  have H := reals m hm
  refine ⟨fun c => AttnCall.GM m _ _ _ _ c, AttnResult.run m ρ H, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4⟩ := hargs c
  rw [Cert.ReferenceIdeal.Read.val_main_v66_eq, h0, h1, h2, h3, h4]
  exact AttnReference.result_eq (H.h0 c) (H.h1 c) (H.h2 c) (H.h3 c)

/-- The two named constants: the mask and the queries' scale. -/
theorem preserves : Cert.preserves_Kernel_KernelIdeal :=
  ⟨IdealRules.named_const.statement Cert.KernelIdeal.κ "q_scale" .f32 0x3E38AA3B#32 (((8 * (Real.log 2))⁻¹ : ℝ) : EReal) rfl,
    IdealRules.named_const.statement Cert.KernelIdeal.κ "mask" .f32 0xF149F2CA#32 ⊥ rfl⟩

end Cert.Proof.Attn

end
-- ==== Proof.MlpRow.lean ====
/- One row of the second half of a layer, as plain mathematics over the extended reals: the mixer's projection added
   through its gate, a normalized and modulated row, the squared-ReLU network added through its gate, and the closing norm.
   The kernel (MlpKernel.lean) and the reference (MlpReference.lean) are both read as this. -/
module

public import Idealize.ShloMosaic.PureOps.Ideal.Laws

@[expose] public section

noncomputable section

namespace Cert.Proof.MlpRow

open Idealize.ShloMosaic

/-- The width of a row, the norm's epsilon and one, as the programs' float words are read. -/
def width : EReal := FloatOps.ofBits (F := Ideal) .f32 0x44800000#32
def eps : EReal := FloatOps.ofBits (F := Ideal) .f32 0x358637BD#32
def one : EReal := FloatOps.ofBits (F := Ideal) .f32 0x3F800000#32
def zero : EReal := FloatOps.ofBits (F := Ideal) .f32 0x00000000#32

/-- The reciprocal root mean square of a row. -/
def inv_rms (x : Fin 1024 → EReal) : EReal :=
  FloatOps.rsqrt (F := Ideal) (φ := .f32) (FloatOps.divf (F := Ideal) (φ := .f32) (∑ k : Fin 1024, x k * x k) width + eps)

/-- The residual row after the mixer: `x + gate · (o Wₒ)`. -/
def mixed (x o gate : Fin 1024 → EReal) (wo : Fin 1024 → Fin 1024 → EReal) (c : Fin 1024) : EReal :=
  x c + gate c * ∑ k : Fin 1024, o k * wo k c

/-- The normalized row, scaled by `g` and modulated. -/
def modulated (x g scale shift : Fin 1024 → EReal) (c : Fin 1024) : EReal :=
  x c * inv_rms x * g c * (one + scale c) + shift c

/-- The hidden layer's squared ReLU. -/
def hidden (h : Fin 1024 → EReal) (w1 : Fin 1024 → Fin 4096 → EReal) (f : Fin 4096) : EReal :=
  FloatOps.maximumf (F := Ideal) (φ := .f32) (∑ k : Fin 1024, h k * w1 k f) zero
    * FloatOps.maximumf (F := Ideal) (φ := .f32) (∑ k : Fin 1024, h k * w1 k f) zero

/-- The residual row after the network. -/
def fed (x h gate : Fin 1024 → EReal) (w1 : Fin 1024 → Fin 4096 → EReal) (w2 : Fin 4096 → Fin 1024 → EReal) (c : Fin 1024) : EReal :=
  x c + gate c * ∑ f : Fin 4096, hidden h w1 f * w2 f c

/-- The closing norm. -/
def closed (x g : Fin 1024 → EReal) (c : Fin 1024) : EReal := x c * inv_rms x * g c

/-- The row up to the closing norm. -/
def residual (x o gt sh sc gc g : Fin 1024 → EReal) (wo : Fin 1024 → Fin 1024 → EReal) (w1 : Fin 1024 → Fin 4096 → EReal)
    (w2 : Fin 4096 → Fin 1024 → EReal) : Fin 1024 → EReal :=
  fed (mixed x o gt wo) (modulated (mixed x o gt wo) g sc sh) gc w1 w2

/-- The whole row. -/
def row (x o gt sh sc gc g fg : Fin 1024 → EReal) (wo : Fin 1024 → Fin 1024 → EReal) (w1 : Fin 1024 → Fin 4096 → EReal)
    (w2 : Fin 4096 → Fin 1024 → EReal) : Fin 1024 → EReal :=
  closed (residual x o gt sh sc gc g wo w1 w2) fg

end Cert.Proof.MlpRow

end
-- ==== Proof.MlpPayload.lean ====
/- What the network call computes for one row of a block, read off the values it stores: the four printed stretches of
   operations are, at row `p` and column `q`, the row mathematics of MlpRow.lean. -/
module

public import proofs.«01_k».proof.Proof.Gen.Kernel2Ideal.Skeleton
public import proofs.«01_k».proof.Proof.Reads
public import proofs.«01_k».proof.Proof.MlpRow

@[expose] public section

noncomputable section

namespace Cert.Proof.MlpPayload

open Cert.Kernel2Ideal Cert.Kernel2Ideal.Gen Idealize.ShloMosaic Idealize.ShloMosaic.ValueIdx Cert.Proof.Reads Cert.Proof.MlpRow

/-- Row `p` of a matrix, the one row of a [1,n] or [1,1,n] array, and a matrix of two coordinates. -/
abbrev rowAt {m n : Nat} (x : (⟨2, ![m, n]⟩ : Shape).Idx → EReal) (p : Fin m) (k : Fin n) : EReal := x (ix2 p k)
abbrev only {n : Nat} (x : (⟨3, ![1, 1, n]⟩ : Shape).Idx → EReal) (k : Fin n) : EReal := x (ix3 0 0 k)

theorem pay2_apply (v4 : Vec Ideal S512x1024 .f32) (v6 : Vec Ideal S1x1x1024 .f32) (v9 : Vec Ideal S512x1024 .bf16)
    (v11 : Vec Ideal S1024x1024 .bf16) (p : Fin 512) (q : Fin 1024) :
    k0_pay2 (F := Ideal) v4 v6 v9 v11 (ix2 p q) = mixed (rowAt v4 p) (rowAt v9 p) (only v6) (fun k => rowAt v11 k) q := by
  show shapeCast S512x1024 v4 shapeCasts_S512x1024_S512x1024 (ix2 p q)
      + broadcastTo S512x1024 (shapeCast S1x1024 v6 shapeCasts_S1x1x1024_S1x1024) broadcasts_S1x1024_S512x1024 (ix2 p q)
        * FloatOps.matmul (DotDims.plain 512 1024 1024) none (shapeCast S512x1024 v9 shapeCasts_S512x1024_S512x1024 : FVec Ideal S512x1024 .bf16)
            (shapeCast S1024x1024 v11 shapeCasts_S1024x1024_S1024x1024 : FVec Ideal S1024x1024 .bf16) (constant S512x1024 .f32 0x00000000#32) (ix2 p q) = _
  rw [plain_matmul, bcast_row (by decide), cast_11n, cast_self]
  simp only [cast_self]
  rfl

theorem pay3_apply (v21 : Vec Ideal S1x1x1024 .f32) (q : Fin 1024) : k0_pay3 (F := Ideal) v21 (ix2 0 q) = only v21 q :=
  cast_11n v21 shapeCasts_S1x1x1024_S1x1024 0 q

/-- The reciprocal root mean square of each row of a block, repeated over the columns. -/
def norms (X : FVec Ideal S512x1024 .f32) : FVec Ideal S512x1024 .f32 :=
  broadcastTo S512x1024 (rsqrt (addf (divf (shapeCast S512x1 (multiReduction .add [1] S512 (mulf X X) 0x00000000#32 reduces_S512x1024_S512 (.inl rfl) rfl)
    shapeCasts_S512_S512x1) (broadcast S512x1 (width : Ideal .f32))) (broadcast S512x1 (eps : Ideal .f32)))) broadcasts_S512x1_S512x1024

theorem norms_apply (X : FVec Ideal S512x1024 .f32) (p : Fin 512) (q : Fin 1024) : norms X (ix2 p q) = inv_rms (rowAt X p) := by
  unfold norms
  rw [bcast_col (by decide)]
  refine congrArg (fun s => FloatOps.rsqrt (F := Ideal) (φ := .f32) (FloatOps.divf (F := Ideal) (φ := .f32) s width + eps)) ?_
  rw [cast_col]
  exact row_sum (mulf X X) _ _ _ p

theorem pay4_apply (v4 : Vec Ideal S512x1024 .f32) (v6 : Vec Ideal S1x1x1024 .f32) (v9 : Vec Ideal S512x1024 .bf16)
    (v11 : Vec Ideal S1024x1024 .bf16) (v17 : Vec Ideal S1x1024 .f32) (v19 : Vec Ideal S1x1x1024 .f32) (p : Fin 512) (q : Fin 1024) :
    k0_pay4 (F := Ideal) v4 v6 v9 v11 v17 v19 (ix2 p q)
      = rowAt (k0_pay2 (F := Ideal) v4 v6 v9 v11) p q * inv_rms (rowAt (k0_pay2 (F := Ideal) v4 v6 v9 v11) p) * rowAt v17 0 q
          * (one + only v19 q) := by
  unfold k0_pay4
  generalize k0_pay2 (F := Ideal) v4 v6 v9 v11 = X
  show X (ix2 p q) * norms X (ix2 p q)
        * broadcastTo S512x1024 (shapeCast S1x1024 v17 shapeCasts_S1x1024_S1x1024) broadcasts_S1x1024_S512x1024 (ix2 p q)
        * broadcastTo S512x1024 (addf (broadcast S1x1024 (one : Ideal .f32)) (shapeCast S1x1024 v19 shapeCasts_S1x1x1024_S1x1024)) broadcasts_S1x1024_S512x1024 (ix2 p q) = _
  rw [norms_apply, bcast_row (by decide), bcast_row (by decide), cast_self]
  show _ * (one + shapeCast S1x1024 v19 shapeCasts_S1x1x1024_S1x1024 (ix2 0 q)) = _
  rw [cast_11n]

/-- The network's input block, its hidden block before the squared ReLU, and the residual block after it, as the kernel
    forms them. -/
def inputs (v22 : FVec Ideal S1x1024 .f32) (v38 : FVec Ideal S512x1024 .f32) : FVec Ideal S512x1024 .f32 :=
  addf v38 (broadcastTo S512x1024 v22 broadcasts_S1x1024_S512x1024)

def relus (v22 : FVec Ideal S1x1024 .f32) (v38 : FVec Ideal S512x1024 .f32) (v42 : Vec Ideal S1024x4096 .bf16) : FVec Ideal S512x4096 .f32 :=
  maximumf (FloatOps.matmul (DotDims.plain 512 1024 4096) none (inputs v22 v38)
    (shapeCast S1024x4096 v42 shapeCasts_S1024x4096_S1024x4096 : FVec Ideal S1024x4096 .bf16) (constant S512x4096 .f32 0x00000000#32))
    (broadcast S512x4096 (zero : Ideal .f32))

def fedBlock (v16 : FVec Ideal S512x1024 .f32) (v22 : FVec Ideal S1x1024 .f32) (v38 : FVec Ideal S512x1024 .f32)
    (v42 : Vec Ideal S1024x4096 .bf16) (v49 : Vec Ideal S1x1x1024 .f32) (v51 : Vec Ideal S4096x1024 .bf16) : FVec Ideal S512x1024 .f32 :=
  addf v16 (mulf (broadcastTo S512x1024 (shapeCast S1x1024 v49 shapeCasts_S1x1x1024_S1x1024) broadcasts_S1x1024_S512x1024)
    (FloatOps.matmul (DotDims.plain 512 4096 1024) none (mulf (relus v22 v38 v42) (relus v22 v38 v42))
      (shapeCast S4096x1024 v51 shapeCasts_S4096x1024_S4096x1024 : FVec Ideal S4096x1024 .bf16) (constant S512x1024 .f32 0x00000000#32)))

theorem relus_apply (v22 : FVec Ideal S1x1024 .f32) (v38 : FVec Ideal S512x1024 .f32) (v42 : Vec Ideal S1024x4096 .bf16) (p : Fin 512) (f : Fin 4096) :
    relus v22 v38 v42 (ix2 p f)
      = FloatOps.maximumf (F := Ideal) (φ := .f32) (∑ k : Fin 1024, (rowAt v38 p k + rowAt v22 0 k) * rowAt v42 k f) zero := by
  refine congrArg (FloatOps.maximumf (F := Ideal) (φ := .f32) · zero) ?_
  rw [plain_matmul]
  refine Finset.sum_congr rfl fun k _ => ?_
  rw [cast_self]
  refine congrArg (· * v42 (ix2 k f)) ?_
  show v38 (ix2 p k) + broadcastTo S512x1024 v22 broadcasts_S1x1024_S512x1024 (ix2 p k) = _
  rw [bcast_row (by decide)]

theorem fedBlock_apply (v16 : FVec Ideal S512x1024 .f32) (v22 : FVec Ideal S1x1024 .f32) (v38 : FVec Ideal S512x1024 .f32)
    (v42 : Vec Ideal S1024x4096 .bf16) (v49 : Vec Ideal S1x1x1024 .f32) (v51 : Vec Ideal S4096x1024 .bf16) (p : Fin 512) (q : Fin 1024) :
    fedBlock v16 v22 v38 v42 v49 v51 (ix2 p q)
      = fed (rowAt v16 p) (fun k => rowAt v38 p k + rowAt v22 0 k) (only v49) (fun k => rowAt v42 k) (fun k => rowAt v51 k) q := by
  show v16 (ix2 p q) + broadcastTo S512x1024 (shapeCast S1x1024 v49 shapeCasts_S1x1x1024_S1x1024) broadcasts_S1x1024_S512x1024 (ix2 p q)
    * FloatOps.matmul (DotDims.plain 512 4096 1024) none _ _ (constant S512x1024 .f32 0x00000000#32) (ix2 p q) = _
  rw [plain_matmul, bcast_row (by decide), cast_11n]
  refine congrArg (v16 (ix2 p q) + v49 (ix3 0 0 q) * ·) (Finset.sum_congr rfl fun f _ => ?_)
  rw [cast_self]
  refine congrArg (· * v51 (ix2 f q)) ?_
  show relus v22 v38 v42 (ix2 p f) * relus v22 v38 v42 (ix2 p f) = _
  rw [relus_apply]
  rfl

theorem pay1_apply (v16 : FVec Ideal S512x1024 .f32) (v22 : FVec Ideal S1x1024 .f32) (v38 : FVec Ideal S512x1024 .f32)
    (v42 : Vec Ideal S1024x4096 .bf16) (v49 : Vec Ideal S1x1x1024 .f32) (v51 : Vec Ideal S4096x1024 .bf16) (v67 : Vec Ideal S1x1024 .f32)
    (p : Fin 512) (q : Fin 1024) :
    k0_pay1 (F := Ideal) v16 v22 v38 v42 v49 v51 v67 (ix2 p q)
      = closed (fed (rowAt v16 p) (fun k => rowAt v38 p k + rowAt v22 0 k) (only v49) (fun k => rowAt v42 k) (fun k => rowAt v51 k))
          (rowAt v67 0) q := by
  show fedBlock v16 v22 v38 v42 v49 v51 (ix2 p q) * norms (fedBlock v16 v22 v38 v42 v49 v51) (ix2 p q)
    * broadcastTo S512x1024 (shapeCast S1x1024 v67 shapeCasts_S1x1024_S1x1024) broadcasts_S1x1024_S512x1024 (ix2 p q) = _
  rw [norms_apply, bcast_row (by decide), cast_self, fedBlock_apply,
    show rowAt (fedBlock v16 v22 v38 v42 v49 v51) p = _ from funext fun k => fedBlock_apply v16 v22 v38 v42 v49 v51 p k]
  rfl

/-- A row of the residual block after the network is the row mathematics of the loaded rows, up to the closing norm. -/
theorem fed_row (x : Vec Ideal S512x1024 .f32) (o : Vec Ideal S512x1024 .bf16) (wo : Vec Ideal S1024x1024 .bf16) (gt sh sc gc : Vec Ideal S1x1x1024 .f32)
    (g : Vec Ideal S1x1024 .f32) (w1 : Vec Ideal S1024x4096 .bf16) (w2 : Vec Ideal S4096x1024 .bf16) (p : Fin 512) (q : Fin 1024) :
    fedBlock (k0_pay2 (F := Ideal) x gt o wo) (k0_pay3 (F := Ideal) sh) (k0_pay4 (F := Ideal) x gt o wo g sc) w1 gc w2 (ix2 p q)
      = residual (rowAt x p) (rowAt o p) (only gt) (only sh) (only sc) (only gc) (rowAt g 0) (fun k => rowAt wo k) (fun k => rowAt w1 k)
          (fun k => rowAt w2 k) q := by
  have e2 : rowAt (k0_pay2 (F := Ideal) x gt o wo) p = mixed (rowAt x p) (rowAt o p) (only gt) (fun k => rowAt wo k) :=
    funext fun k => pay2_apply x gt o wo p k
  rw [fedBlock_apply, e2]
  refine congrArg (fun h => fed _ h _ _ _ q) (funext fun k => ?_)
  rw [show rowAt (k0_pay4 (F := Ideal) x gt o wo g sc) p k = _ from pay4_apply x gt o wo g sc p k,
    show rowAt (k0_pay3 (F := Ideal) sh) 0 k = _ from pay3_apply sh k, e2]
  rfl

/-- A stored row is the row mathematics of the loaded rows. -/
theorem payload_row (x : Vec Ideal S512x1024 .f32) (o : Vec Ideal S512x1024 .bf16) (wo : Vec Ideal S1024x1024 .bf16) (gt sh sc gc : Vec Ideal S1x1x1024 .f32)
    (g fg : Vec Ideal S1x1024 .f32) (w1 : Vec Ideal S1024x4096 .bf16) (w2 : Vec Ideal S4096x1024 .bf16) (p : Fin 512) (q : Fin 1024) :
    k0_pay1 (F := Ideal) (k0_pay2 (F := Ideal) x gt o wo) (k0_pay3 (F := Ideal) sh) (k0_pay4 (F := Ideal) x gt o wo g sc) w1 gc w2 fg (ix2 p q)
      = row (rowAt x p) (rowAt o p) (only gt) (only sh) (only sc) (only gc) (rowAt g 0) (rowAt fg 0) (fun k => rowAt wo k) (fun k => rowAt w1 k)
          (fun k => rowAt w2 k) q := by
  have e := funext fun k => fed_row x o wo gt sh sc gc g w1 w2 p k
  have e' := funext fun k => fedBlock_apply (k0_pay2 (F := Ideal) x gt o wo) (k0_pay3 (F := Ideal) sh) (k0_pay4 (F := Ideal) x gt o wo g sc) w1 gc w2 p k
  rw [pay1_apply, ← e', e]
  rfl

end Cert.Proof.MlpPayload

end
-- ==== Proof.MlpKernel.lean ====
/- The network call's result array as one function of its arguments. Each grid point leaves a block of 1024 rows, in two
   stores of 512 rows each; each row of a block is the row mathematics (MlpRow.lean) of the same rows of the two streams and
   of the batch's modulation; the sixteen blocks tile the array. -/
module

public import proofs.«01_k».proof.Proof.Gen.Kernel2Ideal.Value
public import proofs.«01_k».proof.Proof.MlpPayload
public import Idealize.ShloMosaic.Lib.Pipeline.ValueKit.Tiles
public import Idealize.ShloMosaic.Lib.Pipeline.ValueKit.Geometry

@[expose] public section

set_option maxRecDepth 16384

noncomputable section

namespace Cert.Proof.MlpKernel

open Cert.Kernel2Ideal Cert.Kernel2Ideal.Gen Cert.Kernel2Ideal.Value Idealize.ShloMosaic Idealize.ShloMosaic.TcCoe Idealize.SL.Sem
open Idealize.ShloMosaic.ValueIdx Cert.Proof.MlpRow Cert.Proof.MlpPayload

/-- A block the run leaves: row by row. -/
def block (x0 : Vec Ideal S1024x1024 .f32) (x1 : Vec Ideal S1024x1024 .bf16) (x2 : Vec Ideal S1024x1024 .bf16) (x3 x4 x5 x6 : Vec Ideal S1x1x1024 .f32)
    (x7 : Vec Ideal S1x1024 .f32) (x8 : Vec Ideal S1024x4096 .bf16) (x9 : Vec Ideal S4096x1024 .bf16) (x10 : Vec Ideal S1x1024 .f32) :
    Vec Ideal S1024x1024 .f32 := fun y =>
  row (rowAt x0 (y 0)) (rowAt x1 (y 0)) (only x3) (only x4) (only x5) (only x6) (rowAt x7 0) (rowAt x10 0) (fun k => rowAt x2 k)
    (fun k => rowAt x8 k) (fun k => rowAt x9 k) (y 1)

theorem hz2 : (![0, 0] : Fin 2 → Nat) = fun _ => 0 := funext fun a => by fin_cases a <;> rfl
theorem hz3 : (![0, 0, 0] : Fin 3 → Nat) = fun _ => 0 := funext fun a => by fin_cases a <;> rfl

/-- Trip `k` reads the 512 rows from 512 k on. -/
theorem ld_rows {η : EltTy} (x : Vec Ideal S1024x1024 η) (k : Fin k0_t1_loop.trips) (p : Fin 512) (q : Fin 1024) (y : S1024x1024.Idx)
    (h0 : (y 0).val = 512 * k.val + p.val) :
    View.ld x (Rect.unit (s := S1024x1024) (k0_off1 k) S512x1024.size (k0_off1_inb k)) (ix2 p q) = x (ix2 (y 0) q) := by
  refine View.ld_unit_apply_of x _ _ _ _ _ fun a => ?_
  match a with
  | ⟨0, _⟩ => exact h0.trans (congrArg (· + p.val) (congrFun (k0_off1_eq k) 0).symm)
  | ⟨1, _⟩ => exact (Nat.zero_add q.val).symm.trans (congrArg (· + q.val) (congrFun (k0_off1_eq k) 1).symm)

/-- Row `p` of the rows trip `k` stores is row 512 k + p of the block. -/
theorem emb_rows (k : Fin k0_t1_loop.trips) (p : Fin 512) (q : Fin 1024) :
    (((Rect.unit (s := S1024x1024) (k0_off1 k) S512x1024.size (k0_off1_inb k)).emb (ix2 p q)) 0).val = 512 * k.val + p.val
    ∧ ((Rect.unit (s := S1024x1024) (k0_off1 k) S512x1024.size (k0_off1_inb k)).emb (ix2 p q)) 1 = q :=
  ⟨(Rect.idx_unit_val _ _ _ _ _).trans (congrArg (· + p.val) (congrFun (k0_off1_eq k) 0)),
    Fin.ext ((Rect.idx_unit_val _ _ _ _ _).trans ((congrArg (· + q.val) (congrFun (k0_off1_eq k) 1)).trans (Nat.zero_add _)))⟩

section Trip

variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S1x1024 .f32) (harg11 : arg11.IsWhole) (arg12 : Memref sig .tc .vmem S1024x1024 .f32) (harg12 : arg12.IsWhole)
    (x0 : Vec Ideal S1024x1024 .f32) (x1 : Vec Ideal S1024x1024 .bf16) (x2 : Vec Ideal S1024x1024 .bf16) (x3 x4 x5 x6 : Vec Ideal S1x1x1024 .f32)
    (x7 : Vec Ideal S1x1024 .f32) (x8 : Vec Ideal S1024x4096 .bf16) (x9 : Vec Ideal S4096x1024 .bf16) (x10 : Vec Ideal S1x1024 .f32)

/-- Trip `k` stores one piece, 512 rows of the block. -/
theorem trip_pieces (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12
        (harg1.unread x0) (harg2.unread x1) (harg3.unread x2) (harg4.unread x3) (harg5.unread x4) (harg6.unread x5) (harg7.unread x6) (harg8.unread x7) (harg9.unread x8) (harg10.unread x9) (harg11.unread x10) k,
      ∀ y : p.1.shape.Idx, p.2 y = block x0 x1 x2 x3 x4 x5 x6 x7 x8 x9 x10 (p.1.emb y) := by
  unfold tripL_k0_t1 trip_k0_t1
  dsimp only
  intro p hp
  obtain rfl := List.mem_singleton.mp hp
  intro y
  dsimp only [trip_k0_t1.sl.r, trip_k0_t1.sl.r_1, trip_k0_t1.sl.r_2]
  clear hp
  simp only [View.readAt_eq_ld, Memref.IsWhole.read_unread]
  rw [View.ld_unit_zero hz2 inb_S1024x1024_S1024x1024_0_0 x2, View.ld_unit_zero hz3 inb_S1x1x1024_S1x1x1024_0_0_0 x3,
    View.ld_unit_zero hz3 inb_S1x1x1024_S1x1x1024_0_0_0 x4, View.ld_unit_zero hz3 inb_S1x1x1024_S1x1x1024_0_0_0 x5,
    View.ld_unit_zero hz3 inb_S1x1x1024_S1x1x1024_0_0_0 x6, View.ld_unit_zero hz2 inb_S1x1024_S1x1024_0_0 x7,
    View.ld_unit_zero hz2 inb_S1024x4096_S1024x4096_0_0 x8, View.ld_unit_zero hz2 inb_S4096x1024_S4096x1024_0_0 x9,
    View.ld_unit_zero hz2 inb_S1x1024_S1x1024_0_0 x10]
  obtain ⟨p, q, rfl⟩ : ∃ (p : Fin 512) (q : Fin 1024), y = ix2 p q := ⟨y 0, y 1, eq_ix2 _⟩
  obtain ⟨h0, h1⟩ := emb_rows k p q
  refine (payload_row _ _ _ _ _ _ _ _ _ _ _ p q).trans ?_
  unfold block
  rw [h1]
  refine congrArg₂ (fun a b => row a b _ _ _ _ _ _ _ _ _ q) (funext fun j => ?_) (funext fun j => ?_)
  · exact ld_rows x0 k p j _ h0
  · exact ld_rows x1 k p j _ h0

/-- That piece holds those rows. -/
theorem trip_covers (k : Fin k0_t1_loop.trips) (y : S1024x1024.Idx) (hl : 512 * k.val ≤ (y 0).val) (hu : (y 0).val < 512 * k.val + 512) :
    ∃ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12
        (harg1.unread x0) (harg2.unread x1) (harg3.unread x2) (harg4.unread x3) (harg5.unread x4) (harg6.unread x5) (harg7.unread x6) (harg8.unread x7) (harg9.unread x8) (harg10.unread x9) (harg11.unread x10) k,
      y ∈ p.1.set := by
  have e0 := congrFun (k0_off1_eq k) 0
  have e1 := congrFun (k0_off1_eq k) 1
  have hm : y ∈ (Rect.unit (s := S1024x1024) (k0_off1 k) S512x1024.size (k0_off1_inb k)).set := Rect.mem_set_unit.mpr fun a => by
    match a with
    | ⟨0, _⟩ => exact ⟨e0.le.trans hl, hu.trans_eq (congrArg (· + 512) e0).symm⟩
    | ⟨1, _⟩ => exact ⟨e1.le.trans (Nat.zero_le _), (idx2_lt1 y).trans_eq ((Nat.zero_add 1024).symm.trans (congrArg (· + 1024) e1).symm)⟩
  unfold tripL_k0_t1 trip_k0_t1
  dsimp only
  exact ⟨_, List.mem_singleton.mpr rfl, hm⟩

/-- So the block after the run is `block` of the input blocks. -/
theorem out_eq : out0_A_11 (F := Ideal) c i arg1 harg1 arg2 harg2 arg3 harg3 arg4 harg4 arg5 harg5 arg6 harg6 arg7 harg7 arg8 harg8 arg9 harg9 arg10 harg10 arg11 harg11 arg12 harg12
    x0 x1 x2 x3 x4 x5 x6 x7 x8 x9 x10 = block x0 x1 x2 x3 x4 x5 x6 x7 x8 x9 x10 := by
  unfold out0_A_11
  rw [View.read_writes_junk_eq_canon]
  unfold kernelRun0_A
  dsimp only
  rw [show Scf.trips (0#32) (Scalar.addi 0#32 2#32) 1#32 = 0 + 1 + 1 from by decide]
  refine (congrArg View.canon ((pb_k0_t1_succ (k := ⟨1, by decide⟩) ..).trans (congrArg (_ ++ ·) (pb_k0_t1_succ (k := ⟨0, by decide⟩) ..)))).trans ?_
  funext y
  refine View.canon_apply_of_pieces _ _ (fun p hp => ?_) y ?_
  · rcases List.mem_append.mp hp with hp | hp
    · exact trip_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 _ p hp
    · rcases List.mem_append.mp hp with hp | hp
      · exact trip_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 _ p hp
      · exact absurd hp List.not_mem_nil
  · rcases Nat.lt_or_ge (y 0).val 512 with h | h
    · obtain ⟨p, hp, hy⟩ := trip_covers c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
        ⟨0, by decide⟩ y (Nat.zero_le _) h
      exact ⟨p, List.mem_append_right _ (List.mem_append_left _ hp), hy⟩
    · obtain ⟨p, hp, hy⟩ := trip_covers c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
        ⟨1, by decide⟩ y h (idx2_lt0 y)
      exact ⟨p, List.mem_append_left _ hp, hy⟩

end Trip

variable (m : (ℓ : Loc nD τ sig) → Buf (Elt Ideal) ℓ) (ρ : Dev nD → PrngReg)

/-! ## What the call finds in its arrays -/

theorem V_main_v0 (c : Dev nD) : V m c main_v0
    = shapeCast S16384x1024 (m ((c : Thread nD τ).loc main_arg0) : Vec Ideal S8x2048x1024 .f32) shapeCasts_S8x2048x1024_S16384x1024 := by
  show StableHlo.after hostOps0 _ (Proc.devRef .tc main_v0) = _
  after_results
  rfl
theorem V_main_v2 (c : Dev nD) : V m c main_v2
    = shapeCast S16384x1024 (m ((c : Thread nD τ).loc main_arg1) : Vec Ideal S8x2048x1024 .f32) shapeCasts_S8x2048x1024_S16384x1024 := by
  show StableHlo.after hostOps0 _ (Proc.devRef .tc main_v2) = _
  after_results
  rfl
theorem V_main_v3 (c : Dev nD) : V m c main_v3
    = shapeCast S48x1x1024 (m ((c : Thread nD τ).loc main_arg2) : Vec Ideal S8x6144 .f32) shapeCasts_S8x6144_S48x1x1024 := by
  show StableHlo.after hostOps0 _ (Proc.devRef .tc main_v3) = _
  after_results
  rfl
theorem V_main_v4 (c : Dev nD) : V m c main_v4 = (m ((c : Thread nD τ).loc main_arg3) : Vec Ideal S1024x1024 .f32) := by
  show StableHlo.after hostOps0 _ (Proc.devRef .tc main_v4) = _
  after_results
  rfl
theorem V_main_v5 (c : Dev nD) : V m c main_v5
    = shapeCast S1x1024 (m ((c : Thread nD τ).loc main_arg4) : Vec Ideal S1024 .f32) shapeCasts_S1024_S1x1024 := by
  show StableHlo.after hostOps0 _ (Proc.devRef .tc main_v5) = _
  after_results
  rfl
theorem V_main_v6 (c : Dev nD) : V m c main_v6 = (m ((c : Thread nD τ).loc main_arg5) : Vec Ideal S1024x4096 .f32) := by
  show StableHlo.after hostOps0 _ (Proc.devRef .tc main_v6) = _
  after_results
  rfl
theorem V_main_v7 (c : Dev nD) : V m c main_v7 = (m ((c : Thread nD τ).loc main_arg6) : Vec Ideal S4096x1024 .f32) := by
  show StableHlo.after hostOps0 _ (Proc.devRef .tc main_v7) = _
  after_results
  rfl
theorem V_main_v8 (c : Dev nD) : V m c main_v8
    = shapeCast S1x1024 (m ((c : Thread nD τ).loc main_arg7) : Vec Ideal S1024 .f32) shapeCasts_S1024_S1x1024 := by
  show StableHlo.after hostOps0 _ (Proc.devRef .tc main_v8) = _
  after_results
  rfl

/-! ## The index maps: point `t` stages block row `t` of the streams and the modulation rows of batch `t / 2` -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 3) = t.val / 2 * 6 + 2 ∧ win0_3.index t (1 : Fin 3) = 0 ∧ win0_3.index t (2 : Fin 3) = 0 := (by decide +kernel : ∀ t : Fin grid0.N, _)
theorem index4 : ∀ t : Fin cfg0.N, win0_4.index t (0 : Fin 3) = t.val / 2 * 6 + 3 ∧ win0_4.index t (1 : Fin 3) = 0 ∧ win0_4.index t (2 : Fin 3) = 0 := (by decide +kernel : ∀ t : Fin grid0.N, _)
theorem index5 : ∀ t : Fin cfg0.N, win0_5.index t (0 : Fin 3) = t.val / 2 * 6 + 4 ∧ win0_5.index t (1 : Fin 3) = 0 ∧ win0_5.index t (2 : Fin 3) = 0 := (by decide +kernel : ∀ t : Fin grid0.N, _)
theorem index6 : ∀ t : Fin cfg0.N, win0_6.index t (0 : Fin 3) = t.val / 2 * 6 + 5 ∧ win0_6.index t (1 : Fin 3) = 0 ∧ win0_6.index t (2 : Fin 3) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index11 : ∀ t : Fin cfg0.N, win0_11.index t (0 : Fin 2) = t.val ∧ win0_11.index t (1 : Fin 2) = 0 := (by decide +kernel : ∀ t : Fin grid0.N, _)

/-! ## The blocks of a point -/

/-- Row `R` of the flattened stream, and modulation row `j` of batch `b`. -/
def stream (a : Vec Ideal S8x2048x1024 .f32) (R : Fin 16384) (k : Fin 1024) : EReal :=
  a (ix3 ⟨R.val / 2048, by omega⟩ ⟨R.val % 2048, by omega⟩ k)
def modulation (a : Vec Ideal S8x6144 .f32) (R : Fin 16384) (j : Fin 6) (k : Fin 1024) : EReal :=
  a (ix2 ⟨R.val / 2048, by omega⟩ ⟨j.val * 1024 + k.val, by omega⟩)

/-- A block row of a flattened stream. -/
theorem stream_row (a : Vec Ideal S8x2048x1024 .f32) (R : Fin 16384) (k : Fin 1024) (i : S16384x1024.Idx) (h0 : (i 0).val = R.val) (h1 : (i 1).val = k.val) :
    shapeCast S16384x1024 a shapeCasts_S8x2048x1024_S16384x1024 i = stream a R k :=
  shapeCast_apply _ _ _ _ (by
    rw [Shape.rowMajor_val_three, Shape.rowMajor_val_two, h0, h1]
    show (R.val / 2048 * 2048 + R.val % 2048) * 1024 + k.val = R.val * 1024 + k.val
    omega)

/-- A modulation block. -/
theorem modulation_row (a : Vec Ideal S8x6144 .f32) (R : Fin 16384) (j : Fin 6) (k : Fin 1024) (i : S48x1x1024.Idx)
    (h0 : (i 0).val = R.val / 2048 * 6 + j.val) (h1 : (i 1).val = 0) (h2 : (i 2).val = k.val) :
    shapeCast S48x1x1024 a shapeCasts_S8x6144_S48x1x1024 i = modulation a R j k :=
  shapeCast_apply _ _ _ _ (by
    rw [Shape.rowMajor_val_three, Shape.rowMajor_val_two, h0, h1, h2]
    show R.val / 2048 * 6144 + (j.val * 1024 + k.val) = ((R.val / 2048 * 6 + j.val) * 1 + 0) * 1024 + k.val
    omega)

/-- A vector written as one row. -/
theorem vector_row (a : Vec Ideal S1024 .f32) (k : Fin 1024) (i : S1x1024.Idx) (h1 : (i 1).val = k.val) :
    shapeCast S1x1024 a shapeCasts_S1024_S1x1024 i = a (ix1 k) :=
  shapeCast_apply _ _ _ _ (by
    have h0 : (i 0).val = 0 := Nat.lt_one_iff.mp (i 0).isLt
    rw [Shape.rowMajor_val_one, Shape.rowMajor_val_two, h0, h1]
    show k.val = 0 * 1024 + k.val
    omega)

/-- The result array: each row is the row mathematics of the arguments' rows. -/
def G (a0 a1 : Vec Ideal S8x2048x1024 .f32) (a2 : Vec Ideal S8x6144 .f32) (a3 : Vec Ideal S1024x1024 .f32) (a4 : Vec Ideal S1024 .f32)
    (a5 : Vec Ideal S1024x4096 .f32) (a6 : Vec Ideal S4096x1024 .f32) (a7 : Vec Ideal S1024 .f32) : Vec Ideal S16384x1024 .f32 := fun i =>
  row (stream a0 (i 0)) (stream a1 (i 0)) (modulation a2 (i 0) 2) (modulation a2 (i 0) 3) (modulation a2 (i 0) 4) (modulation a2 (i 0) 5)
    (fun k => a4 (ix1 k)) (fun k => a7 (ix1 k)) (fun k f => a3 (ix2 k f)) (fun k f => a5 (ix2 k f)) (fun k f => a6 (ix2 k f)) (i 1)

section Blocks

variable (c : Dev nD) (t : Fin cfg0.N)

theorem t_lt : t.val < 16 := t.isLt

theorem blk0 (p : Fin 1024) (R : Fin 16384) (hR : R.val = t.val * 1024 + p.val) :
    rowAt (iblk m c 0 t : Vec Ideal S1024x1024 .f32) p = stream (m ((c : Thread nD τ).loc main_arg0)) R := funext fun k => by
  show V m c main_v0 (((cfg0.win 0).blk t).view.emb (ix2 p k)) = _
  rw [V_main_v0]
  obtain ⟨e0, e1⟩ := index0 t
  refine stream_row _ R k _ ?_ ?_
  · show win0_0.index t (0 : Fin 2) * 1024 + 1 * p.val = R.val; omega
  · show win0_0.index t (1 : Fin 2) * 1024 + 1 * k.val = k.val; omega

theorem blk1 (p : Fin 1024) (R : Fin 16384) (hR : R.val = t.val * 1024 + p.val) :
    rowAt (iblk m c 1 t : Vec Ideal S1024x1024 .bf16) p = stream (m ((c : Thread nD τ).loc main_arg1)) R := funext fun k => by
  show V m c main_v2 (((cfg0.win 1).blk t).view.emb (ix2 p k)) = _
  rw [V_main_v2]
  obtain ⟨e0, e1⟩ := index1 t
  refine stream_row _ R k _ ?_ ?_
  · show win0_1.index t (0 : Fin 2) * 1024 + 1 * p.val = R.val; omega
  · show win0_1.index t (1 : Fin 2) * 1024 + 1 * k.val = k.val; omega

theorem blk2 (k : Fin 1024) : rowAt (iblk m c 2 t : Vec Ideal S1024x1024 .bf16) k
    = fun f => (m ((c : Thread nD τ).loc main_arg3) : Vec Ideal S1024x1024 .f32) (ix2 k f) := funext fun f => by
  show V m c main_v4 (((cfg0.win 2).blk t).view.emb (ix2 k f)) = _
  rw [V_main_v4]
  obtain ⟨e0, e1⟩ := index2 t
  refine congrArg (m ((c : Thread nD τ).loc main_arg3) : Vec Ideal S1024x1024 .f32) (funext fun a => Fin.ext ?_)
  match a with
  | ⟨0, _⟩ => show win0_2.index t (0 : Fin 2) * 1024 + 1 * k.val = k.val; omega
  | ⟨1, _⟩ => show win0_2.index t (1 : Fin 2) * 1024 + 1 * f.val = f.val; omega

theorem blk3 (R : Fin 16384) (hR : R.val / 2048 = t.val / 2) :
    only (iblk m c 3 t : Vec Ideal S1x1x1024 .f32) = modulation (m ((c : Thread nD τ).loc main_arg2)) R 2 := funext fun k => by
  show V m c main_v3 (((cfg0.win 3).blk t).view.emb (ix3 0 0 k)) = _
  rw [V_main_v3]
  obtain ⟨e0, e1, e2⟩ := index3 t
  refine modulation_row _ R 2 k _ ?_ ?_ ?_
  · show win0_3.index t (0 : Fin 3) * 1 + 1 * 0 = R.val / 2048 * 6 + 2; omega
  · show win0_3.index t (1 : Fin 3) * 1 + 1 * 0 = 0; omega
  · show win0_3.index t (2 : Fin 3) * 1024 + 1 * k.val = k.val; omega

theorem blk4 (R : Fin 16384) (hR : R.val / 2048 = t.val / 2) :
    only (iblk m c 4 t : Vec Ideal S1x1x1024 .f32) = modulation (m ((c : Thread nD τ).loc main_arg2)) R 3 := funext fun k => by
  show V m c main_v3 (((cfg0.win 4).blk t).view.emb (ix3 0 0 k)) = _
  rw [V_main_v3]
  obtain ⟨e0, e1, e2⟩ := index4 t
  refine modulation_row _ R 3 k _ ?_ ?_ ?_
  · show win0_4.index t (0 : Fin 3) * 1 + 1 * 0 = R.val / 2048 * 6 + 3; omega
  · show win0_4.index t (1 : Fin 3) * 1 + 1 * 0 = 0; omega
  · show win0_4.index t (2 : Fin 3) * 1024 + 1 * k.val = k.val; omega

theorem blk5 (R : Fin 16384) (hR : R.val / 2048 = t.val / 2) :
    only (iblk m c 5 t : Vec Ideal S1x1x1024 .f32) = modulation (m ((c : Thread nD τ).loc main_arg2)) R 4 := funext fun k => by
  show V m c main_v3 (((cfg0.win 5).blk t).view.emb (ix3 0 0 k)) = _
  rw [V_main_v3]
  obtain ⟨e0, e1, e2⟩ := index5 t
  refine modulation_row _ R 4 k _ ?_ ?_ ?_
  · show win0_5.index t (0 : Fin 3) * 1 + 1 * 0 = R.val / 2048 * 6 + 4; omega
  · show win0_5.index t (1 : Fin 3) * 1 + 1 * 0 = 0; omega
  · show win0_5.index t (2 : Fin 3) * 1024 + 1 * k.val = k.val; omega

theorem blk6 (R : Fin 16384) (hR : R.val / 2048 = t.val / 2) :
    only (iblk m c 6 t : Vec Ideal S1x1x1024 .f32) = modulation (m ((c : Thread nD τ).loc main_arg2)) R 5 := funext fun k => by
  show V m c main_v3 (((cfg0.win 6).blk t).view.emb (ix3 0 0 k)) = _
  rw [V_main_v3]
  obtain ⟨e0, e1, e2⟩ := index6 t
  refine modulation_row _ R 5 k _ ?_ ?_ ?_
  · show win0_6.index t (0 : Fin 3) * 1 + 1 * 0 = R.val / 2048 * 6 + 5; omega
  · show win0_6.index t (1 : Fin 3) * 1 + 1 * 0 = 0; omega
  · show win0_6.index t (2 : Fin 3) * 1024 + 1 * k.val = k.val; omega

theorem blk7 : rowAt (iblk m c 7 t : Vec Ideal S1x1024 .f32) 0
    = fun k => (m ((c : Thread nD τ).loc main_arg4) : Vec Ideal S1024 .f32) (ix1 k) := funext fun k => by
  show V m c main_v5 (((cfg0.win 7).blk t).view.emb (ix2 0 k)) = _
  rw [V_main_v5]
  obtain ⟨e0, e1⟩ := index7 t
  refine vector_row _ k _ ?_
  show win0_7.index t (1 : Fin 2) * 1024 + 1 * k.val = k.val; omega

theorem blk8 (k : Fin 1024) : rowAt (iblk m c 8 t : Vec Ideal S1024x4096 .bf16) k
    = fun f => (m ((c : Thread nD τ).loc main_arg5) : Vec Ideal S1024x4096 .f32) (ix2 k f) := funext fun f => by
  show V m c main_v6 (((cfg0.win 8).blk t).view.emb (ix2 k f)) = _
  rw [V_main_v6]
  obtain ⟨e0, e1⟩ := index8 t
  refine congrArg (m ((c : Thread nD τ).loc main_arg5) : Vec Ideal S1024x4096 .f32) (funext fun a => Fin.ext ?_)
  match a with
  | ⟨0, _⟩ => show win0_8.index t (0 : Fin 2) * 1024 + 1 * k.val = k.val; omega
  | ⟨1, _⟩ => show win0_8.index t (1 : Fin 2) * 4096 + 1 * f.val = f.val; omega

theorem blk9 (k : Fin 4096) : rowAt (iblk m c 9 t : Vec Ideal S4096x1024 .bf16) k
    = fun f => (m ((c : Thread nD τ).loc main_arg6) : Vec Ideal S4096x1024 .f32) (ix2 k f) := funext fun f => by
  show V m c main_v7 (((cfg0.win 9).blk t).view.emb (ix2 k f)) = _
  rw [V_main_v7]
  obtain ⟨e0, e1⟩ := index9 t
  refine congrArg (m ((c : Thread nD τ).loc main_arg6) : Vec Ideal S4096x1024 .f32) (funext fun a => Fin.ext ?_)
  match a with
  | ⟨0, _⟩ => show win0_9.index t (0 : Fin 2) * 4096 + 1 * k.val = k.val; omega
  | ⟨1, _⟩ => show win0_9.index t (1 : Fin 2) * 1024 + 1 * f.val = f.val; omega

theorem blk10 : rowAt (iblk m c 10 t : Vec Ideal S1x1024 .f32) 0
    = fun k => (m ((c : Thread nD τ).loc main_arg7) : Vec Ideal S1024 .f32) (ix1 k) := funext fun k => by
  show V m c main_v8 (((cfg0.win 10).blk t).view.emb (ix2 0 k)) = _
  rw [V_main_v8]
  obtain ⟨e0, e1⟩ := index10 t
  refine vector_row _ k _ ?_
  show win0_10.index t (1 : Fin 2) * 1024 + 1 * k.val = k.val; omega

end Blocks

/-- `G` of the launched arguments. -/
abbrev GM (c : Dev nD) : Vec Ideal S16384x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What a point writes back is its block of `G`. -/
theorem flushed_eq (c : Dev nD) (t : Fin cfg0.N) :
    (dats m 0 c).flushed 11 t = ((cfg0.win 11).blk t).view.read (Elt Ideal) (GM m c) := by
  rw [flushed11_A, out_eq]
  funext y
  obtain ⟨p, q, rfl⟩ : ∃ (p : Fin 1024) (q : Fin 1024), y = ix2 p q := ⟨y 0, y 1, eq_ix2 _⟩
  have hp := p.isLt
  have ht := t_lt t
  show block _ _ _ _ _ _ _ _ _ _ _ (ix2 p q) = GM m c (((cfg0.win 11).blk t).view.emb (ix2 p q))
  obtain ⟨e0, e1⟩ := index11 t
  have hR : ((((cfg0.win 11).blk t).view.emb (ix2 p q) : S16384x1024.Idx) 0).val = t.val * 1024 + p.val := by
    show win0_11.index t (0 : Fin 2) * 1024 + 1 * p.val = _; omega
  have hq : (((cfg0.win 11).blk t).view.emb (ix2 p q) : S16384x1024.Idx) 1 = q := Fin.ext (by
    show win0_11.index t (1 : Fin 2) * 1024 + 1 * q.val = q.val; omega)
  have hb : ((((cfg0.win 11).blk t).view.emb (ix2 p q) : S16384x1024.Idx) 0).val / 2048 = t.val / 2 := by omega
  unfold block GM G
  rw [hq]
  simp only [blk2 m c t, blk7 m c t, blk8 m c t, blk9 m c t, blk10 m c t]
  rw [show rowAt (iblk m c 0 t : Vec Ideal S1024x1024 .f32) ((ix2 p q : S1024x1024.Idx) 0) = _ from blk0 m c t p _ hR,
    show rowAt (iblk m c 1 t : Vec Ideal S1024x1024 .bf16) ((ix2 p q : S1024x1024.Idx) 0) = _ from blk1 m c t p _ hR,
    blk3 m c t _ hb, blk4 m c t _ hb, blk5 m c t _ hb, blk6 m c t _ hb]

/-- The result array after the run. -/
theorem final (c : Dev nD) : (dats m 0 c).arrAt 11 cfg0.N = GM m c :=
  (dats m 0 c).arrAt_eq_of_cover 11 (GM m c) (fun t _ => flushed_eq m c t)
    ((show (cfg0.win 11).Covers by decide +kernel).cover _ (Memref.isWhole_whole _))

end Cert.Proof.MlpKernel

end
-- ==== Proof.MlpReference.lean ====
/- The network reference's result, read operation by operation (Gen/Reference2Ideal/Read.lean), as the row mathematics of
   MlpRow.lean: row (b, s) of the result is `row` of row (b, s) of the two streams and of batch b's modulation. -/
module

public import proofs.«01_k».proof.Proof.Gen.Reference2Ideal.Read
public import proofs.«01_k».proof.Proof.MlpRow
public import Idealize.ShloMosaic.Lib.ValueIdxCore

@[expose] public section

noncomputable section

namespace Cert.Proof.MlpReference

open Cert.Reference2Ideal Cert.Reference2Ideal.Read Idealize.ShloMosaic Idealize.ShloMosaic.ValueIdx Cert.Proof.MlpRow

variable (x0 x1 : Vec Ideal S8x2048x1024 .f32) (x2 : Vec Ideal S8x6144 .f32) (x3 : Vec Ideal S1024x1024 .f32) (x4 : Vec Ideal S1024 .f32)
  (x5 : Vec Ideal S1024x4096 .f32) (x6 : Vec Ideal S4096x1024 .f32) (x7 : Vec Ideal S1024 .f32) (b : Fin 8) (s : Fin 2048)

/-- Chunk `j` of batch `b`'s modulation. -/
def chunk (j : Fin 6) (k : Fin 1024) : EReal := x2 (ix2 b ⟨j.val * 1024 + k.val, by omega⟩)

/-- Equal indices from equal coordinates. -/
theorem ext2 {n0 n1 : Nat} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)
theorem ext3 {n0 n1 n2 : Nat} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

theorem gate_t (k : Fin 1024) : val_main_v11 (F := Ideal) x2 (ix3 b s k) = chunk x2 b 2 k := by
  rw [val_main_v11_apply, val_main_v6_apply, val_main_v2_apply]
  exact congrArg x2 (ext2 rfl rfl)
theorem shift (k : Fin 1024) : val_main_v31 (F := Ideal) x2 (ix3 b s k) = chunk x2 b 3 k := by
  rw [val_main_v31_apply, val_main_v7_apply, val_main_v3_apply]
  exact congrArg x2 (ext2 rfl rfl)
theorem scale (k : Fin 1024) : val_main_v29 (F := Ideal) x2 (ix3 b s k) = one + chunk x2 b 4 k := by
  rw [val_main_v29_apply, val_main_v28_apply, val_main_v8_apply, val_main_v4_apply, val_main_v27_apply]
  exact congrArg (one + x2 ·) (ext2 rfl rfl)
theorem gate_c (k : Fin 1024) : val_main_v37 (F := Ideal) x2 (ix3 b s k) = chunk x2 b 5 k := by
  rw [val_main_v37_apply, val_main_v9_apply, val_main_v5_apply]
  exact congrArg x2 (ext2 rfl rfl)

/-- The residual stream after the mixer. -/
theorem mixed_apply (k : Fin 1024) : val_main_v13 (F := Ideal) x0 x1 x2 x3 (ix3 b s k)
    = mixed (fun k => x0 (ix3 b s k)) (fun k => x1 (ix3 b s k)) (chunk x2 b 2) (fun k f => x3 (ix2 k f)) k := by
  rw [val_main_v13_apply, val_main_v12_apply, gate_t, val_main_v10_apply]
  refine congrArg (x0 (ix3 b s k) + chunk x2 b 2 k * ·) (Finset.sum_congr rfl fun j _ => ?_)
  exact congrArg₂ (x1 · * x3 ·) (ext3 rfl rfl rfl) (ext2 rfl rfl)

/-- Its reciprocal root mean square. -/
theorem inv_rms_apply (k : Fin 1024) : val_main_v22 (F := Ideal) x0 x1 x2 x3 (ix3 b s k)
    = inv_rms (fun k => val_main_v13 (F := Ideal) x0 x1 x2 x3 (ix3 b s k)) := by
  rw [val_main_v22_apply, val_main_v21_apply, val_main_v20_apply, val_main_v18_apply, val_main_v17_apply, val_main_v19_apply, val_main_v16_apply, val_main_v15_apply]
  refine congrArg (fun t => FloatOps.rsqrt (F := Ideal) (φ := .f32) (FloatOps.divf (F := Ideal) (φ := .f32) t width + eps)) ?_
  rw [val_main_cst_apply]
  refine Eq.trans (congrArg (· + _) Ideal.ofBits_zero_f32) ((zero_add _).trans (Finset.sum_congr rfl fun j _ => ?_))
  rw [val_main_v14_apply]
  exact congrArg (fun i => val_main_v13 (F := Ideal) x0 x1 x2 x3 i * val_main_v13 (F := Ideal) x0 x1 x2 x3 i) (ext3 rfl rfl rfl)

/-- The network's input. -/
theorem modulated_apply (k : Fin 1024) : val_main_v32 (F := Ideal) x0 x1 x2 x3 x4 (ix3 b s k)
    = modulated (fun k => val_main_v13 (F := Ideal) x0 x1 x2 x3 (ix3 b s k)) (fun k => x4 (ix1 k)) (chunk x2 b 4) (chunk x2 b 3) k := by
  rw [val_main_v32_apply, val_main_v30_apply, val_main_v26_apply, val_main_v23_apply, inv_rms_apply, shift, scale, val_main_v25_apply, val_main_v24_apply]
  refine congrArg (fun i => val_main_v13 (F := Ideal) x0 x1 x2 x3 (ix3 b s k) * inv_rms (fun k => val_main_v13 (F := Ideal) x0 x1 x2 x3 (ix3 b s k)) * x4 i
    * (one + chunk x2 b 4 k) + chunk x2 b 3 k) (funext fun a => Fin.ext ?_)
  match a with | ⟨0, _⟩ => rfl

/-- The hidden layer. -/
theorem hidden_apply (f : Fin 4096) : val_main_v35 (F := Ideal) x0 x1 x2 x3 x4 x5 (ix3 b s f)
    = MlpRow.hidden (fun k => val_main_v32 (F := Ideal) x0 x1 x2 x3 x4 (ix3 b s k)) (fun k f => x5 (ix2 k f)) f := by
  rw [val_main_v35_apply, val_main_v34_apply, val_main_v33_apply, val_main_call0_v0_apply]
  unfold MlpRow.hidden
  rw [show (∑ k : Fin 1024, val_main_v32 (F := Ideal) x0 x1 x2 x3 x4 (lidx_main_v33 (ix3 b s f) k) * x5 (ridx_main_v33 (ix3 b s f) k))
      = ∑ k : Fin 1024, val_main_v32 (F := Ideal) x0 x1 x2 x3 x4 (ix3 b s k) * x5 (ix2 k f) from
    Finset.sum_congr rfl fun j _ => congrArg₂ (val_main_v32 (F := Ideal) x0 x1 x2 x3 x4 · * x5 ·) (ext3 rfl rfl rfl) (ext2 rfl rfl)]
  rfl

/-- The residual stream after the network. -/
theorem fed_apply (k : Fin 1024) : val_main_v39 (F := Ideal) x0 x1 x2 x3 x4 x5 x6 (ix3 b s k)
    = fed (fun k => val_main_v13 (F := Ideal) x0 x1 x2 x3 (ix3 b s k)) (fun k => val_main_v32 (F := Ideal) x0 x1 x2 x3 x4 (ix3 b s k)) (chunk x2 b 5)
        (fun k f => x5 (ix2 k f)) (fun f k => x6 (ix2 f k)) k := by
  rw [val_main_v39_apply, val_main_v38_apply, gate_c, val_main_v36_apply]
  refine congrArg (val_main_v13 (F := Ideal) x0 x1 x2 x3 (ix3 b s k) + chunk x2 b 5 k * ·) (Finset.sum_congr rfl fun j _ => ?_)
  rw [← hidden_apply]
  exact congrArg₂ (val_main_v35 (F := Ideal) x0 x1 x2 x3 x4 x5 · * x6 ·) (ext3 rfl rfl rfl) (ext2 rfl rfl)

/-- Its reciprocal root mean square. -/
theorem inv_rms_apply' (k : Fin 1024) : val_main_v48 (F := Ideal) x0 x1 x2 x3 x4 x5 x6 (ix3 b s k)
    = inv_rms (fun k => val_main_v39 (F := Ideal) x0 x1 x2 x3 x4 x5 x6 (ix3 b s k)) := by
  rw [val_main_v48_apply, val_main_v47_apply, val_main_v46_apply, val_main_v44_apply, val_main_v43_apply, val_main_v45_apply, val_main_v42_apply, val_main_v41_apply]
  refine congrArg (fun t => FloatOps.rsqrt (F := Ideal) (φ := .f32) (FloatOps.divf (F := Ideal) (φ := .f32) t width + eps)) ?_
  rw [val_main_cst_3_apply]
  refine Eq.trans (congrArg (· + _) Ideal.ofBits_zero_f32) ((zero_add _).trans (Finset.sum_congr rfl fun j _ => ?_))
  rw [val_main_v40_apply]
  exact congrArg (fun i => val_main_v39 (F := Ideal) x0 x1 x2 x3 x4 x5 x6 i * val_main_v39 (F := Ideal) x0 x1 x2 x3 x4 x5 x6 i) (ext3 rfl rfl rfl)

/-- The whole row. -/
theorem row_apply (k : Fin 1024) : val_main_v52 (F := Ideal) x0 x1 x2 x3 x4 x5 x6 x7 (ix3 b s k)
    = row (fun k => x0 (ix3 b s k)) (fun k => x1 (ix3 b s k)) (chunk x2 b 2) (chunk x2 b 3) (chunk x2 b 4) (chunk x2 b 5) (fun k => x4 (ix1 k))
        (fun k => x7 (ix1 k)) (fun k f => x3 (ix2 k f)) (fun k f => x5 (ix2 k f)) (fun k f => x6 (ix2 k f)) k := by
  have e13 := funext fun k => mixed_apply x0 x1 x2 x3 b s k
  have e32 := funext fun k => modulated_apply x0 x1 x2 x3 x4 b s k
  have e39 := funext fun k => fed_apply x0 x1 x2 x3 x4 x5 x6 b s k
  rw [e32, e13] at e39
  rw [val_main_v52_apply, val_main_v49_apply, inv_rms_apply', e39, congrFun e39 k, val_main_v51_apply, val_main_v50_apply]
  exact congrArg (_ * x7 ·) (funext fun a => Fin.ext (by match a with | ⟨0, _⟩ => rfl))

/-- The result, flattened. -/
theorem result_apply (i : S16384x1024.Idx) (R : Fin 16384) (k : Fin 1024) (hi : i = ix2 R k) :
    val_main_v53 (F := Ideal) x0 x1 x2 x3 x4 x5 x6 x7 i
      = val_main_v52 (F := Ideal) x0 x1 x2 x3 x4 x5 x6 x7 (ix3 ⟨R.val / 2048, by omega⟩ ⟨R.val % 2048, by omega⟩ k) := by
  subst hi
  rw [val_main_v53_apply]
  have hR := R.isLt
  have hk := k.isLt
  refine congrArg _ (ext3 ?_ ?_ ?_)
  · show (R.val * 1024 + k.val) / 2097152 = R.val / 2048; omega
  · show (R.val * 1024 + k.val) / 1024 % 2048 = R.val % 2048; omega
  · show (R.val * 1024 + k.val) % 1024 = k.val; omega

end Cert.Proof.MlpReference

end
-- ==== Proof.Mlp.lean ====
module

public import proofs.«01_k».proof.Defs
public import proofs.«01_k».proof.Proof.MlpKernel
public import proofs.«01_k».proof.Proof.MlpReference
public import proofs.«01_k».proof.Proof.Gen.Kernel2
public import proofs.«01_k».proof.Proof.Gen.Kernel2.Frame
public import Idealize.ShloMosaic.Lib.Quiescent

/-! # Output projection, MLP and final norm: the call computes the reference's array

The call leaves `MlpKernel.GM`, every token row the function `MlpRow.row` of its operands; the reference's run
leaves the same rows. -/

@[expose] public section

noncomputable section

namespace Cert.Proof.Mlp

open Idealize.ShloMosaic Idealize.ShloMosaic.ValueIdx Idealize.SL Cert.Proof

/-- The reference leaves its arguments and its counters as they were. -/
theorem frame_reference : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reference's result is the array the call leaves, of any arguments. -/
theorem result_eq (x0 x1 : Vec Ideal Cert.Reference2Ideal.S8x2048x1024 .f32) (x2 : Vec Ideal Cert.Reference2Ideal.S8x6144 .f32)
    (x3 : Vec Ideal Cert.Reference2Ideal.S1024x1024 .f32) (x4 : Vec Ideal Cert.Reference2Ideal.S1024 .f32)
    (x5 : Vec Ideal Cert.Reference2Ideal.S1024x4096 .f32) (x6 : Vec Ideal Cert.Reference2Ideal.S4096x1024 .f32)
    (x7 : Vec Ideal Cert.Reference2Ideal.S1024 .f32) :
    Cert.Reference2Ideal.Read.val_main_v53 x0 x1 x2 x3 x4 x5 x6 x7 = MlpKernel.G x0 x1 x2 x3 x4 x5 x6 x7 := by
  funext i
  obtain ⟨R, k, hi⟩ : ∃ R k, i = ix2 R k := ⟨_, _, eq_ix2 i⟩
  rw [MlpReference.result_apply x0 x1 x2 x3 x4 x5 x6 x7 i R k hi, MlpReference.row_apply]
  subst hi
  rfl

/-- The call and its reference end with the same array. -/
theorem algebraic : Cert.algebraic_Kernel2Ideal_Reference2Ideal := by
  intro m ρ m' ρ' _ hargs
  refine ⟨fun c => MlpKernel.GM m c, ?_, ?_⟩
  · exact (θ_run Cert.Kernel2Ideal.defs _ _).mono
      (fun r h c => ⟨(h c).1.trans (MlpKernel.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨h0, h1, h2, h3, h4, h5, h6, h7⟩ := hargs c
    rw [Cert.Reference2Ideal.Read.val_main_v53_eq, h0, h1, h2, h3, h4, h5, h6, h7]
    exact result_eq ..

end Cert.Proof.Mlp

end
-- ==== Proof.FirstMlpKernel.lean ====
/- The first layer's network call: its result arrays as functions of its arguments. Each of the 32 grid points leaves a block
   of 512 rows, each row the row mathematics (MlpRow.lean) without the closing norm, and casts one slab of each of the next
   layer's four weights; the blocks and the slabs tile the arrays. -/
module

public import proofs.«01_k».proof.Proof.Gen.Kernel3Ideal.Value
public import proofs.«01_k».proof.Proof.MlpKernel

@[expose] public section

set_option maxRecDepth 16384

noncomputable section

namespace Cert.Proof.FirstMlpKernel

open Cert.Kernel3Ideal Cert.Kernel3Ideal.Gen Cert.Kernel3Ideal.Value Idealize.ShloMosaic Idealize.ShloMosaic.TcCoe Idealize.SL.Sem
open Idealize.ShloMosaic.ValueIdx Cert.Proof.MlpRow Cert.Proof.MlpPayload
open Cert.Proof.MlpKernel (stream modulation stream_row modulation_row vector_row hz2 hz3)

/-- A block the run leaves: row by row. -/
def block (x0 : Vec Ideal S512x1024 .f32) (x1 : Vec Ideal S512x1024 .bf16) (x2 : Vec Ideal S1024x1024 .bf16) (x3 x4 x5 x6 : Vec Ideal S1x1x1024 .f32)
    (x7 : Vec Ideal S1x1024 .f32) (x8 : Vec Ideal S1024x4096 .bf16) (x9 : Vec Ideal S4096x1024 .bf16) : Vec Ideal S512x1024 .f32 := fun y =>
  residual (rowAt x0 (y 0)) (rowAt x1 (y 0)) (only x3) (only x4) (only x5) (only x6) (rowAt x7 0) (fun k => rowAt x2 k)
    (fun k => rowAt x8 k) (fun k => rowAt x9 k) (y 1)

/-- The stored values are those of the last call before its closing norm: the two bodies are printed alike up to there. -/
theorem payload_eq (x : Vec Ideal S512x1024 .f32) (o : Vec Ideal S512x1024 .bf16) (wo : Vec Ideal S1024x1024 .bf16) (gt sh sc gc : Vec Ideal S1x1x1024 .f32)
    (g : Vec Ideal S1x1024 .f32) (w1 : Vec Ideal S1024x4096 .bf16) (w2 : Vec Ideal S4096x1024 .bf16) :
    k0_pay1 (F := Ideal) (k0_pay6 x gt o wo) (k0_pay7 (k0_pay6 x gt o wo) g sc sh w1 gc w2)
      = fedBlock (Cert.Kernel2Ideal.Gen.k0_pay2 (F := Ideal) x gt o wo) (Cert.Kernel2Ideal.Gen.k0_pay3 (F := Ideal) sh)
          (Cert.Kernel2Ideal.Gen.k0_pay4 (F := Ideal) x gt o wo g sc) w1 gc w2 := rfl

/-- So the block after the body is `block` of the input blocks. -/
theorem out_eq (x0 : Vec Ideal S512x1024 .f32) (x1 : Vec Ideal S512x1024 .bf16) (x2 : Vec Ideal S1024x1024 .bf16) (x3 x4 x5 x6 : Vec Ideal S1x1x1024 .f32)
    (x7 : Vec Ideal S1x1024 .f32) (x8 : Vec Ideal S1024x4096 .bf16) (x9 : Vec Ideal S4096x1024 .bf16) (x10 : Vec Ideal S1x1024 .f32)
    (x11 : Vec Ideal S32x4096 .f32) (x12 : Vec Ideal S128x1024 .f32) (x13 : Vec Ideal S32x3072 .f32) (x14 : Vec Ideal S32x1024 .f32) :
    out0_15 (F := Ideal) x0 x1 x2 x3 x4 x5 x6 x7 x8 x9 x10 x11 x12 x13 x14 = block x0 x1 x2 x3 x4 x5 x6 x7 x8 x9 := by
  unfold out0_15 k0_pay8
  rw [View.ld_unit_zero hz2 inb_S512x1024_S512x1024_0_0 x0, View.ld_unit_zero hz2 inb_S512x1024_S512x1024_0_0 x1,
    View.ld_unit_zero hz2 inb_S1024x1024_S1024x1024_0_0 x2, View.ld_unit_zero hz3 inb_S1x1x1024_S1x1x1024_0_0_0 x3,
    View.ld_unit_zero hz3 inb_S1x1x1024_S1x1x1024_0_0_0 x4, View.ld_unit_zero hz3 inb_S1x1x1024_S1x1x1024_0_0_0 x5,
    View.ld_unit_zero hz3 inb_S1x1x1024_S1x1x1024_0_0_0 x6, View.ld_unit_zero hz2 inb_S1x1024_S1x1024_0_0 x7,
    View.ld_unit_zero hz2 inb_S1024x4096_S1024x4096_0_0 x8, View.ld_unit_zero hz2 inb_S4096x1024_S4096x1024_0_0 x9, payload_eq]
  refine (View.canon_cons_unit_zero hz2 inb_S512x1024_S512x1024_0_0 _ _).trans (funext fun y => ?_)
  obtain ⟨p, q, rfl⟩ : ∃ (p : Fin 512) (q : Fin 1024), y = ix2 p q := ⟨y 0, y 1, eq_ix2 _⟩
  exact fed_row x0 x1 x2 x3 x4 x5 x6 x7 x8 x9 p q

variable (m : (ℓ : Loc nD τ sig) → Buf (Elt Ideal) ℓ) (ρ : Dev nD → PrngReg)

/-! ## What the call finds in its arrays -/

theorem V_main_v0 (c : Dev nD) : V m c main_v0
    = shapeCast S16384x1024 (m ((c : Thread nD τ).loc main_arg0) : Vec Ideal S8x2048x1024 .f32) shapeCasts_S8x2048x1024_S16384x1024 := by
  show StableHlo.after hostOps0 _ (Proc.devRef .tc main_v0) = _
  after_results
  rfl
theorem V_main_v2 (c : Dev nD) : V m c main_v2
    = shapeCast S16384x1024 (m ((c : Thread nD τ).loc main_arg1) : Vec Ideal S8x2048x1024 .f32) shapeCasts_S8x2048x1024_S16384x1024 := by
  show StableHlo.after hostOps0 _ (Proc.devRef .tc main_v2) = _
  after_results
  rfl
theorem V_main_v3 (c : Dev nD) : V m c main_v3
    = shapeCast S48x1x1024 (m ((c : Thread nD τ).loc main_arg2) : Vec Ideal S8x6144 .f32) shapeCasts_S8x6144_S48x1x1024 := by
  show StableHlo.after hostOps0 _ (Proc.devRef .tc main_v3) = _
  after_results
  rfl
theorem V_main_v4 (c : Dev nD) : V m c main_v4 = (m ((c : Thread nD τ).loc main_arg3) : Vec Ideal S1024x1024 .f32) := by
  show StableHlo.after hostOps0 _ (Proc.devRef .tc main_v4) = _
  after_results
  rfl
theorem V_main_v5 (c : Dev nD) : V m c main_v5
    = shapeCast S1x1024 (m ((c : Thread nD τ).loc main_arg4) : Vec Ideal S1024 .f32) shapeCasts_S1024_S1x1024 := by
  show StableHlo.after hostOps0 _ (Proc.devRef .tc main_v5) = _
  after_results
  rfl
theorem V_main_v6 (c : Dev nD) : V m c main_v6 = (m ((c : Thread nD τ).loc main_arg5) : Vec Ideal S1024x4096 .f32) := by
  show StableHlo.after hostOps0 _ (Proc.devRef .tc main_v6) = _
  after_results
  rfl
theorem V_main_v7 (c : Dev nD) : V m c main_v7 = (m ((c : Thread nD τ).loc main_arg6) : Vec Ideal S4096x1024 .f32) := by
  show StableHlo.after hostOps0 _ (Proc.devRef .tc main_v7) = _
  after_results
  rfl
theorem V_main_v8 (c : Dev nD) : V m c main_v8
    = shapeCast S1x1024 (m ((c : Thread nD τ).loc main_arg7) : Vec Ideal S1024 .f32) shapeCasts_S1024_S1x1024 := by
  show StableHlo.after hostOps0 _ (Proc.devRef .tc main_v8) = _
  after_results
  rfl
theorem V_main_v9 (c : Dev nD) : V m c main_v9
    = shapeCast S2048x4096 (m ((c : Thread nD τ).loc main_arg8) : Vec Ideal S2x1024x4096 .f32) shapeCasts_S2x1024x4096_S2048x4096 := by
  show StableHlo.after hostOps0 _ (Proc.devRef .tc main_v9) = _
  after_results
  rfl
theorem V_main_v10 (c : Dev nD) : V m c main_v10
    = shapeCast S8192x1024 (m ((c : Thread nD τ).loc main_arg9) : Vec Ideal S2x4096x1024 .f32) shapeCasts_S2x4096x1024_S8192x1024 := by
  show StableHlo.after hostOps0 _ (Proc.devRef .tc main_v10) = _
  after_results
  rfl
theorem V_main_v11 (c : Dev nD) : V m c main_v11
    = shapeCast S1024x3072 (m ((c : Thread nD τ).loc main_arg10) : Vec Ideal S1x1024x3072 .f32) shapeCasts_S1x1024x3072_S1024x3072 := by
  show StableHlo.after hostOps0 _ (Proc.devRef .tc main_v11) = _
  after_results
  rfl
theorem V_main_v12 (c : Dev nD) : V m c main_v12
    = shapeCast S1024x1024 (m ((c : Thread nD τ).loc main_arg11) : Vec Ideal S1x1024x1024 .f32) shapeCasts_S1x1024x1024_S1024x1024 := by
  show StableHlo.after hostOps0 _ (Proc.devRef .tc main_v12) = _
  after_results
  rfl

/-! ## The index maps: point `t` stages block row `t` of the streams and the modulation rows of batch `t / 4`; of a stack of two
weights it casts the second -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 3) = t.val / 4 * 6 + 2 ∧ win0_3.index t (1 : Fin 3) = 0 ∧ win0_3.index t (2 : Fin 3) = 0 := (by decide +kernel : ∀ t : Fin grid0.N, _)
theorem index4 : ∀ t : Fin cfg0.N, win0_4.index t (0 : Fin 3) = t.val / 4 * 6 + 3 ∧ win0_4.index t (1 : Fin 3) = 0 ∧ win0_4.index t (2 : Fin 3) = 0 := (by decide +kernel : ∀ t : Fin grid0.N, _)
theorem index5 : ∀ t : Fin cfg0.N, win0_5.index t (0 : Fin 3) = t.val / 4 * 6 + 4 ∧ win0_5.index t (1 : Fin 3) = 0 ∧ win0_5.index t (2 : Fin 3) = 0 := (by decide +kernel : ∀ t : Fin grid0.N, _)
theorem index6 : ∀ t : Fin cfg0.N, win0_6.index t (0 : Fin 3) = t.val / 4 * 6 + 5 ∧ win0_6.index t (1 : Fin 3) = 0 ∧ win0_6.index t (2 : Fin 3) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index11 : ∀ t : Fin cfg0.N, win0_11.index t (0 : Fin 2) = 32 + t.val ∧ win0_11.index t (1 : Fin 2) = 0 := (by decide +kernel : ∀ t : Fin grid0.N, _)
theorem index12 : ∀ t : Fin cfg0.N, win0_12.index t (0 : Fin 2) = 32 + t.val ∧ win0_12.index t (1 : Fin 2) = 0 := (by decide +kernel : ∀ t : Fin grid0.N, _)
theorem index13 : ∀ t : Fin cfg0.N, win0_13.index t (0 : Fin 2) = t.val ∧ win0_13.index t (1 : Fin 2) = 0 := (by decide +kernel : ∀ t : Fin grid0.N, _)
theorem index14 : ∀ t : Fin cfg0.N, win0_14.index t (0 : Fin 2) = t.val ∧ win0_14.index t (1 : Fin 2) = 0 := (by decide +kernel : ∀ t : Fin grid0.N, _)
theorem index15 : ∀ t : Fin cfg0.N, win0_15.index t (0 : Fin 2) = t.val ∧ win0_15.index t (1 : Fin 2) = 0 := (by decide +kernel : ∀ t : Fin grid0.N, _)
theorem index16 : ∀ t : Fin cfg0.N, win0_16.index t (0 : Fin 2) = t.val ∧ win0_16.index t (1 : Fin 2) = 0 := (by decide +kernel : ∀ t : Fin grid0.N, _)
theorem index17 : ∀ t : Fin cfg0.N, win0_17.index t (0 : Fin 2) = t.val ∧ win0_17.index t (1 : Fin 2) = 0 := (by decide +kernel : ∀ t : Fin grid0.N, _)
theorem index18 : ∀ t : Fin cfg0.N, win0_18.index t (0 : Fin 2) = t.val ∧ win0_18.index t (1 : Fin 2) = 0 := (by decide +kernel : ∀ t : Fin grid0.N, _)
theorem index19 : ∀ t : Fin cfg0.N, win0_19.index t (0 : Fin 2) = t.val ∧ win0_19.index t (1 : Fin 2) = 0 := (by decide +kernel : ∀ t : Fin grid0.N, _)

/-- The first result: each row is the row mathematics of the arguments' rows. -/
def G (a0 a1 : Vec Ideal S8x2048x1024 .f32) (a2 : Vec Ideal S8x6144 .f32) (a3 : Vec Ideal S1024x1024 .f32) (a4 : Vec Ideal S1024 .f32)
    (a5 : Vec Ideal S1024x4096 .f32) (a6 : Vec Ideal S4096x1024 .f32) : Vec Ideal S16384x1024 .f32 := fun i =>
  residual (stream a0 (i 0)) (stream a1 (i 0)) (modulation a2 (i 0) 2) (modulation a2 (i 0) 3) (modulation a2 (i 0) 4) (modulation a2 (i 0) 5)
    (fun k => a4 (ix1 k)) (fun k f => a3 (ix2 k f)) (fun k f => a5 (ix2 k f)) (fun k f => a6 (ix2 k f)) (i 1)

/-- The other results: layer `l` of a stack of matrices. -/
def layer {L M N : Nat} (l : Fin L) (a : (⟨3, ![L, M, N]⟩ : Shape).Idx → EReal) : (⟨2, ![M, N]⟩ : Shape).Idx → EReal := fun i => a (ix3 l (i 0) (i 1))

/-- Row `l · M + r` of a flattened stack of matrices is row `r` of its layer `l`. -/
theorem layer_row {L M N K : Nat} (a : Vec Ideal ⟨3, ![L, M, N]⟩ .f32) (h : (⟨3, ![L, M, N]⟩ : Shape).ShapeCasts ⟨2, ![K, N]⟩) (i : (⟨2, ![K, N]⟩ : Shape).Idx)
    (l : Fin L) (j : (⟨2, ![M, N]⟩ : Shape).Idx) (h0 : (i 0).val = l.val * M + (j 0).val) (h1 : (i 1).val = (j 1).val) :
    shapeCast ⟨2, ![K, N]⟩ a h i = layer l a j :=
  shapeCast_apply _ _ _ _ (by
    rw [Shape.rowMajor_val_three, Shape.rowMajor_val_two, h0, h1]
    rfl)

section Blocks

variable (c : Dev nD) (t : Fin cfg0.N)

theorem t_lt : t.val < 32 := t.isLt

theorem blk0 (p : Fin 512) (R : Fin 16384) (hR : R.val = t.val * 512 + p.val) :
    rowAt (iblk m c 0 t : Vec Ideal S512x1024 .f32) p = stream (m ((c : Thread nD τ).loc main_arg0)) R := funext fun k => by
  show V m c main_v0 (((cfg0.win 0).blk t).view.emb (ix2 p k)) = _
  rw [V_main_v0]
  obtain ⟨e0, e1⟩ := index0 t
  refine stream_row _ R k _ ?_ ?_
  · show win0_0.index t (0 : Fin 2) * 512 + 1 * p.val = R.val; omega
  · show win0_0.index t (1 : Fin 2) * 1024 + 1 * k.val = k.val; omega

theorem blk1 (p : Fin 512) (R : Fin 16384) (hR : R.val = t.val * 512 + p.val) :
    rowAt (iblk m c 1 t : Vec Ideal S512x1024 .bf16) p = stream (m ((c : Thread nD τ).loc main_arg1)) R := funext fun k => by
  show V m c main_v2 (((cfg0.win 1).blk t).view.emb (ix2 p k)) = _
  rw [V_main_v2]
  obtain ⟨e0, e1⟩ := index1 t
  refine stream_row _ R k _ ?_ ?_
  · show win0_1.index t (0 : Fin 2) * 512 + 1 * p.val = R.val; omega
  · show win0_1.index t (1 : Fin 2) * 1024 + 1 * k.val = k.val; omega

theorem blk2 (k : Fin 1024) : rowAt (iblk m c 2 t : Vec Ideal S1024x1024 .bf16) k
    = fun f => (m ((c : Thread nD τ).loc main_arg3) : Vec Ideal S1024x1024 .f32) (ix2 k f) := funext fun f => by
  show V m c main_v4 (((cfg0.win 2).blk t).view.emb (ix2 k f)) = _
  rw [V_main_v4]
  obtain ⟨e0, e1⟩ := index2 t
  refine congrArg (m ((c : Thread nD τ).loc main_arg3) : Vec Ideal S1024x1024 .f32) (funext fun a => Fin.ext ?_)
  match a with
  | ⟨0, _⟩ => show win0_2.index t (0 : Fin 2) * 1024 + 1 * k.val = k.val; omega
  | ⟨1, _⟩ => show win0_2.index t (1 : Fin 2) * 1024 + 1 * f.val = f.val; omega

theorem blk3 (R : Fin 16384) (hR : R.val / 2048 = t.val / 4) :
    only (iblk m c 3 t : Vec Ideal S1x1x1024 .f32) = modulation (m ((c : Thread nD τ).loc main_arg2)) R 2 := funext fun k => by
  show V m c main_v3 (((cfg0.win 3).blk t).view.emb (ix3 0 0 k)) = _
  rw [V_main_v3]
  obtain ⟨e0, e1, e2⟩ := index3 t
  refine modulation_row _ R 2 k _ ?_ ?_ ?_
  · show win0_3.index t (0 : Fin 3) * 1 + 1 * 0 = R.val / 2048 * 6 + 2; omega
  · show win0_3.index t (1 : Fin 3) * 1 + 1 * 0 = 0; omega
  · show win0_3.index t (2 : Fin 3) * 1024 + 1 * k.val = k.val; omega

theorem blk4 (R : Fin 16384) (hR : R.val / 2048 = t.val / 4) :
    only (iblk m c 4 t : Vec Ideal S1x1x1024 .f32) = modulation (m ((c : Thread nD τ).loc main_arg2)) R 3 := funext fun k => by
  show V m c main_v3 (((cfg0.win 4).blk t).view.emb (ix3 0 0 k)) = _
  rw [V_main_v3]
  obtain ⟨e0, e1, e2⟩ := index4 t
  refine modulation_row _ R 3 k _ ?_ ?_ ?_
  · show win0_4.index t (0 : Fin 3) * 1 + 1 * 0 = R.val / 2048 * 6 + 3; omega
  · show win0_4.index t (1 : Fin 3) * 1 + 1 * 0 = 0; omega
  · show win0_4.index t (2 : Fin 3) * 1024 + 1 * k.val = k.val; omega

theorem blk5 (R : Fin 16384) (hR : R.val / 2048 = t.val / 4) :
    only (iblk m c 5 t : Vec Ideal S1x1x1024 .f32) = modulation (m ((c : Thread nD τ).loc main_arg2)) R 4 := funext fun k => by
  show V m c main_v3 (((cfg0.win 5).blk t).view.emb (ix3 0 0 k)) = _
  rw [V_main_v3]
  obtain ⟨e0, e1, e2⟩ := index5 t
  refine modulation_row _ R 4 k _ ?_ ?_ ?_
  · show win0_5.index t (0 : Fin 3) * 1 + 1 * 0 = R.val / 2048 * 6 + 4; omega
  · show win0_5.index t (1 : Fin 3) * 1 + 1 * 0 = 0; omega
  · show win0_5.index t (2 : Fin 3) * 1024 + 1 * k.val = k.val; omega

theorem blk6 (R : Fin 16384) (hR : R.val / 2048 = t.val / 4) :
    only (iblk m c 6 t : Vec Ideal S1x1x1024 .f32) = modulation (m ((c : Thread nD τ).loc main_arg2)) R 5 := funext fun k => by
  show V m c main_v3 (((cfg0.win 6).blk t).view.emb (ix3 0 0 k)) = _
  rw [V_main_v3]
  obtain ⟨e0, e1, e2⟩ := index6 t
  refine modulation_row _ R 5 k _ ?_ ?_ ?_
  · show win0_6.index t (0 : Fin 3) * 1 + 1 * 0 = R.val / 2048 * 6 + 5; omega
  · show win0_6.index t (1 : Fin 3) * 1 + 1 * 0 = 0; omega
  · show win0_6.index t (2 : Fin 3) * 1024 + 1 * k.val = k.val; omega

theorem blk7 : rowAt (iblk m c 7 t : Vec Ideal S1x1024 .f32) 0
    = fun k => (m ((c : Thread nD τ).loc main_arg4) : Vec Ideal S1024 .f32) (ix1 k) := funext fun k => by
  show V m c main_v5 (((cfg0.win 7).blk t).view.emb (ix2 0 k)) = _
  rw [V_main_v5]
  obtain ⟨e0, e1⟩ := index7 t
  refine vector_row _ k _ ?_
  show win0_7.index t (1 : Fin 2) * 1024 + 1 * k.val = k.val; omega

theorem blk8 (k : Fin 1024) : rowAt (iblk m c 8 t : Vec Ideal S1024x4096 .bf16) k
    = fun f => (m ((c : Thread nD τ).loc main_arg5) : Vec Ideal S1024x4096 .f32) (ix2 k f) := funext fun f => by
  show V m c main_v6 (((cfg0.win 8).blk t).view.emb (ix2 k f)) = _
  rw [V_main_v6]
  obtain ⟨e0, e1⟩ := index8 t
  refine congrArg (m ((c : Thread nD τ).loc main_arg5) : Vec Ideal S1024x4096 .f32) (funext fun a => Fin.ext ?_)
  match a with
  | ⟨0, _⟩ => show win0_8.index t (0 : Fin 2) * 1024 + 1 * k.val = k.val; omega
  | ⟨1, _⟩ => show win0_8.index t (1 : Fin 2) * 4096 + 1 * f.val = f.val; omega

theorem blk9 (k : Fin 4096) : rowAt (iblk m c 9 t : Vec Ideal S4096x1024 .bf16) k
    = fun f => (m ((c : Thread nD τ).loc main_arg6) : Vec Ideal S4096x1024 .f32) (ix2 k f) := funext fun f => by
  show V m c main_v7 (((cfg0.win 9).blk t).view.emb (ix2 k f)) = _
  rw [V_main_v7]
  obtain ⟨e0, e1⟩ := index9 t
  refine congrArg (m ((c : Thread nD τ).loc main_arg6) : Vec Ideal S4096x1024 .f32) (funext fun a => Fin.ext ?_)
  match a with
  | ⟨0, _⟩ => show win0_9.index t (0 : Fin 2) * 4096 + 1 * k.val = k.val; omega
  | ⟨1, _⟩ => show win0_9.index t (1 : Fin 2) * 1024 + 1 * f.val = f.val; omega

end Blocks

/-- `G` of the launched arguments. -/
abbrev GM (c : Dev nD) : Vec Ideal S16384x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What a point writes back of the first result is its block of `G`. -/
theorem flushed_eq (c : Dev nD) (t : Fin cfg0.N) :
    (dats m 0 c).flushed 15 t = ((cfg0.win 15).blk t).view.read (Elt Ideal) (GM m c) := by
  rw [flushed15, out_eq]
  funext y
  obtain ⟨p, q, rfl⟩ : ∃ (p : Fin 512) (q : Fin 1024), y = ix2 p q := ⟨y 0, y 1, eq_ix2 _⟩
  have hp := p.isLt
  have ht := t_lt t
  show block _ _ _ _ _ _ _ _ _ _ (ix2 p q) = GM m c (((cfg0.win 15).blk t).view.emb (ix2 p q))
  obtain ⟨e0, e1⟩ := index15 t
  have hR : ((((cfg0.win 15).blk t).view.emb (ix2 p q) : S16384x1024.Idx) 0).val = t.val * 512 + p.val := by
    show win0_15.index t (0 : Fin 2) * 512 + 1 * p.val = _; omega
  have hq : (((cfg0.win 15).blk t).view.emb (ix2 p q) : S16384x1024.Idx) 1 = q := Fin.ext (by
    show win0_15.index t (1 : Fin 2) * 1024 + 1 * q.val = q.val; omega)
  have hb : ((((cfg0.win 15).blk t).view.emb (ix2 p q) : S16384x1024.Idx) 0).val / 2048 = t.val / 4 := by omega
  unfold block GM G
  rw [hq]
  simp only [blk2 m c t, blk7 m c t, blk8 m c t, blk9 m c t]
  rw [show rowAt (iblk m c 0 t : Vec Ideal S512x1024 .f32) ((ix2 p q : S512x1024.Idx) 0) = _ from blk0 m c t p _ hR,
    show rowAt (iblk m c 1 t : Vec Ideal S512x1024 .bf16) ((ix2 p q : S512x1024.Idx) 0) = _ from blk1 m c t p _ hR,
    blk3 m c t _ hb, blk4 m c t _ hb, blk5 m c t _ hb, blk6 m c t _ hb]

/-- The first result array after the run. -/
theorem final (c : Dev nD) : (dats m 0 c).arrAt 15 cfg0.N = GM m c :=
  (dats m 0 c).arrAt_eq_of_cover 15 (GM m c) (fun t _ => flushed_eq m c t)
    ((show (cfg0.win 15).Covers by decide +kernel).cover _ (Memref.isWhole_whole _))

/-! ## The casts: what a point writes back of a weight is its slab of the layer, and the slabs tile the array -/

theorem cast_eq16 (c : Dev nD) (t : Fin cfg0.N) : (dats m 0 c).flushed 16 t
    = ((cfg0.win 16).blk t).view.read (Elt Ideal) (layer 1 (m ((c : Thread nD τ).loc main_arg8) : Vec Ideal S2x1024x4096 .f32) : Vec Ideal S1024x4096 .bf16) := by
  rw [flushed16]
  unfold out0_16
  rw [View.ld_unit_zero hz2 inb_S32x4096_S32x4096_0_0]
  funext y
  refine (canon16_eq _ y).trans ?_
  show V m c main_v9 (((cfg0.win 11).blk t).view.emb (ix16_0 y)) = layer 1 _ (((cfg0.win 16).blk t).view.emb y)
  rw [V_main_v9]
  obtain ⟨e0, e1⟩ := index11 t
  obtain ⟨f0, f1⟩ := index16 t
  refine layer_row _ _ _ 1 _ ?_ ?_
  · show win0_11.index t (0 : Fin 2) * 32 + 1 * (y 0).val = 1 * 1024 + (win0_16.index t (0 : Fin 2) * 32 + 1 * (y 0).val); omega
  · show win0_11.index t (1 : Fin 2) * 4096 + 1 * (y 1).val = win0_16.index t (1 : Fin 2) * 4096 + 1 * (y 1).val; omega
theorem cast16 (c : Dev nD) : (dats m 0 c).arrAt 16 cfg0.N = (layer 1 (m ((c : Thread nD τ).loc main_arg8) : Vec Ideal S2x1024x4096 .f32) : Vec Ideal S1024x4096 .bf16) :=
  (dats m 0 c).arrAt_eq_of_cover 16 _ (fun t _ => cast_eq16 m c t)
    ((show (cfg0.win 16).Covers by decide +kernel).cover _ (Memref.isWhole_whole _))

theorem cast_eq17 (c : Dev nD) (t : Fin cfg0.N) : (dats m 0 c).flushed 17 t
    = ((cfg0.win 17).blk t).view.read (Elt Ideal) (layer 1 (m ((c : Thread nD τ).loc main_arg9) : Vec Ideal S2x4096x1024 .f32) : Vec Ideal S4096x1024 .bf16) := by
  rw [flushed17]
  unfold out0_17
  rw [View.ld_unit_zero hz2 inb_S128x1024_S128x1024_0_0]
  funext y
  refine (canon17_eq _ y).trans ?_
  show V m c main_v10 (((cfg0.win 12).blk t).view.emb (ix17_0 y)) = layer 1 _ (((cfg0.win 17).blk t).view.emb y)
  rw [V_main_v10]
  obtain ⟨e0, e1⟩ := index12 t
  obtain ⟨f0, f1⟩ := index17 t
  refine layer_row _ _ _ 1 _ ?_ ?_
  · show win0_12.index t (0 : Fin 2) * 128 + 1 * (y 0).val = 1 * 4096 + (win0_17.index t (0 : Fin 2) * 128 + 1 * (y 0).val); omega
  · show win0_12.index t (1 : Fin 2) * 1024 + 1 * (y 1).val = win0_17.index t (1 : Fin 2) * 1024 + 1 * (y 1).val; omega
theorem cast17 (c : Dev nD) : (dats m 0 c).arrAt 17 cfg0.N = (layer 1 (m ((c : Thread nD τ).loc main_arg9) : Vec Ideal S2x4096x1024 .f32) : Vec Ideal S4096x1024 .bf16) :=
  (dats m 0 c).arrAt_eq_of_cover 17 _ (fun t _ => cast_eq17 m c t)
    ((show (cfg0.win 17).Covers by decide +kernel).cover _ (Memref.isWhole_whole _))

theorem cast_eq18 (c : Dev nD) (t : Fin cfg0.N) : (dats m 0 c).flushed 18 t
    = ((cfg0.win 18).blk t).view.read (Elt Ideal) (layer 0 (m ((c : Thread nD τ).loc main_arg10) : Vec Ideal S1x1024x3072 .f32) : Vec Ideal S1024x3072 .bf16) := by
  rw [flushed18]
  unfold out0_18
  rw [View.ld_unit_zero hz2 inb_S32x3072_S32x3072_0_0]
  funext y
  refine (canon18_eq _ y).trans ?_
  show V m c main_v11 (((cfg0.win 13).blk t).view.emb (ix18_0 y)) = layer 0 _ (((cfg0.win 18).blk t).view.emb y)
  rw [V_main_v11]
  obtain ⟨e0, e1⟩ := index13 t
  obtain ⟨f0, f1⟩ := index18 t
  refine layer_row _ _ _ 0 _ ?_ ?_
  · show win0_13.index t (0 : Fin 2) * 32 + 1 * (y 0).val = 0 * 1024 + (win0_18.index t (0 : Fin 2) * 32 + 1 * (y 0).val); omega
  · show win0_13.index t (1 : Fin 2) * 3072 + 1 * (y 1).val = win0_18.index t (1 : Fin 2) * 3072 + 1 * (y 1).val; omega
theorem cast18 (c : Dev nD) : (dats m 0 c).arrAt 18 cfg0.N = (layer 0 (m ((c : Thread nD τ).loc main_arg10) : Vec Ideal S1x1024x3072 .f32) : Vec Ideal S1024x3072 .bf16) :=
  (dats m 0 c).arrAt_eq_of_cover 18 _ (fun t _ => cast_eq18 m c t)
    ((show (cfg0.win 18).Covers by decide +kernel).cover _ (Memref.isWhole_whole _))

theorem cast_eq19 (c : Dev nD) (t : Fin cfg0.N) : (dats m 0 c).flushed 19 t
    = ((cfg0.win 19).blk t).view.read (Elt Ideal) (layer 0 (m ((c : Thread nD τ).loc main_arg11) : Vec Ideal S1x1024x1024 .f32) : Vec Ideal S1024x1024 .bf16) := by
  rw [flushed19]
  unfold out0_19
  rw [View.ld_unit_zero hz2 inb_S32x1024_S32x1024_0_0]
  funext y
  refine (canon19_eq _ y).trans ?_
  show V m c main_v12 (((cfg0.win 14).blk t).view.emb (ix19_0 y)) = layer 0 _ (((cfg0.win 19).blk t).view.emb y)
  rw [V_main_v12]
  obtain ⟨e0, e1⟩ := index14 t
  obtain ⟨f0, f1⟩ := index19 t
  refine layer_row _ _ _ 0 _ ?_ ?_
  · show win0_14.index t (0 : Fin 2) * 32 + 1 * (y 0).val = 0 * 1024 + (win0_19.index t (0 : Fin 2) * 32 + 1 * (y 0).val); omega
  · show win0_14.index t (1 : Fin 2) * 1024 + 1 * (y 1).val = win0_19.index t (1 : Fin 2) * 1024 + 1 * (y 1).val; omega
theorem cast19 (c : Dev nD) : (dats m 0 c).arrAt 19 cfg0.N = (layer 0 (m ((c : Thread nD τ).loc main_arg11) : Vec Ideal S1x1024x1024 .f32) : Vec Ideal S1024x1024 .bf16) :=
  (dats m 0 c).arrAt_eq_of_cover 19 _ (fun t _ => cast_eq19 m c t)
    ((show (cfg0.win 19).Covers by decide +kernel).cover _ (Memref.isWhole_whole _))

end Cert.Proof.FirstMlpKernel

end
-- ==== Proof.FirstMlp.lean ====
module

public import proofs.«01_k».proof.Defs
public import proofs.«01_k».proof.Proof.FirstMlpKernel
public import proofs.«01_k».proof.Proof.MlpReference
public import proofs.«01_k».proof.Proof.Gen.Kernel3
public import proofs.«01_k».proof.Proof.Gen.Kernel3.Frame
public import proofs.«01_k».proof.Proof.Gen.Reference3Ideal.Read
public import Idealize.ShloMosaic.Lib.Quiescent

/-! # The first layer's output projection and MLP: the call computes the reference's arrays

The call leaves `FirstMlpKernel.GM`, every token row the function `MlpRow.residual` of its operands, and the next layer's
weights; the reference's run leaves the same. -/

@[expose] public section

noncomputable section

namespace Cert.Proof.FirstMlp

open Idealize.ShloMosaic Idealize.ShloMosaic.ValueIdx Idealize.SL Cert.Proof Cert.Proof.MlpReference Cert.Proof.FirstMlpKernel
open Cert.Reference3Ideal Cert.Reference3Ideal.Read

/-- The reference leaves its arguments and its counters as they were. -/
theorem frame_reference : Cert.quiescent_Reference3Ideal := by
  intro m ρ _
  exact (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

section Stream

variable (x0 x1 : Vec Ideal S8x2048x1024 .f32) (x2 : Vec Ideal S8x6144 .f32) (x3 : Vec Ideal S1024x1024 .f32) (x4 : Vec Ideal S1024 .f32)
  (x5 : Vec Ideal S1024x4096 .f32) (x6 : Vec Ideal S4096x1024 .f32)

/-- Up to the network's residual this reference and the last call's are the same operations. -/
theorem stream_eq : val_main_v39 (F := Ideal) x0 x1 x2 x3 x4 x5 x6 = Cert.Reference2Ideal.Read.val_main_v39 (F := Ideal) x0 x1 x2 x3 x4 x5 x6 := rfl

/-- A row of it. -/
theorem row_apply (b : Fin 8) (s : Fin 2048) (k : Fin 1024) : val_main_v39 (F := Ideal) x0 x1 x2 x3 x4 x5 x6 (ix3 b s k)
    = MlpRow.residual (fun k => x0 (ix3 b s k)) (fun k => x1 (ix3 b s k)) (chunk x2 b 2) (chunk x2 b 3) (chunk x2 b 4) (chunk x2 b 5) (fun k => x4 (ix1 k))
        (fun k f => x3 (ix2 k f)) (fun k f => x5 (ix2 k f)) (fun k f => x6 (ix2 k f)) k := by
  have e13 := funext fun k => mixed_apply x0 x1 x2 x3 b s k
  have e32 := funext fun k => modulated_apply x0 x1 x2 x3 x4 b s k
  rw [stream_eq, fed_apply, e32, e13]
  rfl

/-- The reference's first result is the array the call leaves, of any arguments. -/
theorem result_eq : val_main_v40 (F := Ideal) x0 x1 x2 x3 x4 x5 x6 = G x0 x1 x2 x3 x4 x5 x6 := by
  funext i
  obtain ⟨R, k, hi⟩ : ∃ R k, i = ix2 R k := ⟨_, _, eq_ix2 i⟩
  subst hi
  have hR : R.val < 16384 := R.isLt
  have hk : k.val < 1024 := k.isLt
  rw [val_main_v40_apply, show idx_main_v40 (ix2 R k) = ix3 ⟨R.val / 2048, by omega⟩ ⟨R.val % 2048, by omega⟩ k from
    ext3 (by show (R.val * 1024 + k.val) / 2097152 = R.val / 2048; omega)
      (by show (R.val * 1024 + k.val) / 1024 % 2048 = R.val % 2048; omega)
      (by show (R.val * 1024 + k.val) % 1024 = k.val; omega), row_apply]
  rfl

end Stream

/-- A result that is a cast weight is a layer of its stack, at the four weights. -/
theorem layer43 (x8 : Vec Ideal S2x1024x4096 .f32) : val_main_v43 (F := Ideal) x8 = layer 1 x8 := funext fun i => by
  have h0 : (i 0).val < 1024 := (i 0).isLt
  have h1 : (i 1).val < 4096 := (i 1).isLt
  rw [val_main_v43_apply, val_main_v42_apply, val_main_v41_apply]
  refine congrArg x8 (ext3 rfl ?_ ?_)
  · show ((i 0).val * 4096 + (i 1).val) / 4096 % 1024 = (i 0).val; omega
  · show ((i 0).val * 4096 + (i 1).val) % 4096 = (i 1).val; omega
theorem layer46 (x9 : Vec Ideal S2x4096x1024 .f32) : val_main_v46 (F := Ideal) x9 = layer 1 x9 := funext fun i => by
  have h0 : (i 0).val < 4096 := (i 0).isLt
  have h1 : (i 1).val < 1024 := (i 1).isLt
  rw [val_main_v46_apply, val_main_v45_apply, val_main_v44_apply]
  refine congrArg x9 (ext3 rfl ?_ ?_)
  · show ((i 0).val * 1024 + (i 1).val) / 1024 % 4096 = (i 0).val; omega
  · show ((i 0).val * 1024 + (i 1).val) % 1024 = (i 1).val; omega
theorem layer48 (x10 : Vec Ideal S1x1024x3072 .f32) : val_main_v48 (F := Ideal) x10 = layer 0 x10 := funext fun i => by
  have h0 : (i 0).val < 1024 := (i 0).isLt
  have h1 : (i 1).val < 3072 := (i 1).isLt
  rw [val_main_v48_apply, val_main_v47_apply]
  refine congrArg x10 (ext3 rfl ?_ ?_)
  · show ((i 0).val * 3072 + (i 1).val) / 3072 % 1024 = (i 0).val; omega
  · show ((i 0).val * 3072 + (i 1).val) % 3072 = (i 1).val; omega
theorem layer50 (x11 : Vec Ideal S1x1024x1024 .f32) : val_main_v50 (F := Ideal) x11 = layer 0 x11 := funext fun i => by
  have h0 : (i 0).val < 1024 := (i 0).isLt
  have h1 : (i 1).val < 1024 := (i 1).isLt
  rw [val_main_v50_apply, val_main_v49_apply]
  refine congrArg x11 (ext3 rfl ?_ ?_)
  · show ((i 0).val * 1024 + (i 1).val) / 1024 % 1024 = (i 0).val; omega
  · show ((i 0).val * 1024 + (i 1).val) % 1024 = (i 1).val; omega

/-- The call and its reference end with the same five arrays. -/
theorem algebraic : Cert.algebraic_Kernel3Ideal_Reference3Ideal := by
  intro m ρ m' ρ' _ hargs
  refine ⟨fun c => GM m c,
    fun c => layer 1 (m ((c.tc : Thread Cert.Kernel3Ideal.nD Cert.Kernel3Ideal.τ).loc Cert.Kernel3Ideal.main_arg8) : Vec Ideal S2x1024x4096 .f32),
    fun c => layer 1 (m ((c.tc : Thread Cert.Kernel3Ideal.nD Cert.Kernel3Ideal.τ).loc Cert.Kernel3Ideal.main_arg9) : Vec Ideal S2x4096x1024 .f32),
    fun c => layer 0 (m ((c.tc : Thread Cert.Kernel3Ideal.nD Cert.Kernel3Ideal.τ).loc Cert.Kernel3Ideal.main_arg10) : Vec Ideal S1x1024x3072 .f32),
    fun c => layer 0 (m ((c.tc : Thread Cert.Kernel3Ideal.nD Cert.Kernel3Ideal.τ).loc Cert.Kernel3Ideal.main_arg11) : Vec Ideal S1x1024x1024 .f32), ?_, ?_⟩
  · refine (θ_run Cert.Kernel3Ideal.defs _ _).mono (fun r h c => ?_) (Cert.Kernel3Ideal.Value.run_blocks (F := Ideal) m ρ)
    obtain ⟨r0, r1, r2, r3, r4, kept⟩ := h c
    exact ⟨r0.trans (final m c), r1.trans (cast16 m c), r2.trans (cast17 m c), r3.trans (cast18 m c), r4.trans (cast19 m c), kept⟩
  · refine (θ_run Cert.Reference3Ideal.defs _ _).mono (fun r h c => ?_) (Cert.Reference3Ideal.Value.run (F := Ideal) m' ρ')
    obtain ⟨r0, r1, r2, r3, r4, kept⟩ := h c
    obtain ⟨h0, h1, h2, h3, h4, h5, h6, h7, h8, h9, h10, h11⟩ := hargs c
    refine ⟨r0.trans ?_, r1.trans ?_, r2.trans ?_, r3.trans ?_, r4.trans ?_, kept⟩
    · rw [val_main_v40_eq, h0, h1, h2, h3, h4, h5, h6]
      exact result_eq ..
    · rw [h8]
      exact layer43 _
    · rw [h9]
      exact layer46 _
    · rw [h10]
      exact layer48 _
    · rw [h11]
      exact layer50 _

end Cert.Proof.FirstMlp

end
-- ==== Proof.ValuesPayload.lean ====
/- What the projection call stores into its values' result, read off the printed operations: the modulated rows of a block,
   their product with the turned weights, and the pieces the result's block is stored in. The value rows of a head come in
   strips of 144: 128 rows of values and 16 rows of ones. -/
module

public import proofs.«01_k».proof.Proof.Gen.Kernel4Ideal.Skeleton
public import proofs.«01_k».proof.Proof.MlpPayload
public import Idealize.ShloMosaic.Lib.IdealHost
public import Idealize.ShloMosaic.Lib.Pipeline.ValueKit.Tiles
public import Idealize.ShloMosaic.Lib.Pipeline.ValueKit.Geometry

@[expose] public section

noncomputable section

namespace Cert.Proof.ValuesPayload

open Cert.Kernel4Ideal Cert.Kernel4Ideal.Gen Idealize.ShloMosaic Idealize.ShloMosaic.ValueIdx Cert.Proof.Reads Cert.Proof.MlpRow
open Cert.Proof.MlpPayload (rowAt only norms norms_apply)

/-- A product of an [1024,1024] by the transpose of a [512,1024] matrix into zeros. -/
theorem turned_matmul (lhs : FVec Ideal S1024x1024 .bf16) (rhs : FVec Ideal S512x1024 .bf16) (p : Fin 1024) (q : Fin 512) :
    FloatOps.matmul dot_S1024x1024_S512x1024_S1024x512_1_1_0_0_n_n none lhs rhs (constant S1024x512 .f32 0x00000000#32) (ix2 p q)
      = ∑ j : Fin 1024, lhs (ix2 p j) * rhs (ix2 q j) := by
  let D := dot_S1024x1024_S512x1024_S1024x512_1_1_0_0_n_n
  rw [Ideal.matmul_constant_zero_apply, ← Equiv.sum_comp (contrEquiv1 D 1024 rfl rfl).symm]
  refine Finset.sum_congr rfl fun j _ => ?_
  have hj := contrEquiv1_symm_val D 1024 rfl rfl j
  have el : D.lhsIdx (ix2 p q) ((contrEquiv1 D 1024 rfl rfl).symm j) = ix2 p j :=
    funext fun a => Fin.ext (by
      match a with
      | ⟨0, _⟩ => rfl
      | ⟨1, _⟩ => exact (D.lhsIdx_val_of_single rfl _ _).trans hj)
  have er : D.rhsIdx (ix2 p q) ((contrEquiv1 D 1024 rfl rfl).symm j) = ix2 q j :=
    funext fun a => Fin.ext (by
      match a with
      | ⟨0, _⟩ => rfl
      | ⟨1, _⟩ => exact (D.rhsIdx_val_of_single rfl _ _).trans hj)
  rw [el, er]

/-- The projection's input: the modulated row. -/
theorem pay4_apply (x : Vec Ideal S512x1024 .f32) (g : Vec Ideal S1x1024 .f32) (sc sh : Vec Ideal S1x1x1024 .f32) (p : Fin 512) (q : Fin 1024) :
    k0_pay4 (F := Ideal) x g sc sh (ix2 p q) = modulated (rowAt x p) (rowAt g 0) (only sc) (only sh) q := by
  have ex : shapeCast S512x1024 x shapeCasts_S512x1024_S512x1024 = x := funext (cast_self x _)
  show (shapeCast S512x1024 x shapeCasts_S512x1024_S512x1024 (ix2 p q) : EReal) * norms (shapeCast S512x1024 x shapeCasts_S512x1024_S512x1024) (ix2 p q)
        * broadcastTo S512x1024 (shapeCast S1x1024 g shapeCasts_S1x1024_S1x1024) broadcasts_S1x1024_S512x1024 (ix2 p q)
        * broadcastTo S512x1024 (addf (F := Ideal) (φ := .f32) (broadcast S1x1024 (one : Ideal .f32)) (shapeCast S1x1024 sc shapeCasts_S1x1x1024_S1x1024)) broadcasts_S1x1024_S512x1024 (ix2 p q)
        + broadcastTo S512x1024 (shapeCast S1x1024 sh shapeCasts_S1x1x1024_S1x1024) broadcasts_S1x1024_S512x1024 (ix2 p q) = _
  rw [ex, norms_apply, bcast_row (by decide), bcast_row (by decide), bcast_row (by decide), cast_self, cast_11n]
  show _ * (one + shapeCast S1x1024 sc shapeCasts_S1x1x1024_S1x1024 (ix2 0 q)) + _ = _
  rw [cast_11n]
  rfl

/-- The values of 512 tokens, the value features down and the tokens across. -/
theorem pay37_apply (x : Vec Ideal S512x1024 .f32) (g : Vec Ideal S1x1024 .f32) (sc sh : Vec Ideal S1x1x1024 .f32) (w : Vec Ideal S1024x1024 .bf16)
    (f : Fin 1024) (q : Fin 512) :
    k0_pay37 (F := Ideal) (k0_pay4 (F := Ideal) x g sc sh) w (ix2 f q)
      = ∑ k : Fin 1024, rowAt w f k * modulated (rowAt x q) (rowAt g 0) (only sc) (only sh) k :=
  (turned_matmul w _ f q).trans (Finset.sum_congr rfl fun k _ => congrArg (rowAt w f k * ·) (pay4_apply x g sc sh q k))

/-- Row `R` of a token's column of the result: the token's values, head by head, and ones after every head. -/
def headed (v : Fin 1024 → EReal) (R : Fin 1152) : EReal :=
  if R.val % 144 < 128 then v ⟨(R.val / 144 * 128 + R.val % 144) % 1024, Nat.mod_lt _ (by decide)⟩ else one

/-- The result's block of 1024 tokens, four blocks of 256 columns. -/
def columns (T : Fin 1024 → Fin 1024 → EReal) : Vec Ideal S4x1152x256 .bf16 := fun y =>
  headed (T ⟨((y 0).val * 256 + (y 2).val) % 1024, Nat.mod_lt _ (by decide)⟩) (y 1)

/-- A stored piece of values: 128 rows of one head, 256 of the tokens `base …`. -/
theorem rows_piece {T : Fin 1024 → Fin 1024 → EReal} {V : FVec Ideal S1024x512 .bf16} {base d R o col : ℕ}
    (hd : d * 256 = base + col) (hR : R % 144 = 0) (ho : o = R / 144 * 128) (hc : col + 256 ≤ 512) (hr : R + 144 ≤ 1152) (hb : base + 512 ≤ 1024)
    (inb : ∀ a, ![d, R, 0] a + S1x128x256.size a ≤ S4x1152x256.size a) (sl : S1024x512.Slices ![o, col] S128x256)
    (hV : ∀ (f : Fin 1024) (q : Fin 512), V (ix2 f q) = T ⟨base + q.val, by omega⟩ f) (y : S1x128x256.Idx) :
    shapeCast S1x128x256 (extractStridedSlice S128x256 ![o, col] V sl) shapeCasts_S128x256_S1x128x256 y
      = columns T ((Rect.unit (s := S4x1152x256) ![d, R, 0] S1x128x256.size inb).emb y) := by
  obtain ⟨z, p, q, rfl⟩ : ∃ (z : Fin 1) (p : Fin 128) (q : Fin 256), y = ix3 z p q := ⟨y 0, y 1, y 2, eq_ix3 _⟩
  have hp := p.isLt
  have hq := q.isLt
  have hz : z.val = 0 := by omega
  refine (shapeCast_apply _ _ _ (ix2 p q) (by
    rw [Shape.rowMajor_val_two, Shape.rowMajor_val_three]
    show p.val * 256 + q.val = (z.val * 128 + p.val) * 256 + q.val
    rw [hz, Nat.zero_mul, Nat.zero_add])).trans ?_
  refine (extractStridedSlice_apply _ _ _ _ (ix2 ⟨o + p.val, by omega⟩ ⟨col + q.val, by omega⟩) (fun a => ?_)).trans ?_
  · match a with
    | ⟨0, _⟩ => rfl
    | ⟨1, _⟩ => rfl
  rw [hV]
  have e0 : (((Rect.unit (s := S4x1152x256) ![d, R, 0] S1x128x256.size inb).emb (ix3 z p q)) 0).val = d + z.val := Rect.idx_unit_val _ _ _ _ _
  have e1 : (((Rect.unit (s := S4x1152x256) ![d, R, 0] S1x128x256.size inb).emb (ix3 z p q)) 1).val = R + p.val := Rect.idx_unit_val _ _ _ _ _
  have e2 : (((Rect.unit (s := S4x1152x256) ![d, R, 0] S1x128x256.size inb).emb (ix3 z p q)) 2).val = 0 + q.val := Rect.idx_unit_val _ _ _ _ _
  unfold columns headed
  rw [if_pos (by rw [e1]; omega)]
  refine congrArg₂ T (Fin.ext ?_) (Fin.ext ?_)
  · show base + (col + q.val) = (_ * 256 + _) % 1024
    rw [e0, e2]; omega
  · show o + p.val = (_ / 144 * 128 + _ % 144) % 1024
    rw [e1]; omega

/-- A stored piece of ones. -/
theorem ones_piece {T : Fin 1024 → Fin 1024 → EReal} {d R : ℕ} (hR : R % 144 = 128)
    (inb : ∀ a, ![d, R, 0] a + S1x16x256.size a ≤ S4x1152x256.size a) (y : S1x16x256.Idx) :
    shapeCast S1x16x256 (k0_pay38 (F := Ideal)) shapeCasts_S16x256_S1x16x256 y
      = columns T ((Rect.unit (s := S4x1152x256) ![d, R, 0] S1x16x256.size inb).emb y) := by
  have hp : (y 1).val < 16 := (y 1).isLt
  have e1 : (((Rect.unit (s := S4x1152x256) ![d, R, 0] S1x16x256.size inb).emb y) 1).val = R + (y 1).val := Rect.idx_unit_val _ _ _ _ _
  unfold columns headed
  rw [if_neg (by rw [e1]; omega)]
  show Ideal.ofBits .bf16 0x3F80#16 = Ideal.ofBits .f32 0x3F800000#32
  rw [Ideal.ofBits_one_bf16, Ideal.ofBits_one_f32]

end Cert.Proof.ValuesPayload

end
-- ==== Proof.ValuesKernel.lean ====
/- The values' result of the projection call as one function of its arguments. Each grid point leaves four blocks of 256
   tokens, in 64 stores: 128 rows of one head's values or 16 rows of ones at a time. The weights are turned once, at the first
   point, and carried; the sixteen points' blocks tile the array. -/
module

public import proofs.«01_k».proof.Proof.Gen.Kernel4Ideal.Value
public import proofs.«01_k».proof.Proof.ValuesPayload
public import proofs.«01_k».proof.Proof.MlpKernel

@[expose] public section

set_option maxRecDepth 16384

noncomputable section

namespace Cert.Proof.ValuesKernel

open Cert.Kernel4Ideal Cert.Kernel4Ideal.Gen Cert.Kernel4Ideal.Value Idealize.ShloMosaic Idealize.ShloMosaic.TcCoe Idealize.SL.Sem
open Idealize.ShloMosaic.ValueIdx Cert.Proof.MlpRow Cert.Proof.ValuesPayload
open Cert.Proof.MlpPayload (rowAt only)
open Cert.Proof.MlpKernel (stream modulation stream_row modulation_row vector_row)

/-- A token's values: the modulated row against the turned weights `w`. -/
def values (x0 : Vec Ideal S1024x1024 .f32) (x1 x2 : Vec Ideal S1x1x1024 .f32) (x3 : Vec Ideal S1x1024 .f32) (w : Vec Ideal S1024x1024 .bf16)
    (n f : Fin 1024) : EReal :=
  ∑ k : Fin 1024, rowAt w f k * modulated (rowAt x0 n) (rowAt x3 0) (only x2) (only x1) k

theorem hz2 : (![0, 0] : Fin 2 → Nat) = fun _ => 0 := funext fun a => by fin_cases a <;> rfl
theorem hz3 : (![0, 0, 0] : Fin 3 → Nat) = fun _ => 0 := funext fun a => by fin_cases a <;> rfl

/-- The values formed from the 512 tokens `base …` of a block. -/
theorem group_apply (x0 : Vec Ideal S1024x1024 .f32) (x1 x2 : Vec Ideal S1x1x1024 .f32) (x3 : Vec Ideal S1x1024 .f32) (w : Vec Ideal S1024x1024 .bf16)
    {base : ℕ} (hb : base + 512 ≤ 1024) (inb : ∀ a, ![base, 0] a + S512x1024.size a ≤ S1024x1024.size a) (f : Fin 1024) (q : Fin 512) :
    k0_pay37 (F := Ideal) (k0_pay4 (F := Ideal) (View.ld x0 (Rect.unit (s := S1024x1024) ![base, 0] S512x1024.size inb)) x3 x2 x1) w (ix2 f q)
      = values x0 x1 x2 x3 w ⟨base + q.val, by omega⟩ f := by
  rw [pay37_apply]
  unfold values
  have e : rowAt (View.ld x0 (Rect.unit (s := S1024x1024) ![base, 0] S512x1024.size inb) : Vec Ideal S512x1024 .f32) q
      = rowAt x0 ⟨base + q.val, by omega⟩ := funext fun k =>
    View.ld_unit_apply_of x0 _ _ _ _ _ fun a => match a with
      | ⟨0, _⟩ => rfl
      | ⟨1, _⟩ => (Nat.zero_add k.val).symm
  rw [e]

section Body

variable (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S16x1024 .f32) (harg8 : arg8.IsWhole) (arg9 : Memref sig .tc .vmem S48x256 .bf16) (harg9 : arg9.IsWhole) (arg10 : Memref sig .tc .vmem S8x1024x128 .bf16) (harg10 : arg10.IsWhole) (arg11 : Memref sig .tc .vmem S8x1024x128 .bf16) (harg11 : arg11.IsWhole) (arg12 : Memref sig .tc .vmem S4x1152x256 .bf16) (harg12 : arg12.IsWhole) (arg13 : Memref sig .tc .vmem S1024x1024 .bf16) (harg13 : arg13.IsWhole)
    (x0 : Vec Ideal S1024x1024 .f32) (x1 : Vec Ideal S1x1x1024 .f32) (x2 : Vec Ideal S1x1x1024 .f32) (x3 : Vec Ideal S1x1024 .f32) (x4 : Vec Ideal S1024x1024 .bf16) (x5 : Vec Ideal S1024x1024 .bf16) (x6 : Vec Ideal S1024x1024 .bf16) (x7 : Vec Ideal S16x1024 .f32) (x8 : Vec Ideal S48x256 .bf16)

/-- The block a later point leaves, over the carried weights `xs0`. -/
theorem later_eq (hc0 : ¬cond0_0 i) (xs0 : Vec Ideal S1024x1024 .bf16) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0
      = columns (values x0 x1 x2 x3 xs0) := by
  unfold out0_B_11
  rw [View.read_writes_junk_eq_canon]
  funext y
  refine View.canon_apply_of_pieces (columns (values x0 x1 x2 x3 xs0)) _ ?_ y (cover0_B_11 ..)
  unfold kernelRun0_B
  dsimp only
  have hne : ∀ f q, k0_pay37 (F := Ideal) (kernelRun0_B.sl.r c arg1 harg1 arg2 harg2 arg3 harg3 arg4 harg4 x0 x1 x2 x3)
      (View.readAt (Elt Ideal) arg13.view (Rect.unit (s := S1024x1024) ![0, 0] S1024x1024.size inb_S1024x1024_S1024x1024_0_0).toLoadRect
        (harg13.unread xs0)) (ix2 f q) = values x0 x1 x2 x3 xs0 ⟨0 + q.val, by omega⟩ f := by
    intro f q
    unfold kernelRun0_B.sl.r
    simp only [View.readAt_eq_ld, Memref.IsWhole.read_unread]
    rw [View.ld_unit_zero hz2 inb_S1024x1024_S1024x1024_0_0 xs0, View.ld_unit_zero hz3 inb_S1x1x1024_S1x1x1024_0_0_0 x1,
      View.ld_unit_zero hz3 inb_S1x1x1024_S1x1x1024_0_0_0 x2, View.ld_unit_zero hz2 inb_S1x1024_S1x1024_0_0 x3]
    exact group_apply x0 x1 x2 x3 xs0 (by decide) _ f q
  have hlo : ∀ f q, kernelRun0_B.sl.r_17 (F := Ideal) c arg1 harg1 arg2 harg2 arg3 harg3 arg4 harg4 arg13 harg13 x0 x1 x2 x3 xs0 (ix2 f q)
      = values x0 x1 x2 x3 xs0 ⟨0 + q.val, by omega⟩ f := hne
  have hhi : ∀ f q, kernelRun0_B.sl.r_36 (F := Ideal) c arg1 harg1 arg2 harg2 arg3 harg3 arg4 harg4 arg13 harg13 x0 x1 x2 x3 xs0 (ix2 f q)
      = values x0 x1 x2 x3 xs0 ⟨512 + q.val, by omega⟩ f := by
    intro f q
    show k0_pay37 (F := Ideal) (k0_pay4 (F := Ideal)
        (View.readAt (Elt Ideal) arg1.view (Rect.unit (s := S1024x1024) ![512, 0] S512x1024.size inb_S1024x1024_S512x1024_512_0).toLoadRect (harg1.unread x0))
        (View.readAt (Elt Ideal) arg4.view (Rect.unit (s := S1x1024) ![0, 0] S1x1024.size inb_S1x1024_S1x1024_0_0).toLoadRect (harg4.unread x3))
        (View.readAt (Elt Ideal) arg3.view (Rect.unit (s := S1x1x1024) ![0, 0, 0] S1x1x1024.size inb_S1x1x1024_S1x1x1024_0_0_0).toLoadRect (harg3.unread x2))
        (View.readAt (Elt Ideal) arg2.view (Rect.unit (s := S1x1x1024) ![0, 0, 0] S1x1x1024.size inb_S1x1x1024_S1x1x1024_0_0_0).toLoadRect (harg2.unread x1)))
      (View.readAt (Elt Ideal) arg13.view (Rect.unit (s := S1024x1024) ![0, 0] S1024x1024.size inb_S1024x1024_S1024x1024_0_0).toLoadRect
        (harg13.unread xs0)) (ix2 f q) = _
    simp only [View.readAt_eq_ld, Memref.IsWhole.read_unread]
    rw [View.ld_unit_zero hz2 inb_S1024x1024_S1024x1024_0_0 xs0, View.ld_unit_zero hz3 inb_S1x1x1024_S1x1x1024_0_0_0 x1,
      View.ld_unit_zero hz3 inb_S1x1x1024_S1x1x1024_0_0_0 x2, View.ld_unit_zero hz2 inb_S1x1024_S1x1024_0_0 x3]
    exact group_apply x0 x1 x2 x3 xs0 (by decide) _ f q
  iterate 64
    refine List.forall_mem_cons.2 ⟨fun y => ?_, ?_⟩
    · dsimp only
      first
        | (refine rows_piece (base := 512) ?_ ?_ ?_ ?_ ?_ ?_ ?_ ?_ ?_ y
           · decide
           on_goal -1 => exact hhi
           all_goals decide)
        | (refine rows_piece (base := 0) ?_ ?_ ?_ ?_ ?_ ?_ ?_ ?_ ?_ y
           · decide
           on_goal -1 => first | exact hlo | exact hne
           all_goals decide)
        | (refine ones_piece ?_ ?_ y <;> decide)
  exact fun _ h => absurd h List.not_mem_nil

/-- The weights the first point turns, as it reads them back, and as it leaves them. -/
theorem turned_read : kernelRun0_A.sl.v303 (F := Ideal) c arg7 harg7 arg13 x6 = k0_pay1 (F := Ideal) x6 := by
  unfold kernelRun0_A.sl.v303 kernelRun0_A.sl.HS0_1
  rw [View.readCov_unit_zero _ hz2]
  simp only [View.readAt_eq_ld, Memref.IsWhole.read_unread]
  rw [View.ld_unit_zero hz2 inb_S1024x1024_S1024x1024_0_0 x6]

theorem turned_left (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (F := Ideal) x6 := by
  unfold sout0_A_0
  rw [View.read_writes_junk_eq_canon]
  unfold kernelRun0_A
  dsimp only
  unfold kernelRun0_A.sl.HS0_1
  rw [View.canon_unit_zero hz2]
  simp only [View.readAt_eq_ld, Memref.IsWhole.read_unread]
  rw [View.ld_unit_zero hz2 inb_S1024x1024_S1024x1024_0_0 x6]

/-- The block the first point leaves. -/
theorem first_eq (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = columns (values x0 x1 x2 x3 (k0_pay1 (F := Ideal) x6)) := by
  unfold out0_A_11
  rw [View.read_writes_junk_eq_canon]
  funext y
  refine View.canon_apply_of_pieces (columns (values x0 x1 x2 x3 (k0_pay1 (F := Ideal) x6))) _ ?_ y (cover0_A_11 ..)
  unfold kernelRun0_A
  dsimp only
  have hne : ∀ f q, k0_pay37 (F := Ideal) (kernelRun0_A.sl.r c arg1 harg1 arg2 harg2 arg3 harg3 arg4 harg4 x0 x1 x2 x3)
      (kernelRun0_A.sl.v303 c arg7 harg7 arg13 x6) (ix2 f q) = values x0 x1 x2 x3 (k0_pay1 (F := Ideal) x6) ⟨0 + q.val, by omega⟩ f := by
    intro f q
    rw [turned_read]
    unfold kernelRun0_A.sl.r
    simp only [View.readAt_eq_ld, Memref.IsWhole.read_unread]
    rw [View.ld_unit_zero hz3 inb_S1x1x1024_S1x1x1024_0_0_0 x1,
      View.ld_unit_zero hz3 inb_S1x1x1024_S1x1x1024_0_0_0 x2, View.ld_unit_zero hz2 inb_S1x1024_S1x1024_0_0 x3]
    exact group_apply x0 x1 x2 x3 _ (by decide) _ f q
  have hlo : ∀ f q, kernelRun0_A.sl.r_17 (F := Ideal) c arg1 harg1 arg2 harg2 arg3 harg3 arg4 harg4 arg7 harg7 arg13 x0 x1 x2 x3 x6 (ix2 f q)
      = values x0 x1 x2 x3 (k0_pay1 (F := Ideal) x6) ⟨0 + q.val, by omega⟩ f := hne
  have hhi : ∀ f q, kernelRun0_A.sl.r_36 (F := Ideal) c arg1 harg1 arg2 harg2 arg3 harg3 arg4 harg4 arg7 harg7 arg13 x0 x1 x2 x3 x6 (ix2 f q)
      = values x0 x1 x2 x3 (k0_pay1 (F := Ideal) x6) ⟨512 + q.val, by omega⟩ f := by
    intro f q
    show k0_pay37 (F := Ideal) (k0_pay4 (F := Ideal)
        (View.readAt (Elt Ideal) arg1.view (Rect.unit (s := S1024x1024) ![512, 0] S512x1024.size inb_S1024x1024_S512x1024_512_0).toLoadRect (harg1.unread x0))
        (View.readAt (Elt Ideal) arg4.view (Rect.unit (s := S1x1024) ![0, 0] S1x1024.size inb_S1x1024_S1x1024_0_0).toLoadRect (harg4.unread x3))
        (View.readAt (Elt Ideal) arg3.view (Rect.unit (s := S1x1x1024) ![0, 0, 0] S1x1x1024.size inb_S1x1x1024_S1x1x1024_0_0_0).toLoadRect (harg3.unread x2))
        (View.readAt (Elt Ideal) arg2.view (Rect.unit (s := S1x1x1024) ![0, 0, 0] S1x1x1024.size inb_S1x1x1024_S1x1x1024_0_0_0).toLoadRect (harg2.unread x1)))
      (kernelRun0_A.sl.v303 c arg7 harg7 arg13 x6) (ix2 f q) = _
    rw [turned_read]
    simp only [View.readAt_eq_ld, Memref.IsWhole.read_unread]
    rw [View.ld_unit_zero hz3 inb_S1x1x1024_S1x1x1024_0_0_0 x1,
      View.ld_unit_zero hz3 inb_S1x1x1024_S1x1x1024_0_0_0 x2, View.ld_unit_zero hz2 inb_S1x1024_S1x1024_0_0 x3]
    exact group_apply x0 x1 x2 x3 _ (by decide) _ f q
  iterate 64
    refine List.forall_mem_cons.2 ⟨fun y => ?_, ?_⟩
    · dsimp only
      first
        | (refine rows_piece (base := 512) ?_ ?_ ?_ ?_ ?_ ?_ ?_ ?_ ?_ y
           · decide
           on_goal -1 => exact hhi
           all_goals decide)
        | (refine rows_piece (base := 0) ?_ ?_ ?_ ?_ ?_ ?_ ?_ ?_ ?_ y
           · decide
           on_goal -1 => first | exact hlo | exact hne
           all_goals decide)
        | (refine ones_piece ?_ ?_ y <;> decide)
  exact fun _ h => absurd h List.not_mem_nil

end Body

/-- The turned weights at an index. -/
theorem turned_apply (w : Vec Ideal S1024x1024 .bf16) (f k : Fin 1024) : k0_pay1 (F := Ideal) w (ix2 f k) = w (ix2 k f) := by
  show shapeCast S1024x1024 (transpose S1024x1024 [1, 0] (shapeCast S1024x1024 w shapeCasts_S1024x1024_S1024x1024) transposes_S1024x1024_p1_0_S1024x1024)
    shapeCasts_S1024x1024_S1024x1024 (ix2 f k) = _
  rw [Reads.cast_self]
  refine (transpose_apply _ _ _ _ (ix2 k f) (fun b => ?_)).trans (Reads.cast_self w _ _)
  match b with
  | ⟨0, _⟩ => rfl
  | ⟨1, _⟩ => rfl

variable (m : (ℓ : Loc nD τ sig) → Buf (Elt Ideal) ℓ) (ρ : Dev nD → PrngReg)

/-! ## What the call finds in its arrays -/

theorem V_main_v0 (c : Dev nD) : V m c main_v0
    = shapeCast S16384x1024 (m ((c : Thread nD τ).loc main_arg0) : Vec Ideal S8x2048x1024 .f32) shapeCasts_S8x2048x1024_S16384x1024 := by
  show StableHlo.after hostOps0 _ (Proc.devRef .tc main_v0) = _
  after_results
  rfl
theorem V_main_v1 (c : Dev nD) : V m c main_v1
    = shapeCast S48x1x1024 (m ((c : Thread nD τ).loc main_arg1) : Vec Ideal S8x6144 .f32) shapeCasts_S8x6144_S48x1x1024 := by
  show StableHlo.after hostOps0 _ (Proc.devRef .tc main_v1) = _
  after_results
  rfl
theorem V_main_v2 (c : Dev nD) : V m c main_v2
    = shapeCast S1x1024 (m ((c : Thread nD τ).loc main_arg2) : Vec Ideal S1024 .f32) shapeCasts_S1024_S1x1024 := by
  show StableHlo.after hostOps0 _ (Proc.devRef .tc main_v2) = _
  after_results
  rfl
theorem V_main_v3 (c : Dev nD) : V m c main_v3 = (m ((c : Thread nD τ).loc main_arg3) : Vec Ideal S1024x3072 .f32) := by
  show StableHlo.after hostOps0 _ (Proc.devRef .tc main_v3) = _
  after_results
  rfl

/-! ## The index maps: point `t` stages block row `t` of the stream and the modulation rows of batch `t / 2` -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 3) = t.val / 2 * 6 + 0 ∧ win0_1.index t (1 : Fin 3) = 0 ∧ win0_1.index t (2 : Fin 3) = 0 := (by decide +kernel : ∀ t : Fin grid0.N, _)
theorem index2 : ∀ t : Fin cfg0.N, win0_2.index t (0 : Fin 3) = t.val / 2 * 6 + 1 ∧ win0_2.index t (1 : Fin 3) = 0 ∧ win0_2.index t (2 : Fin 3) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index6 : ∀ t : Fin cfg0.N, win0_6.index t (0 : Fin 2) = 0 ∧ win0_6.index t (1 : Fin 2) = 2 := (by decide +kernel : ∀ t : Fin grid0.N, _)
theorem index11 : ∀ t : Fin cfg0.N, win0_11.index t (0 : Fin 3) = t.val ∧ win0_11.index t (1 : Fin 3) = 0 ∧ win0_11.index t (2 : Fin 3) = 0 := (by decide +kernel : ∀ t : Fin grid0.N, _)

/-! ## The blocks of a point -/

/-- The weights of value feature `f`. -/
def weight (a : Vec Ideal S1024x3072 .f32) (k f : Fin 1024) : EReal := a (ix2 k ⟨2048 + f.val, by omega⟩)

/-- The result array: in each block of 256 tokens, each token's values down its column. -/
def G (a0 : Vec Ideal S8x2048x1024 .f32) (a1 : Vec Ideal S8x6144 .f32) (a2 : Vec Ideal S1024 .f32) (a3 : Vec Ideal S1024x3072 .f32) :
    Vec Ideal S64x1152x256 .bf16 := fun i =>
  have h0 : (i 0).val < 64 := (i 0).isLt
  have h2 : (i 2).val < 256 := (i 2).isLt
  headed (fun f => ∑ k : Fin 1024, weight a3 k f * modulated (stream a0 ⟨(i 0).val * 256 + (i 2).val, by omega⟩) (fun k => a2 (ix1 k))
    (modulation a1 ⟨(i 0).val * 256 + (i 2).val, by omega⟩ 1) (modulation a1 ⟨(i 0).val * 256 + (i 2).val, by omega⟩ 0) k) (i 1)

section Blocks

variable (c : Dev nD) (t : Fin cfg0.N)

theorem t_lt : t.val < 16 := t.isLt

theorem blk0 (p : Fin 1024) (R : Fin 16384) (hR : R.val = t.val * 1024 + p.val) :
    rowAt (iblk m c 0 t : Vec Ideal S1024x1024 .f32) p = stream (m ((c : Thread nD τ).loc main_arg0)) R := funext fun k => by
  show V m c main_v0 (((cfg0.win 0).blk t).view.emb (ix2 p k)) = _
  rw [V_main_v0]
  obtain ⟨e0, e1⟩ := index0 t
  refine stream_row _ R k _ ?_ ?_
  · show win0_0.index t (0 : Fin 2) * 1024 + 1 * p.val = R.val; omega
  · show win0_0.index t (1 : Fin 2) * 1024 + 1 * k.val = k.val; omega

theorem blk1 (R : Fin 16384) (hR : R.val / 2048 = t.val / 2) :
    only (iblk m c 1 t : Vec Ideal S1x1x1024 .f32) = modulation (m ((c : Thread nD τ).loc main_arg1)) R 0 := funext fun k => by
  show V m c main_v1 (((cfg0.win 1).blk t).view.emb (ix3 0 0 k)) = _
  rw [V_main_v1]
  obtain ⟨e0, e1, e2⟩ := index1 t
  refine modulation_row _ R 0 k _ ?_ ?_ ?_
  · show win0_1.index t (0 : Fin 3) * 1 + 1 * 0 = R.val / 2048 * 6 + 0; omega
  · show win0_1.index t (1 : Fin 3) * 1 + 1 * 0 = 0; omega
  · show win0_1.index t (2 : Fin 3) * 1024 + 1 * k.val = k.val; omega

theorem blk2 (R : Fin 16384) (hR : R.val / 2048 = t.val / 2) :
    only (iblk m c 2 t : Vec Ideal S1x1x1024 .f32) = modulation (m ((c : Thread nD τ).loc main_arg1)) R 1 := funext fun k => by
  show V m c main_v1 (((cfg0.win 2).blk t).view.emb (ix3 0 0 k)) = _
  rw [V_main_v1]
  obtain ⟨e0, e1, e2⟩ := index2 t
  refine modulation_row _ R 1 k _ ?_ ?_ ?_
  · show win0_2.index t (0 : Fin 3) * 1 + 1 * 0 = R.val / 2048 * 6 + 1; omega
  · show win0_2.index t (1 : Fin 3) * 1 + 1 * 0 = 0; omega
  · show win0_2.index t (2 : Fin 3) * 1024 + 1 * k.val = k.val; omega

theorem blk3 : rowAt (iblk m c 3 t : Vec Ideal S1x1024 .f32) 0
    = fun k => (m ((c : Thread nD τ).loc main_arg2) : Vec Ideal S1024 .f32) (ix1 k) := funext fun k => by
  show V m c main_v2 (((cfg0.win 3).blk t).view.emb (ix2 0 k)) = _
  rw [V_main_v2]
  obtain ⟨e0, e1⟩ := index3 t
  refine vector_row _ k _ ?_
  show win0_3.index t (1 : Fin 2) * 1024 + 1 * k.val = k.val; omega

theorem blk6 (k f : Fin 1024) : (iblk m c 6 t : Vec Ideal S1024x1024 .bf16) (ix2 k f) = weight (m ((c : Thread nD τ).loc main_arg3)) k f := by
  show V m c main_v3 (((cfg0.win 6).blk t).view.emb (ix2 k f)) = _
  rw [V_main_v3]
  obtain ⟨e0, e1⟩ := index6 t
  refine congrArg (m ((c : Thread nD τ).loc main_arg3) : Vec Ideal S1024x3072 .f32) (funext fun a => Fin.ext ?_)
  match a with
  | ⟨0, _⟩ => show win0_6.index t (0 : Fin 2) * 1024 + 1 * k.val = k.val; omega
  | ⟨1, _⟩ => show win0_6.index t (1 : Fin 2) * 1024 + 1 * f.val = 2048 + f.val; omega

end Blocks

/-- After every point the scratch holds the weights the first point turned. -/
theorem carried (c : Dev nD) : ∀ (n : ℕ) (hn : n < cfg0.N), (outsAt0 m c n hn).2.2.2 = k0_pay1 (F := Ideal) (iblk m c 6 ⟨0, by decide⟩)
  | 0, hn => by
    rw [show outsAt0 m c 0 hn = _ from outsAt0_A m c ⟨0, hn⟩ rfl]
    dsimp only
    rw [turned_left]
  | n + 1, hn => by
    have h16 : n + 1 < 16 := hn
    rw [show outsAt0 m c (n + 1) hn = _ from outsAt0_B m c ⟨n + 1, hn⟩ (by show ¬(n + 1) % 16 = 0; omega)]
    dsimp only
    unfold sout0_B_0
    exact carried c n _

/-- `G` of the launched arguments. -/
abbrev GM (c : Dev nD) : Vec Ideal S64x1152x256 .bf16 :=
  G (m ((c : Thread nD τ).loc main_arg0)) (m ((c : Thread nD τ).loc main_arg1)) (m ((c : Thread nD τ).loc main_arg2)) (m ((c : Thread nD τ).loc main_arg3))

/-- A point's columns over the turned weights are its block of `G`. -/
theorem columns_eq (c : Dev nD) (t t0 : Fin cfg0.N) :
    columns (values (iblk m c 0 t) (iblk m c 1 t) (iblk m c 2 t) (iblk m c 3 t) (k0_pay1 (F := Ideal) (iblk m c 6 t0)))
      = ((cfg0.win 11).blk t).view.read (Elt Ideal) (GM m c) := by
  funext y
  obtain ⟨d, R, q, rfl⟩ : ∃ (d : Fin 4) (R : Fin 1152) (q : Fin 256), y = ix3 d R q := ⟨y 0, y 1, y 2, eq_ix3 _⟩
  have hd := d.isLt
  have hq := q.isLt
  have ht := t_lt t
  show columns _ (ix3 d R q) = GM m c (((cfg0.win 11).blk t).view.emb (ix3 d R q))
  obtain ⟨e0, e1, e2⟩ := index11 t
  have h0 : ((((cfg0.win 11).blk t).view.emb (ix3 d R q) : S64x1152x256.Idx) 0).val = t.val * 4 + d.val := by
    show win0_11.index t (0 : Fin 3) * 4 + 1 * d.val = _; omega
  have h1 : (((cfg0.win 11).blk t).view.emb (ix3 d R q) : S64x1152x256.Idx) 1 = R := Fin.ext (by
    show win0_11.index t (1 : Fin 3) * 1152 + 1 * R.val = R.val; omega)
  have h2 : ((((cfg0.win 11).blk t).view.emb (ix3 d R q) : S64x1152x256.Idx) 2).val = q.val := by
    show win0_11.index t (2 : Fin 3) * 256 + 1 * q.val = _; omega
  unfold columns GM G
  rw [h1]
  refine congrArg (headed · R) (funext fun f => Finset.sum_congr rfl fun k _ => ?_)
  generalize hR : (⟨_, _⟩ : Fin 16384) = N
  have hN : N.val = t.val * 1024 + (d.val * 256 + q.val) % 1024 := by
    rw [← hR]
    show _ * 256 + _ = _
    rw [h0, h2]; omega
  have hb : N.val / 2048 = t.val / 2 := by omega
  rw [show rowAt (k0_pay1 (F := Ideal) (iblk m c 6 t0)) f k = _ from (turned_apply _ f k).trans (blk6 m c t0 k f),
    show rowAt (iblk m c 0 t : Vec Ideal S1024x1024 .f32) ⟨(d.val * 256 + q.val) % 1024, Nat.mod_lt _ (by decide)⟩ = _ from blk0 m c t _ N hN,
    blk1 m c t N hb, blk2 m c t N hb, blk3 m c t]

/-- What a point writes back is its block of `G`. -/
theorem flushed_eq (c : Dev nD) (t : Fin cfg0.N) :
    (dats m 0 c).flushed 11 t = ((cfg0.win 11).blk t).view.read (Elt Ideal) (GM m c) := by
  by_cases h : t.val % 16 = 0
  · rw [flushed11_A m c t h, first_eq]
    exact columns_eq m c t t
  · rw [flushed11_B m c t h, later_eq, carried m c]
    exact columns_eq m c t _

/-- The result array after the run. -/
theorem final (c : Dev nD) : (dats m 0 c).arrAt 11 cfg0.N = GM m c :=
  (dats m 0 c).arrAt_eq_of_cover 11 (GM m c) (fun t _ => flushed_eq m c t)
    ((show (cfg0.win 11).Covers by decide +kernel).cover _ (Memref.isWhole_whole _))

end Cert.Proof.ValuesKernel

end
-- ==== Proof.Values.lean ====
module

public import proofs.«01_k».proof.Defs
public import proofs.«01_k».proof.Proof.ValuesKernel
public import proofs.«01_k».proof.Proof.MlpReference
public import proofs.«01_k».proof.Proof.Gen.Kernel4
public import proofs.«01_k».proof.Proof.Gen.Kernel4.Frame
public import proofs.«01_k».proof.Proof.Gen.Reference4Ideal.Read
public import Idealize.ShloMosaic.Lib.Quiescent

/-! # The differential attention's values: the projection's call computes the reference's array

The call leaves `ValuesKernel.GM`: per block of 256 tokens and head, the 128 features as rows over 16 rows of ones, a feature
the projection of the token's modulated row. The reference, read operation by operation, is the same array. -/

@[expose] public section

noncomputable section

namespace Cert.Proof.Values

open Idealize.ShloMosaic Idealize.ShloMosaic.ValueIdx Idealize.SL Cert.Proof Cert.Proof.MlpReference Cert.Proof.MlpRow
open Cert.Proof.ValuesPayload (headed)
open Cert.Proof.ValuesKernel (G GM final weight)
open Cert.Reference4Ideal Cert.Reference4Ideal.Read

/-- The reference leaves its arguments and its counters as they were. -/
theorem frame_reference : Cert.quiescent_Reference4Ideal := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

section Reference

variable (x0 : Vec Ideal S8x2048x1024 .f32) (x1 : Vec Ideal S8x6144 .f32) (x2 : Vec Ideal S1024 .f32) (x3 : Vec Ideal S1024x3072 .f32)
  (b : Fin 8) (s : Fin 2048)

theorem shift (k : Fin 1024) : val_main_v25 (F := Ideal) x1 (ix3 b s k) = chunk x1 b 0 k := by
  rw [val_main_v25_apply, val_main_v6_apply, val_main_v0_apply]
  exact congrArg x1 (ext2 rfl (by show k.val = 0 * 1024 + k.val; omega))
theorem scale (k : Fin 1024) : val_main_v23 (F := Ideal) x1 (ix3 b s k) = one + chunk x1 b 1 k := by
  rw [val_main_v23_apply, val_main_v22_apply, val_main_v7_apply, val_main_v1_apply, val_main_v21_apply]
  exact congrArg (one + x1 ·) (ext2 rfl rfl)

/-- A token's reciprocal root mean square. -/
theorem inv_rms_apply (k : Fin 1024) : val_main_v16 (F := Ideal) x0 (ix3 b s k) = inv_rms (fun k => x0 (ix3 b s k)) := by
  rw [val_main_v16_apply, val_main_v15_apply, val_main_v14_apply, val_main_v12_apply, val_main_v11_apply, val_main_v13_apply, val_main_v10_apply, val_main_v9_apply]
  refine congrArg (fun t => FloatOps.rsqrt (F := Ideal) (φ := .f32) (FloatOps.divf (F := Ideal) (φ := .f32) t width + eps)) ?_
  rw [val_main_cst_apply]
  refine Eq.trans (congrArg (· + _) Ideal.ofBits_zero_f32) ((zero_add _).trans (Finset.sum_congr rfl fun j _ => ?_))
  rw [val_main_v8_apply]
  exact congrArg (fun i => x0 i * x0 i) (ext3 rfl rfl rfl)

/-- A token's modulated row. -/
theorem modulated_apply (k : Fin 1024) : val_main_v26 (F := Ideal) x0 x1 x2 (ix3 b s k)
    = modulated (fun k => x0 (ix3 b s k)) (fun k => x2 (ix1 k)) (chunk x1 b 1) (chunk x1 b 0) k := by
  rw [val_main_v26_apply, val_main_v24_apply, val_main_v20_apply, val_main_v17_apply, inv_rms_apply, shift, scale, val_main_v19_apply, val_main_v18_apply]
  refine congrArg (fun i => x0 (ix3 b s k) * inv_rms (fun k => x0 (ix3 b s k)) * x2 i
    * (one + chunk x1 b 1 k) + chunk x1 b 0 k) (funext fun a => Fin.ext ?_)
  match a with | ⟨0, _⟩ => rfl

/-- A token's values. -/
theorem projected_apply (f : Fin 1024) : val_main_v28 (F := Ideal) x0 x1 x2 x3 (ix3 b s f)
    = ∑ k : Fin 1024, weight x3 k f * modulated (fun k => x0 (ix3 b s k)) (fun k => x2 (ix1 k)) (chunk x1 b 1) (chunk x1 b 0) k := by
  rw [val_main_v28_apply]
  refine Finset.sum_congr rfl fun k _ => ?_
  rw [val_main_v27_apply, mul_comm, ← modulated_apply]
  exact congrArg₂ (x3 · * val_main_v26 (F := Ideal) x0 x1 x2 ·) (ext2 rfl rfl) (ext3 rfl rfl rfl)

/-- A head's rows: its features, then ones. -/
theorem rows_apply (n : Fin 64) (h : Fin 8) (r : Fin 144) (q : Fin 256) : val_main_v32 (F := Ideal) x0 x1 x2 x3 (ix4 n h r q)
    = if hr : r.val < 128 then val_main_v30 (F := Ideal) x0 x1 x2 x3 (ix4 n h ⟨r.val, hr⟩ q) else one := by
  unfold val_main_v32
  by_cases hr : r.val < 128
  · rw [dif_pos hr]
    exact concatenate_pair_apply_left (t := S64x8x144x256) (s₁ := S64x8x128x256) (s₂ := S64x8x16x256) 2 _ _ _ (ix4 n h r q) rfl
      (ix4 n h ⟨r.val, hr⟩ q) (fun a => match a with
        | ⟨0, _⟩ => rfl
        | ⟨1, _⟩ => rfl
        | ⟨2, _⟩ => rfl
        | ⟨3, _⟩ => rfl)
  · rw [dif_neg hr]
    refine (concatenate_pair_apply_right (t := S64x8x144x256) (s₁ := S64x8x128x256) (s₂ := S64x8x16x256) 2 _ _ _ (ix4 n h r q) rfl rfl
      (ix4 n h ⟨r.val - 128, by omega⟩ q) (fun a => match a with
        | ⟨0, _⟩ => fun _ => rfl
        | ⟨1, _⟩ => fun _ => rfl
        | ⟨2, _⟩ => fun h => absurd rfl h
        | ⟨3, _⟩ => fun _ => rfl) (by show r.val - 128 + 128 = r.val; omega)).trans ?_
    rw [val_main_v31_apply]
    rfl

/-- The reference's result is the array the call leaves, of any arguments. -/
theorem result_eq : val_main_v34 (F := Ideal) x0 x1 x2 x3 = G x0 x1 x2 x3 := by
  funext i
  obtain ⟨n, R, q, hi⟩ : ∃ n R q, i = ix3 n R q := ⟨_, _, _, eq_ix3 i⟩
  subst hi
  have hn : n.val < 64 := n.isLt
  have hR : R.val < 1152 := R.isLt
  have hq : q.val < 256 := q.isLt
  have e33 : idx_main_v33 (ix3 n R q) = ix4 n ⟨R.val / 144, by omega⟩ ⟨R.val % 144, by omega⟩ q := funext fun a => Fin.ext (by
    match a with
    | ⟨0, _⟩ => show ((n.val * 1152 + R.val) * 256 + q.val) / 294912 = n.val; omega
    | ⟨1, _⟩ => show ((n.val * 1152 + R.val) * 256 + q.val) / 36864 % 8 = R.val / 144; omega
    | ⟨2, _⟩ => show ((n.val * 1152 + R.val) * 256 + q.val) / 256 % 144 = R.val % 144; omega
    | ⟨3, _⟩ => show ((n.val * 1152 + R.val) * 256 + q.val) % 256 = q.val; omega)
  rw [val_main_v34_apply]
  refine (show _ = val_main_v33 (F := Ideal) x0 x1 x2 x3 (ix3 n R q) from rfl).trans ?_
  rw [val_main_v33_apply, e33, rows_apply]
  unfold G headed
  dsimp only
  by_cases hr : R.val % 144 < 128
  · rw [dif_pos hr]
    refine Eq.trans ?_ (if_pos hr).symm
    rw [val_main_v30_apply, val_main_v29_apply]
    refine Eq.trans (congrArg (val_main_v28 (F := Ideal) x0 x1 x2 x3) (?_ : _ = ix3 ⟨(n.val * 256 + q.val) / 2048, by omega⟩
      ⟨(n.val * 256 + q.val) % 2048, by omega⟩ ⟨(R.val / 144 * 128 + R.val % 144) % 1024, by omega⟩)) ?_
    · refine ext3 ?_ ?_ ?_
      · show (((n.val * 256 + q.val) * 8 + R.val / 144) * 128 + R.val % 144) / 2097152 = (n.val * 256 + q.val) / 2048; omega
      · show (((n.val * 256 + q.val) * 8 + R.val / 144) * 128 + R.val % 144) / 1024 % 2048 = (n.val * 256 + q.val) % 2048; omega
      · show (((n.val * 256 + q.val) * 8 + R.val / 144) * 128 + R.val % 144) % 1024 = (R.val / 144 * 128 + R.val % 144) % 1024; omega
    · rw [projected_apply]
      rfl
  · rw [dif_neg hr]
    exact (if_neg hr).symm

end Reference

/-- The call and its reference end with the same array. -/
theorem algebraic : Cert.algebraic_Kernel4Ideal_Reference4Ideal := by
  intro m ρ m' ρ' _ hargs
  refine ⟨fun c => GM m c, ?_, ?_⟩
  · refine (θ_run Cert.Kernel4Ideal.defs _ _).mono (fun r h c => ?_) (Cert.Kernel4Ideal.Value.run_blocks (F := Ideal) m ρ)
    obtain ⟨_, _, r2, kept⟩ := h c
    exact ⟨r2.trans (final m c), kept⟩
  · refine (θ_run Cert.Reference4Ideal.defs _ _).mono (fun r h c => ?_) (Cert.Reference4Ideal.Value.run (F := Ideal) m' ρ')
    obtain ⟨r0, kept⟩ := h c
    obtain ⟨h0, h1, h2, h3, _⟩ := hargs c
    refine ⟨r0.trans ?_, kept⟩
    rw [val_main_v34_eq, h0, h1, h2, h3]
    exact result_eq ..

end Cert.Proof.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel4Ideal
public import proofs.«01_k».proof.Proof.Gen.Kernel4Ideal.Value
public import proofs.«01_k».proof.Proof.Attn
public import proofs.«01_k».proof.Proof.Mlp
public import proofs.«01_k».proof.Proof.FirstMlp
public import proofs.«01_k».proof.Proof.Values

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Attn.finiteFacts,
    Attn.frame_printed, Attn.frame_ideal, Attn.frame_ideal_finite, Attn.frame_reference, Attn.frame_reference_finite,
    fun m ρ _ => Cert.Kernel2.Gen.frame m ρ, fun m ρ _ => Cert.Kernel2Ideal.Gen.frame m ρ, Mlp.frame_reference,
    fun m ρ _ => Cert.Kernel3.Gen.frame m ρ, fun m ρ _ => Cert.Kernel3Ideal.Gen.frame m ρ, FirstMlp.frame_reference,
    fun m ρ _ => Cert.Kernel4.Gen.frame m ρ, fun m ρ _ => Cert.Kernel4Ideal.Gen.frame m ρ, Values.frame_reference,
    Attn.preserves, Attn.algebraic, trivial, Mlp.algebraic, trivial, FirstMlp.algebraic,
    trivial, Values.algebraic⟩

end Cert.Proof

end
